-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluLast (m : (ℓ : Loc Cert.SwigluLast.nD Cert.SwigluLast.τ Cert.SwigluLast.sig) → Buf (Elt Bits) ℓ) : Prop :=
  True

def Pre_SwigluLastIdeal (m : (ℓ : Loc Cert.SwigluLastIdeal.nD Cert.SwigluLastIdeal.τ Cert.SwigluLastIdeal.sig) → Buf (Elt Ideal) ℓ) : Prop :=
  True

def Pre_SwigluLastReferenceIdeal (m : (ℓ : Loc Cert.SwigluLastReferenceIdeal.nD Cert.SwigluLastReferenceIdeal.τ Cert.SwigluLastReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1))
      ∧ r.2.sem = fun _ => 0)

def quiescent_SwigluLast [hSwigluLast : Cert.SwigluLast.Facts] : Prop :=
  ∀ (m : (ℓ : Loc Cert.SwigluLast.nD Cert.SwigluLast.τ Cert.SwigluLast.sig) → Buf (Elt Bits) ℓ) (g : Dev Cert.SwigluLast.nD → PrngReg), Pre_SwigluLast m →
    θ_run (Cert.SwigluLast.defs (F := Bits)) (onTc (τ := Cert.SwigluLast.τ) (Cert.SwigluLast.main (F := Bits))) ⟨m, fun _ => 0, g⟩ (fun r => (∀ c : Dev Cert.SwigluLast.nD,
      r.2.mem ((c.tc : Thread Cert.SwigluLast.nD Cert.SwigluLast.τ).loc Cert.SwigluLast.main_arg0) = m ((c.tc : Thread Cert.SwigluLast.nD Cert.SwigluLast.τ).loc Cert.SwigluLast.main_arg0)
      ∧ r.2.mem ((c.tc : Thread Cert.SwigluLast.nD Cert.SwigluLast.τ).loc Cert.SwigluLast.main_arg1) = m ((c.tc : Thread Cert.SwigluLast.nD Cert.SwigluLast.τ).loc Cert.SwigluLast.main_arg1))
      ∧ r.2.sem = fun _ => 0)

def quiescent_SwigluLastIdeal [hSwigluLastIdeal : Cert.SwigluLastIdeal.Facts] : Prop :=
  ∀ (m : (ℓ : Loc Cert.SwigluLastIdeal.nD Cert.SwigluLastIdeal.τ Cert.SwigluLastIdeal.sig) → Buf (Elt Ideal) ℓ) (g : Dev Cert.SwigluLastIdeal.nD → PrngReg), Pre_SwigluLastIdeal m →
    θ_run (Cert.SwigluLastIdeal.defs (F := Ideal)) (onTc (τ := Cert.SwigluLastIdeal.τ) (Cert.SwigluLastIdeal.main (F := Ideal))) ⟨m, fun _ => 0, g⟩ (fun r => (∀ c : Dev Cert.SwigluLastIdeal.nD,
      r.2.mem ((c.tc : Thread Cert.SwigluLastIdeal.nD Cert.SwigluLastIdeal.τ).loc Cert.SwigluLastIdeal.main_arg0) = m ((c.tc : Thread Cert.SwigluLastIdeal.nD Cert.SwigluLastIdeal.τ).loc Cert.SwigluLastIdeal.main_arg0)
      ∧ r.2.mem ((c.tc : Thread Cert.SwigluLastIdeal.nD Cert.SwigluLastIdeal.τ).loc Cert.SwigluLastIdeal.main_arg1) = m ((c.tc : Thread Cert.SwigluLastIdeal.nD Cert.SwigluLastIdeal.τ).loc Cert.SwigluLastIdeal.main_arg1))
      ∧ r.2.sem = fun _ => 0)

def quiescent_SwigluLastReferenceIdeal [hSwigluLastReferenceIdeal : Cert.SwigluLastReferenceIdeal.Facts] : Prop :=
  ∀ (m : (ℓ : Loc Cert.SwigluLastReferenceIdeal.nD Cert.SwigluLastReferenceIdeal.τ Cert.SwigluLastReferenceIdeal.sig) → Buf (Elt Ideal) ℓ) (g : Dev Cert.SwigluLastReferenceIdeal.nD → PrngReg), Pre_SwigluLastReferenceIdeal m →
    θ_run (Cert.SwigluLastReferenceIdeal.defs (F := Ideal)) (onTc (τ := Cert.SwigluLastReferenceIdeal.τ) (Cert.SwigluLastReferenceIdeal.main (F := Ideal))) ⟨m, fun _ => 0, g⟩ (fun r => (∀ c : Dev Cert.SwigluLastReferenceIdeal.nD,
      r.2.mem ((c.tc : Thread Cert.SwigluLastReferenceIdeal.nD Cert.SwigluLastReferenceIdeal.τ).loc Cert.SwigluLastReferenceIdeal.main_arg0) = m ((c.tc : Thread Cert.SwigluLastReferenceIdeal.nD Cert.SwigluLastReferenceIdeal.τ).loc Cert.SwigluLastReferenceIdeal.main_arg0)
      ∧ r.2.mem ((c.tc : Thread Cert.SwigluLastReferenceIdeal.nD Cert.SwigluLastReferenceIdeal.τ).loc Cert.SwigluLastReferenceIdeal.main_arg1) = m ((c.tc : Thread Cert.SwigluLastReferenceIdeal.nD Cert.SwigluLastReferenceIdeal.τ).loc Cert.SwigluLastReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v46_8) = v1 c
          ∧ r.2.mem ((c.tc : Thread Cert.ReferenceIdeal.nD Cert.ReferenceIdeal.τ).loc Cert.ReferenceIdeal.main_v46_9) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Swiglu_SwigluIdeal : Prop :=
  True

def algebraic_SwigluIdeal_SwigluReferenceIdeal [hSwigluIdeal : Cert.SwigluIdeal.Facts] [hSwigluReferenceIdeal : Cert.SwigluReferenceIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluIdeal m →
    (∀ c : Dev Cert.SwigluIdeal.nD,
      m' ((c.tc : Thread Cert.SwigluReferenceIdeal.nD Cert.SwigluReferenceIdeal.τ).loc Cert.SwigluReferenceIdeal.main_arg0) = m ((c.tc : Thread Cert.SwigluIdeal.nD Cert.SwigluIdeal.τ).loc Cert.SwigluIdeal.main_arg0)
      ∧ m' ((c.tc : Thread Cert.SwigluReferenceIdeal.nD Cert.SwigluReferenceIdeal.τ).loc Cert.SwigluReferenceIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v8) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1))

def preserves_SwigluLast_SwigluLastIdeal : Prop :=
  True

def algebraic_SwigluLastIdeal_SwigluLastReferenceIdeal [hSwigluLastIdeal : Cert.SwigluLastIdeal.Facts] [hSwigluLastReferenceIdeal : Cert.SwigluLastReferenceIdeal.Facts] : Prop :=
  ∀ (m : (ℓ : Loc Cert.SwigluLastIdeal.nD Cert.SwigluLastIdeal.τ Cert.SwigluLastIdeal.sig) → Buf (Elt Ideal) ℓ) (g : Dev Cert.SwigluLastIdeal.nD → PrngReg)
    (m' : (ℓ : Loc Cert.SwigluLastReferenceIdeal.nD Cert.SwigluLastReferenceIdeal.τ Cert.SwigluLastReferenceIdeal.sig) → Buf (Elt Ideal) ℓ) (g' : Dev Cert.SwigluLastReferenceIdeal.nD → PrngReg), Pre_SwigluLastIdeal m →
    (∀ c : Dev Cert.SwigluLastIdeal.nD,
      m' ((c.tc : Thread Cert.SwigluLastReferenceIdeal.nD Cert.SwigluLastReferenceIdeal.τ).loc Cert.SwigluLastReferenceIdeal.main_arg0) = m ((c.tc : Thread Cert.SwigluLastIdeal.nD Cert.SwigluLastIdeal.τ).loc Cert.SwigluLastIdeal.main_arg0)
      ∧ m' ((c.tc : Thread Cert.SwigluLastReferenceIdeal.nD Cert.SwigluLastReferenceIdeal.τ).loc Cert.SwigluLastReferenceIdeal.main_arg1) = m ((c.tc : Thread Cert.SwigluLastIdeal.nD Cert.SwigluLastIdeal.τ).loc Cert.SwigluLastIdeal.main_arg1)) →
    ∃ (v0 : (c : Dev Cert.SwigluLastIdeal.nD) → Buf (Elt Ideal) ((c.tc : Thread Cert.SwigluLastIdeal.nD Cert.SwigluLastIdeal.τ).loc Cert.SwigluLastIdeal.main_v0)),
      θ_run (Cert.SwigluLastIdeal.defs (F := Ideal)) (onTc (τ := Cert.SwigluLastIdeal.τ) (Cert.SwigluLastIdeal.main (F := Ideal))) ⟨m, fun _ => 0, g⟩ (fun r => ∀ c : Dev Cert.SwigluLastIdeal.nD,
          r.2.mem ((c.tc : Thread Cert.SwigluLastIdeal.nD Cert.SwigluLastIdeal.τ).loc Cert.SwigluLastIdeal.main_v0) = v0 c
          ∧ r.2.mem ((c.tc : Thread Cert.SwigluLastIdeal.nD Cert.SwigluLastIdeal.τ).loc Cert.SwigluLastIdeal.main_arg0) = m ((c.tc : Thread Cert.SwigluLastIdeal.nD Cert.SwigluLastIdeal.τ).loc Cert.SwigluLastIdeal.main_arg0)
          ∧ r.2.mem ((c.tc : Thread Cert.SwigluLastIdeal.nD Cert.SwigluLastIdeal.τ).loc Cert.SwigluLastIdeal.main_arg1) = m ((c.tc : Thread Cert.SwigluLastIdeal.nD Cert.SwigluLastIdeal.τ).loc Cert.SwigluLastIdeal.main_arg1))
      ∧ θ_run (Cert.SwigluLastReferenceIdeal.defs (F := Ideal)) (onTc (τ := Cert.SwigluLastReferenceIdeal.τ) (Cert.SwigluLastReferenceIdeal.main (F := Ideal))) ⟨m', fun _ => 0, g'⟩ (fun r => ∀ c : Dev Cert.SwigluLastReferenceIdeal.nD,
          r.2.mem ((c.tc : Thread Cert.SwigluLastReferenceIdeal.nD Cert.SwigluLastReferenceIdeal.τ).loc Cert.SwigluLastReferenceIdeal.main_v8) = v0 c
          ∧ r.2.mem ((c.tc : Thread Cert.SwigluLastReferenceIdeal.nD Cert.SwigluLastReferenceIdeal.τ).loc Cert.SwigluLastReferenceIdeal.main_arg0) = m' ((c.tc : Thread Cert.SwigluLastReferenceIdeal.nD Cert.SwigluLastReferenceIdeal.τ).loc Cert.SwigluLastReferenceIdeal.main_arg0)
          ∧ r.2.mem ((c.tc : Thread Cert.SwigluLastReferenceIdeal.nD Cert.SwigluLastReferenceIdeal.τ).loc Cert.SwigluLastReferenceIdeal.main_arg1) = m' ((c.tc : Thread Cert.SwigluLastReferenceIdeal.nD Cert.SwigluLastReferenceIdeal.τ).loc Cert.SwigluLastReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v30_0)) (v1 : (c : Dev Cert.KvIdeal.nD) → Buf (Elt Ideal) ((c.tc : Thread Cert.KvIdeal.nD Cert.KvIdeal.τ).loc Cert.KvIdeal.main_v30_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v30_0) = v0 c
          ∧ r.2.mem ((c.tc : Thread Cert.KvIdeal.nD Cert.KvIdeal.τ).loc Cert.KvIdeal.main_v30_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v132) = v0 c
          ∧ r.2.mem ((c.tc : Thread Cert.KvReferenceIdeal.nD Cert.KvReferenceIdeal.τ).loc Cert.KvReferenceIdeal.main_v135) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluReferenceIdeal : Cert.SwigluReferenceIdeal.Facts) (hSwigluLast : Cert.SwigluLast.Facts) (hSwigluLastIdeal : Cert.SwigluLastIdeal.Facts) (hSwigluLastReferenceIdeal : Cert.SwigluLastReferenceIdeal.Facts) (hFfn : Cert.Ffn.Facts) (hFfnIdeal : Cert.FfnIdeal.Facts) (hFfnReferenceIdeal : Cert.FfnReferenceIdeal.Facts) (hKv : Cert.Kv.Facts) (hKvIdeal : Cert.KvIdeal.Facts) (hKvReferenceIdeal : Cert.KvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Swiglu (hSwiglu := hSwiglu)
    ∧ quiescent_SwigluIdeal (hSwigluIdeal := hSwigluIdeal)
    ∧ quiescent_SwigluReferenceIdeal (hSwigluReferenceIdeal := hSwigluReferenceIdeal)
    ∧ quiescent_SwigluLast (hSwigluLast := hSwigluLast)
    ∧ quiescent_SwigluLastIdeal (hSwigluLastIdeal := hSwigluLastIdeal)
    ∧ quiescent_SwigluLastReferenceIdeal (hSwigluLastReferenceIdeal := hSwigluLastReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Kv (hKv := hKv)
    ∧ quiescent_KvIdeal (hKvIdeal := hKvIdeal)
    ∧ quiescent_KvReferenceIdeal (hKvReferenceIdeal := hKvReferenceIdeal)
    ∧ preserves_Kernel_KernelIdeal
    ∧ algebraic_KernelIdeal_ReferenceIdeal (hKernelIdeal := hKernelIdeal) (hReferenceIdeal := hReferenceIdeal)
    ∧ preserves_Swiglu_SwigluIdeal
    ∧ algebraic_SwigluIdeal_SwigluReferenceIdeal (hSwigluIdeal := hSwigluIdeal) (hSwigluReferenceIdeal := hSwigluReferenceIdeal)
    ∧ preserves_SwigluLast_SwigluLastIdeal
    ∧ algebraic_SwigluLastIdeal_SwigluLastReferenceIdeal (hSwigluLastIdeal := hSwigluLastIdeal) (hSwigluLastReferenceIdeal := hSwigluLastReferenceIdeal)
    ∧ preserves_Ffn_FfnIdeal
    ∧ algebraic_FfnIdeal_FfnReferenceIdeal (hFfnIdeal := hFfnIdeal) (hFfnReferenceIdeal := hFfnReferenceIdeal)
    ∧ preserves_Kv_KvIdeal
    ∧ algebraic_KvIdeal_KvReferenceIdeal (hKvIdeal := hKvIdeal) (hKvReferenceIdeal := hKvReferenceIdeal)
-- ==== Kernel.lean ====
abbrev S8704x12304 : Shape := ⟨2, ![8704, 12304]⟩
abbrev S1x16 : Shape := ⟨2, ![1, 16]⟩
abbrev S1x4096 : Shape := ⟨2, ![1, 4096]⟩
abbrev S1x1x16 : Shape := ⟨3, ![1, 1, 16]⟩
abbrev S1x16x1 : Shape := ⟨3, ![1, 16, 1]⟩
abbrev S1x1x4096 : Shape := ⟨3, ![1, 1, 4096]⟩
abbrev S8704x16 : Shape := ⟨2, ![8704, 16]⟩
abbrev S8192x16 : Shape := ⟨2, ![8192, 16]⟩
abbrev S128x64x16 : Shape := ⟨3, ![128, 64, 16]⟩
abbrev S128x16x64 : Shape := ⟨3, ![128, 16, 64]⟩
abbrev S_ : Shape := ⟨0, ![]⟩
abbrev S4x8x256x512 : Shape := ⟨4, ![4, 8, 256, 512]⟩
abbrev S4x8x256 : Shape := ⟨3, ![4, 8, 256]⟩
abbrev S4x8x1 : Shape := ⟨3, ![4, 8, 1]⟩
abbrev S8704x4096 : Shape := ⟨2, ![8704, 4096]⟩
abbrev S64x2048 : Shape := ⟨2, ![64, 2048]⟩
abbrev S64x4096 : Shape := ⟨2, ![64, 4096]⟩
abbrev S64x128 : Shape := ⟨2, ![64, 128]⟩
abbrev S1x16x64 : Shape := ⟨3, ![1, 16, 64]⟩
abbrev S1x8x256x512 : Shape := ⟨4, ![1, 8, 256, 512]⟩
abbrev S1x8x256 : Shape := ⟨3, ![1, 8, 256]⟩
abbrev S1x8x1 : Shape := ⟨3, ![1, 8, 1]⟩
abbrev S8x256x512 : Shape := ⟨3, ![8, 256, 512]⟩
abbrev S8x256 : Shape := ⟨2, ![8, 256]⟩
abbrev S8x1 : Shape := ⟨2, ![8, 1]⟩
abbrev S64x16 : Shape := ⟨2, ![64, 16]⟩
abbrev S16x64 : Shape := ⟨2, ![16, 64]⟩
abbrev S16x1 : Shape := ⟨2, ![16, 1]⟩
abbrev S64x64 : Shape := ⟨2, ![64, 64]⟩
abbrev S64x1 : Shape := ⟨2, ![64, 1]⟩
abbrev S1x64 : Shape := ⟨2, ![1, 64]⟩
abbrev S64 : Shape := ⟨1, ![64]⟩
abbrev S1 : Shape := ⟨1, ![1]⟩
abbrev S1x1 : Shape := ⟨2, ![1, 1]⟩
abbrev S64x256 : Shape := ⟨2, ![64, 256]⟩
abbrev S1x1x256x512 : Shape := ⟨4, ![1, 1, 256, 512]⟩
abbrev S256x512 : Shape := ⟨2, ![256, 512]⟩
abbrev S64x512 : Shape := ⟨2, ![64, 512]⟩
abbrev S1x256 : Shape := ⟨2, ![1, 256]⟩
abbrev S256 : Shape := ⟨1, ![256]⟩
abbrev S1x1x512 : Shape := ⟨3, ![1, 1, 512]⟩
abbrev S1x512 : Shape := ⟨2, ![1, 512]⟩

abbrev nBuf : Space → Nat
  | .hbm => 22
  | .vmem => 29
  | .smem => 0
  | _ => 0

abbrev bufTy : (tb : Table) → Fin (tcTables nBuf tb) → BufTy
  | .hbm, ⟨0, _⟩ => ⟨S8704x12304, .f32⟩
  | .hbm, ⟨1, _⟩ => ⟨S1x16, .f32⟩
  | .hbm, ⟨2, _⟩ => ⟨S1x4096, .f32⟩
  | .hbm, ⟨3, _⟩ => ⟨S1x1x16, .f32⟩
  | .hbm, ⟨4, _⟩ => ⟨S1x16x1, .f32⟩
  | .hbm, ⟨5, _⟩ => ⟨S1x1x4096, .f32⟩
  | .hbm, ⟨6, _⟩ => ⟨S8704x16, .f32⟩
  | .hbm, ⟨7, _⟩ => ⟨S8192x16, .f32⟩
  | .hbm, ⟨8, _⟩ => ⟨S128x64x16, .f32⟩
  | .hbm, ⟨9, _⟩ => ⟨S128x16x64, .f32⟩
  | .hbm, ⟨10, _⟩ => ⟨S_, .f32⟩
  | .hbm, ⟨11, _⟩ => ⟨S4x8x256x512, .f32⟩
  | .hbm, ⟨12, _⟩ => ⟨S_, .f32⟩
  | .hbm, ⟨13, _⟩ => ⟨S4x8x256, .f32⟩
  | .hbm, ⟨14, _⟩ => ⟨S_, .f32⟩
  | .hbm, ⟨15, _⟩ => ⟨S4x8x1, .f32⟩
  | .hbm, ⟨16, _⟩ => ⟨S_, .bf16⟩
  | .hbm, ⟨17, _⟩ => ⟨S8704x4096, .bf16⟩
  | .hbm, ⟨18, _⟩ => ⟨S8704x4096, .bf16⟩
  | .hbm, ⟨19, _⟩ => ⟨S4x8x256x512, .f32⟩
  | .hbm, ⟨20, _⟩ => ⟨S4x8x256, .f32⟩
  | .hbm, ⟨21, _⟩ => ⟨S4x8x1, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x128, .f32⟩
  | .local _ .vmem, ⟨9, _⟩ => ⟨S64x128, .f32⟩
  | .local _ .vmem, ⟨10, _⟩ => ⟨S1x16x64, .f32⟩
  | .local _ .vmem, ⟨11, _⟩ => ⟨S1x16x64, .f32⟩
  | .local _ .vmem, ⟨12, _⟩ => ⟨S1x1x16, .f32⟩
  | .local _ .vmem, ⟨13, _⟩ => ⟨S1x16x1, .f32⟩
  | .local _ .vmem, ⟨14, _⟩ => ⟨S1x1x4096, .f32⟩
  | .local _ .vmem, ⟨15, _⟩ => ⟨S1x8x256x512, .f32⟩
  | .local _ .vmem, ⟨16, _⟩ => ⟨S1x8x256x512, .f32⟩
  | .local _ .vmem, ⟨17, _⟩ => ⟨S1x8x256, .f32⟩
  | .local _ .vmem, ⟨18, _⟩ => ⟨S1x8x256, .f32⟩
  | .local _ .vmem, ⟨19, _⟩ => ⟨S1x8x1, .f32⟩
  | .local _ .vmem, ⟨20, _⟩ => ⟨S1x8x1, .f32⟩
  | .local _ .vmem, ⟨21, _⟩ => ⟨S64x4096, .bf16⟩
  | .local _ .vmem, ⟨22, _⟩ => ⟨S64x4096, .bf16⟩
  | .local _ .vmem, ⟨23, _⟩ => ⟨S1x8x256x512, .f32⟩
  | .local _ .vmem, ⟨24, _⟩ => ⟨S1x8x256x512, .f32⟩
  | .local _ .vmem, ⟨25, _⟩ => ⟨S1x8x256, .f32⟩
  | .local _ .vmem, ⟨26, _⟩ => ⟨S1x8x256, .f32⟩
  | .local _ .vmem, ⟨27, _⟩ => ⟨S1x8x1, .f32⟩
  | .local _ .vmem, ⟨28, _⟩ => ⟨S1x8x1, .f32⟩
  | _, _ => ⟨S8704x12304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c96_i32 : BitVec 32 := 96#32
  let c0_i32_0 : BitVec 32 := 0#32
  ![v2.toNat, c96_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x8x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S1x8x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, true]

abbrev stage0_12 : Fin 2 → Memref sig .tc .vmem S64x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x8x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, true]

abbrev stage0_14 : Fin 2 → Memref sig .tc .vmem S1x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, true]

abbrev stage0_15 : Fin 2 → Memref sig .tc .vmem S1x8x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, true]
-- ==== ReferenceIdeal.lean ====
abbrev S8704x12304 : Shape := ⟨2, ![8704, 12304]⟩
abbrev S1x16 : Shape := ⟨2, ![1, 16]⟩
abbrev S1x4096 : Shape := ⟨2, ![1, 4096]⟩
abbrev S16 : Shape := ⟨1, ![16]⟩
abbrev S4096 : Shape := ⟨1, ![4096]⟩
abbrev S8192x12304 : Shape := ⟨2, ![8192, 12304]⟩
abbrev S4x2048x12304 : Shape := ⟨3, ![4, 2048, 12304]⟩
abbrev S4x2048x2048 : Shape := ⟨3, ![4, 2048, 2048]⟩
abbrev S4x2048x8x256 : Shape := ⟨4, ![4, 2048, 8, 256]⟩
abbrev S_ : Shape := ⟨0, ![]⟩
abbrev S4x2048x4096 : Shape := ⟨3, ![4, 2048, 4096]⟩
abbrev S4x2048x8x512 : Shape := ⟨4, ![4, 2048, 8, 512]⟩
abbrev S4x2048x16 : Shape := ⟨3, ![4, 2048, 16]⟩
abbrev S1x1x16 : Shape := ⟨3, ![1, 1, 16]⟩
abbrev S4x2048x8 : Shape := ⟨3, ![4, 2048, 8]⟩
abbrev S4x8x256x512 : Shape := ⟨4, ![4, 8, 256, 512]⟩
abbrev S4x8x256 : Shape := ⟨3, ![4, 8, 256]⟩
abbrev S4x8 : Shape := ⟨2, ![4, 8]⟩
abbrev S8x512 : Shape := ⟨2, ![8, 512]⟩
abbrev S4x32x64x8x256 : Shape := ⟨5, ![4, 32, 64, 8, 256]⟩
abbrev S32x4x64x8x256 : Shape := ⟨5, ![32, 4, 64, 8, 256]⟩
abbrev S4x32x64x8x512 : Shape := ⟨5, ![4, 32, 64, 8, 512]⟩
abbrev S32x4x64x8x512 : Shape := ⟨5, ![32, 4, 64, 8, 512]⟩
abbrev S4x32x64x8 : Shape := ⟨4, ![4, 32, 64, 8]⟩
abbrev S32x4x64x8 : Shape := ⟨4, ![32, 4, 64, 8]⟩
abbrev S1x4x64x8x256 : Shape := ⟨5, ![1, 4, 64, 8, 256]⟩
abbrev S4x64x8x256 : Shape := ⟨4, ![4, 64, 8, 256]⟩
abbrev S1x4x64x8x512 : Shape := ⟨5, ![1, 4, 64, 8, 512]⟩
abbrev S4x64x8x512 : Shape := ⟨4, ![4, 64, 8, 512]⟩
abbrev S1x4x64x8 : Shape := ⟨4, ![1, 4, 64, 8]⟩
abbrev S4x64x8 : Shape := ⟨3, ![4, 64, 8]⟩
abbrev S4x8x64 : Shape := ⟨3, ![4, 8, 64]⟩
abbrev S64x64 : Shape := ⟨2, ![64, 64]⟩
abbrev S4x8x64x1 : Shape := ⟨4, ![4, 8, 64, 1]⟩
abbrev S4x8x1x64 : Shape := ⟨4, ![4, 8, 1, 64]⟩
abbrev S4x8x64x64 : Shape := ⟨4, ![4, 8, 64, 64]⟩
abbrev S4x8x1 : Shape := ⟨3, ![4, 8, 1]⟩
abbrev S4x8x64x512 : Shape := ⟨4, ![4, 8, 64, 512]⟩
abbrev S4x64x8x1 : Shape := ⟨4, ![4, 64, 8, 1]⟩
abbrev S1x1x8x512 : Shape := ⟨4, ![1, 1, 8, 512]⟩
abbrev S4x8x1x1 : Shape := ⟨4, ![4, 8, 1, 1]⟩
abbrev S8192x4096 : Shape := ⟨2, ![8192, 4096]⟩
abbrev S512x4096 : Shape := ⟨2, ![512, 4096]⟩
abbrev S8704x4096 : Shape := ⟨2, ![8704, 4096]⟩

abbrev nBuf : Space → Nat
  | .hbm => 241
  | .vmem => 0
  | .smem => 0
  | _ => 0

abbrev hbmTy0_0 (i : Nat) : BufTy := match i % 128 with
  | 0 => ⟨S8704x12304, .f32⟩
  | 1 => ⟨S1x16, .f32⟩
  | 2 => ⟨S1x4096, .f32⟩
  | 3 => ⟨S16, .f32⟩
  | 4 => ⟨S4096, .f32⟩
  | 5 => ⟨S8192x12304, .f32⟩
  | 6 => ⟨S4x2048x12304, .f32⟩
  | 7 => ⟨S4x2048x2048, .f32⟩
  | 8 => ⟨S4x2048x8x256, .f32⟩
  | 9 => ⟨S4x2048x2048, .f32⟩
  | 10 => ⟨S4x2048x8x256, .f32⟩
  | 11 => ⟨S_, .f32⟩
  | 12 => ⟨S4x2048x8x256, .f32⟩
  | 13 => ⟨S4x2048x8x256, .f32⟩
  | 14 => ⟨S4x2048x4096, .f32⟩
  | 15 => ⟨S4x2048x8x512, .f32⟩
  | 16 => ⟨S4x2048x4096, .f32⟩
  | 17 => ⟨S4x2048x8x512, .f32⟩
  | 18 => ⟨S4x2048x16, .f32⟩
  | 19 => ⟨S1x1x16, .f32⟩
  | 20 => ⟨S4x2048x16, .f32⟩
  | 21 => ⟨S4x2048x16, .f32⟩
  | 22 => ⟨S_, .f32⟩
  | 23 => ⟨S4x2048x16, .f32⟩
  | 24 => ⟨S4x2048x16, .f32⟩
  | 25 => ⟨S4x2048x16, .f32⟩
  | 26 => ⟨S_, .f32⟩
  | 27 => ⟨S4x2048x16, .f32⟩
  | 28 => ⟨S4x2048x16, .f32⟩
  | 29 => ⟨S4x2048x8, .f32⟩
  | 30 => ⟨S4x2048x8, .f32⟩
  | 31 => ⟨S4x2048x8, .f32⟩
  | 32 => ⟨S4x2048x8, .f32⟩
  | 33 => ⟨S4x2048x8, .f32⟩
  | 34 => ⟨S4x2048x8, .f32⟩
  | 35 => ⟨S_, .f32⟩
  | 36 => ⟨S4x8x256x512, .f32⟩
  | 37 => ⟨S_, .f32⟩
  | 38 => ⟨S4x8x256, .f32⟩
  | 39 => ⟨S_, .f32⟩
  | 40 => ⟨S4x8, .f32⟩
  | 41 => ⟨S8x512, .f32⟩
  | 42 => ⟨S4x32x64x8x256, .f32⟩
  | 43 => ⟨S32x4x64x8x256, .f32⟩
  | 44 => ⟨S4x32x64x8x256, .f32⟩
  | 45 => ⟨S32x4x64x8x256, .f32⟩
  | 46 => ⟨S4x32x64x8x512, .f32⟩
  | 47 => ⟨S32x4x64x8x512, .f32⟩
  | 48 => ⟨S4x32x64x8x512, .f32⟩
  | 49 => ⟨S32x4x64x8x512, .f32⟩
  | 50 => ⟨S4x32x64x8, .f32⟩
  | 51 => ⟨S32x4x64x8, .f32⟩
  | 52 => ⟨S4x32x64x8, .f32⟩
  | 53 => ⟨S32x4x64x8, .f32⟩
  | 54 => ⟨S_, .f32⟩
  | 55 => ⟨S32x4x64x8x512, .f32⟩
  | 56 => ⟨S_, .i32⟩
  | 57 => ⟨S32x4x64x8x256, .f32⟩
  | 58 => ⟨S32x4x64x8x256, .f32⟩
  | 59 => ⟨S32x4x64x8x512, .f32⟩
  | 60 => ⟨S32x4x64x8x512, .f32⟩
  | 61 => ⟨S32x4x64x8, .f32⟩
  | 62 => ⟨S32x4x64x8, .f32⟩
  | 63 => ⟨S8x512, .f32⟩
  | 64 => ⟨S_, .i32⟩
  | 65 => ⟨S4x8x256x512, .f32⟩
  | 66 => ⟨S4x8x256, .f32⟩
  | 67 => ⟨S4x8, .f32⟩
  | 68 => ⟨S32x4x64x8x512, .f32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S1x4x64x8x256, .f32⟩
  | 76 => ⟨S4x64x8x256, .f32⟩
  | 77 => ⟨S_, .i32⟩
  | 78 => ⟨S_, .i32⟩
  | 79 => ⟨S_, .i32⟩
  | 80 => ⟨S_, .i32⟩
  | 81 => ⟨S1x4x64x8x256, .f32⟩
  | 82 => ⟨S4x64x8x256, .f32⟩
  | 83 => ⟨S_, .i32⟩
  | 84 => ⟨S_, .i32⟩
  | 85 => ⟨S_, .i32⟩
  | 86 => ⟨S_, .i32⟩
  | 87 => ⟨S1x4x64x8x512, .f32⟩
  | 88 => ⟨S4x64x8x512, .f32⟩
  | 89 => ⟨S_, .i32⟩
  | 90 => ⟨S_, .i32⟩
  | 91 => ⟨S_, .i32⟩
  | 92 => ⟨S_, .i32⟩
  | 93 => ⟨S1x4x64x8x512, .f32⟩
  | 94 => ⟨S4x64x8x512, .f32⟩
  | 95 => ⟨S_, .i32⟩
  | 96 => ⟨S_, .i32⟩
  | 97 => ⟨S_, .i32⟩
  | 98 => ⟨S1x4x64x8, .f32⟩
  | 99 => ⟨S4x64x8, .f32⟩
  | 100 => ⟨S_, .i32⟩
  | 101 => ⟨S_, .i32⟩
  | 102 => ⟨S_, .i32⟩
  | 103 => ⟨S1x4x64x8, .f32⟩
  | 104 => ⟨S4x64x8, .f32⟩
  | 105 => ⟨S_, .f32⟩
  | 106 => ⟨S_, .f32⟩
  | 107 => ⟨S4x64x8, .f32⟩
  | 108 => ⟨S4x8x64, .f32⟩
  | 109 => ⟨S4x8x64, .f32⟩
  | 110 => ⟨S_, .i1⟩
  | 111 => ⟨S64x64, .i1⟩
  | 112 => ⟨S64x64, .i32⟩
  | 113 => ⟨S_, .i32⟩
  | 114 => ⟨S64x64, .i32⟩
  | 115 => ⟨S64x64, .i32⟩
  | 116 => ⟨S64x64, .i32⟩
  | 117 => ⟨S64x64, .i1⟩
  | 118 => ⟨S_, .i1⟩
  | 119 => ⟨S64x64, .i1⟩
  | 120 => ⟨S64x64, .i1⟩
  | 121 => ⟨S4x8x64x1, .f32⟩
  | 122 => ⟨S4x8x1x64, .f32⟩
  | 123 => ⟨S4x8x64x64, .f32⟩
  | 124 => ⟨S4x8x64x64, .f32⟩
  | 125 => ⟨S4x8x64x64, .f32⟩
  | 126 => ⟨S4x8x1x64, .f32⟩
  | 127 => ⟨S4x8x64x64, .f32⟩
  | _ => ⟨S8704x12304, .f32⟩

abbrev hbmTy0_1 (i : Nat) : BufTy := match i % 128 with
  | 0 => ⟨S4x8x64x64, .f32⟩
  | 1 => ⟨S_, .f32⟩
  | 2 => ⟨S_, .f32⟩
  | 3 => ⟨S4x8x64x64, .i1⟩
  | 4 => ⟨S4x8x64x64, .f32⟩
  | 5 => ⟨S4x8x64x64, .f32⟩
  | 6 => ⟨S4x8x1, .f32⟩
  | 7 => ⟨S4x8x64, .f32⟩
  | 8 => ⟨S4x8x64, .f32⟩
  | 9 => ⟨S_, .f32⟩
  | 10 => ⟨S4x8x64, .f32⟩
  | 11 => ⟨S4x8x64, .f32⟩
  | 12 => ⟨S4x8x64x1, .f32⟩
  | 13 => ⟨S4x8x64x64, .f32⟩
  | 14 => ⟨S4x8x64x64, .f32⟩
  | 15 => ⟨S4x8x64x64, .f32⟩
  | 16 => ⟨S4x8x64x64, .f32⟩
  | 17 => ⟨S4x8x64x64, .f32⟩
  | 18 => ⟨S4x8x64, .f32⟩
  | 19 => ⟨S4x8x64, .f32⟩
  | 20 => ⟨S4x8x64x1, .f32⟩
  | 21 => ⟨S4x8x64x512, .f32⟩
  | 22 => ⟨S4x8x64x512, .f32⟩
  | 23 => ⟨S4x8x64x512, .f32⟩
  | 24 => ⟨S4x8x64x512, .f32⟩
  | 25 => ⟨S4x8x64x512, .f32⟩
  | 26 => ⟨S4x8x64, .f32⟩
  | 27 => ⟨S4x8x64, .f32⟩
  | 28 => ⟨S_, .f32⟩
  | 29 => ⟨S4x8x64, .f32⟩
  | 30 => ⟨S4x8x64, .f32⟩
  | 31 => ⟨S4x8x64, .f32⟩
  | 32 => ⟨S4x8x64, .f32⟩
  | 33 => ⟨S4x8x64, .f32⟩
  | 34 => ⟨S4x8x64, .f32⟩
  | 35 => ⟨S4x64x8x512, .f32⟩
  | 36 => ⟨S4x64x8x512, .f32⟩
  | 37 => ⟨S_, .f32⟩
  | 38 => ⟨S4x64x8x512, .f32⟩
  | 39 => ⟨S4x64x8x512, .f32⟩
  | 40 => ⟨S_, .f32⟩
  | 41 => ⟨S4x64x8x512, .f32⟩
  | 42 => ⟨S4x64x8x512, .f32⟩
  | 43 => ⟨S4x8x64x1, .f32⟩
  | 44 => ⟨S4x8x64x512, .f32⟩
  | 45 => ⟨S4x8x64x512, .f32⟩
  | 46 => ⟨S4x64x8x512, .f32⟩
  | 47 => ⟨S4x64x8x512, .f32⟩
  | 48 => ⟨S_, .f32⟩
  | 49 => ⟨S4x64x8, .f32⟩
  | 50 => ⟨S4x64x8x1, .f32⟩
  | 51 => ⟨S_, .f32⟩
  | 52 => ⟨S4x64x8x1, .f32⟩
  | 53 => ⟨S4x64x8x1, .f32⟩
  | 54 => ⟨S_, .f32⟩
  | 55 => ⟨S4x64x8x1, .f32⟩
  | 56 => ⟨S4x64x8x1, .f32⟩
  | 57 => ⟨S4x64x8x1, .f32⟩
  | 58 => ⟨S4x64x8x512, .f32⟩
  | 59 => ⟨S4x64x8x512, .f32⟩
  | 60 => ⟨S1x1x8x512, .f32⟩
  | 61 => ⟨S4x64x8x512, .f32⟩
  | 62 => ⟨S4x64x8x512, .f32⟩
  | 63 => ⟨S4x64x8x512, .f32⟩
  | 64 => ⟨S4x8x1, .f32⟩
  | 65 => ⟨S4x8x64, .f32⟩
  | 66 => ⟨S4x8x64, .f32⟩
  | 67 => ⟨S4x8x64, .f32⟩
  | 68 => ⟨S4x8x1, .f32⟩
  | 69 => ⟨S4x8, .f32⟩
  | 70 => ⟨S4x8, .f32⟩
  | 71 => ⟨S_, .f32⟩
  | 72 => ⟨S4x8, .f32⟩
  | 73 => ⟨S4x8, .f32⟩
  | 74 => ⟨S4x8x1, .f32⟩
  | 75 => ⟨S4x8, .f32⟩
  | 76 => ⟨S4x8, .f32⟩
  | 77 => ⟨S4x8, .f32⟩
  | 78 => ⟨S4x8, .f32⟩
  | 79 => ⟨S4x8x1, .f32⟩
  | 80 => ⟨S4x8x64, .f32⟩
  | 81 => ⟨S4x8x64, .f32⟩
  | 82 => ⟨S4x8x64, .f32⟩
  | 83 => ⟨S4x64x8, .f32⟩
  | 84 => ⟨S4x64x8x1, .f32⟩
  | 85 => ⟨S4x64x8x256, .f32⟩
  | 86 => ⟨S4x64x8x256, .f32⟩
  | 87 => ⟨S4x8x1x1, .f32⟩
  | 88 => ⟨S4x8x256x512, .f32⟩
  | 89 => ⟨S4x8x256x512, .f32⟩
  | 90 => ⟨S4x8x256x512, .f32⟩
  | 91 => ⟨S4x8x256x512, .f32⟩
  | 92 => ⟨S4x8x1, .f32⟩
  | 93 => ⟨S4x8x256, .f32⟩
  | 94 => ⟨S4x8x256, .f32⟩
  | 95 => ⟨S_, .f32⟩
  | 96 => ⟨S4x8x256, .f32⟩
  | 97 => ⟨S4x8x256, .f32⟩
  | 98 => ⟨S1x4x64x8x512, .f32⟩
  | 99 => ⟨S_, .i32⟩
  | 100 => ⟨S_, .i32⟩
  | 101 => ⟨S_, .i32⟩
  | 102 => ⟨S_, .i32⟩
  | 103 => ⟨S32x4x64x8x512, .f32⟩
  | 104 => ⟨S_, .i32⟩
  | 105 => ⟨S_, .i32⟩
  | 106 => ⟨S4x32x64x8x512, .f32⟩
  | 107 => ⟨S8192x4096, .f32⟩
  | 108 => ⟨S_, .f32⟩
  | 109 => ⟨S512x4096, .f32⟩
  | 110 => ⟨S8704x4096, .f32⟩
  | 111 => ⟨S8704x4096, .bf16⟩
  | 112 => ⟨S4x8x1, .f32⟩
  | _ => ⟨S8704x12304, .f32⟩

abbrev hbmTy (i : Nat) : BufTy := match i / 128 with
  | 0 => hbmTy0_0 i
  | 1 => hbmTy0_1 i
  | _ => ⟨S8704x12304, .f32⟩

abbrev bufTy : (tb : Table) → Fin (tcTables nBuf tb) → BufTy
  | .hbm, ⟨i, _⟩ => hbmTy i
  | _, _ => ⟨S8704x12304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_c : Ref sig .tc := ⟨.hbm, 56, rfl⟩
abbrev main_v46_0 : Ref sig .tc := ⟨.hbm, 57, rfl⟩
abbrev main_v46_1 : Ref sig .tc := ⟨.hbm, 58, rfl⟩
abbrev main_v46_2 : Ref sig .tc := ⟨.hbm, 59, rfl⟩
abbrev main_v46_3 : Ref sig .tc := ⟨.hbm, 60, rfl⟩
abbrev main_v46_4 : Ref sig .tc := ⟨.hbm, 61, rfl⟩
abbrev main_v46_5 : Ref sig .tc := ⟨.hbm, 62, rfl⟩
abbrev main_v46_6 : Ref sig .tc := ⟨.hbm, 63, rfl⟩
abbrev main_v46_7 : Ref sig .tc := ⟨.hbm, 64, rfl⟩
abbrev main_v46_8 : Ref sig .tc := ⟨.hbm, 65, rfl⟩
abbrev main_v46_9 : Ref sig .tc := ⟨.hbm, 66, rfl⟩
abbrev main_v46_10 : Ref sig .tc := ⟨.hbm, 67, rfl⟩
abbrev main_v46_11 : Ref sig .tc := ⟨.hbm, 68, rfl⟩
abbrev main_while0c_c_18 : Ref sig .tc := ⟨.hbm, 69, rfl⟩
abbrev main_while0c_v53 : Ref sig .tc := ⟨.hbm, 70, rfl⟩
abbrev main_while0b_call0_c : Ref sig .tc := ⟨.hbm, 71, rfl⟩
abbrev main_while0b_call0_c_0 : Ref sig .tc := ⟨.hbm, 72, rfl⟩
abbrev main_while0b_call0_c_1 : Ref sig .tc := ⟨.hbm, 73, rfl⟩
abbrev main_while0b_call0_c_2 : Ref sig .tc := ⟨.hbm, 74, rfl⟩
abbrev main_while0b_call0_v0 : Ref sig .tc := ⟨.hbm, 75, rfl⟩
abbrev main_while0b_v53 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_c_2 : Ref sig .tc := ⟨.hbm, 80, rfl⟩
abbrev main_while0b_call1_v0 : Ref sig .tc := ⟨.hbm, 81, rfl⟩
abbrev main_while0b_v54 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_c_2 : Ref sig .tc := ⟨.hbm, 86, rfl⟩
abbrev main_while0b_call2_v0 : Ref sig .tc := ⟨.hbm, 87, rfl⟩
abbrev main_while0b_v55 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v56 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_v0 : Ref sig .tc := ⟨.hbm, 98, rfl⟩
abbrev main_while0b_v57 : Ref sig .tc := ⟨.hbm, 99, rfl⟩
abbrev main_while0b_call5_c : Ref sig .tc := ⟨.hbm, 100, rfl⟩
abbrev main_while0b_call5_c_0 : Ref sig .tc := ⟨.hbm, 101, rfl⟩
abbrev main_while0b_call5_c_1 : Ref sig .tc := ⟨.hbm, 102, rfl⟩
abbrev main_while0b_call5_v0 : Ref sig .tc := ⟨.hbm, 103, rfl⟩
abbrev main_while0b_v58 : Ref sig .tc := ⟨.hbm, 104, rfl⟩
abbrev main_while0b_call6_call0_cst : Ref sig .tc := ⟨.hbm, 105, rfl⟩
abbrev main_while0b_call6_call0_v0 : Ref sig .tc := ⟨.hbm, 106, rfl⟩
abbrev main_while0b_v59 : Ref sig .tc := ⟨.hbm, 107, rfl⟩
abbrev main_while0b_v60 : Ref sig .tc := ⟨.hbm, 108, rfl⟩
abbrev main_while0b_v61 : Ref sig .tc := ⟨.hbm, 109, rfl⟩
abbrev main_while0b_c_18 : Ref sig .tc := ⟨.hbm, 110, rfl⟩
abbrev main_while0b_v62 : Ref sig .tc := ⟨.hbm, 111, rfl⟩
abbrev main_while0b_call7_v0 : Ref sig .tc := ⟨.hbm, 112, rfl⟩
abbrev main_while0b_call7_c : Ref sig .tc := ⟨.hbm, 113, rfl⟩
abbrev main_while0b_call7_v1 : Ref sig .tc := ⟨.hbm, 114, rfl⟩
abbrev main_while0b_call7_v2 : Ref sig .tc := ⟨.hbm, 115, rfl⟩
abbrev main_while0b_call7_v3 : Ref sig .tc := ⟨.hbm, 116, rfl⟩
abbrev main_while0b_call7_v4 : Ref sig .tc := ⟨.hbm, 117, rfl⟩
abbrev main_while0b_call7_c_0 : Ref sig .tc := ⟨.hbm, 118, rfl⟩
abbrev main_while0b_call7_v5 : Ref sig .tc := ⟨.hbm, 119, rfl⟩
abbrev main_while0b_v63 : Ref sig .tc := ⟨.hbm, 120, rfl⟩
abbrev main_while0b_v64 : Ref sig .tc := ⟨.hbm, 121, rfl⟩
abbrev main_while0b_v65 : Ref sig .tc := ⟨.hbm, 122, rfl⟩
abbrev main_while0b_v66 : Ref sig .tc := ⟨.hbm, 123, rfl⟩
abbrev main_while0b_v67 : Ref sig .tc := ⟨.hbm, 124, rfl⟩
abbrev main_while0b_v68 : Ref sig .tc := ⟨.hbm, 125, rfl⟩
abbrev main_while0b_v69 : Ref sig .tc := ⟨.hbm, 126, rfl⟩
abbrev main_while0b_v70 : Ref sig .tc := ⟨.hbm, 127, rfl⟩
abbrev main_while0b_v71 : Ref sig .tc := ⟨.hbm, 128, rfl⟩
abbrev main_while0b_cst_19 : Ref sig .tc := ⟨.hbm, 129, rfl⟩
abbrev main_while0b_call8_v0 : Ref sig .tc := ⟨.hbm, 130, rfl⟩
abbrev main_while0b_call8_v1 : Ref sig .tc := ⟨.hbm, 131, rfl⟩
abbrev main_while0b_call8_v2 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_cst_20 : Ref sig .tc := ⟨.hbm, 137, rfl⟩
abbrev main_while0b_v76 : Ref sig .tc := ⟨.hbm, 138, rfl⟩
abbrev main_while0b_v77 : Ref sig .tc := ⟨.hbm, 139, rfl⟩
abbrev main_while0b_v78 : Ref sig .tc := ⟨.hbm, 140, rfl⟩
abbrev main_while0b_v79 : Ref sig .tc := ⟨.hbm, 141, rfl⟩
abbrev main_while0b_v80 : Ref sig .tc := ⟨.hbm, 142, rfl⟩
abbrev main_while0b_v81 : Ref sig .tc := ⟨.hbm, 143, rfl⟩
abbrev main_while0b_v82 : Ref sig .tc := ⟨.hbm, 144, rfl⟩
abbrev main_while0b_v83 : Ref sig .tc := ⟨.hbm, 145, rfl⟩
abbrev main_while0b_v84 : Ref sig .tc := ⟨.hbm, 146, rfl⟩
abbrev main_while0b_v85 : Ref sig .tc := ⟨.hbm, 147, rfl⟩
abbrev main_while0b_v86 : Ref sig .tc := ⟨.hbm, 148, rfl⟩
abbrev main_while0b_v87 : Ref sig .tc := ⟨.hbm, 149, rfl⟩
abbrev main_while0b_v88 : Ref sig .tc := ⟨.hbm, 150, rfl⟩
abbrev main_while0b_v89 : Ref sig .tc := ⟨.hbm, 151, rfl⟩
abbrev main_while0b_v90 : Ref sig .tc := ⟨.hbm, 152, rfl⟩
abbrev main_while0b_v91 : Ref sig .tc := ⟨.hbm, 153, rfl⟩
abbrev main_while0b_v92 : Ref sig .tc := ⟨.hbm, 154, rfl⟩
abbrev main_while0b_v93 : Ref sig .tc := ⟨.hbm, 155, rfl⟩
abbrev main_while0b_cst_21 : Ref sig .tc := ⟨.hbm, 156, rfl⟩
abbrev main_while0b_v94 : Ref sig .tc := ⟨.hbm, 157, rfl⟩
abbrev main_while0b_v95 : Ref sig .tc := ⟨.hbm, 158, rfl⟩
abbrev main_while0b_v96 : Ref sig .tc := ⟨.hbm, 159, rfl⟩
abbrev main_while0b_v97 : Ref sig .tc := ⟨.hbm, 160, rfl⟩
abbrev main_while0b_v98 : Ref sig .tc := ⟨.hbm, 161, rfl⟩
abbrev main_while0b_v99 : Ref sig .tc := ⟨.hbm, 162, rfl⟩
abbrev main_while0b_v100 : Ref sig .tc := ⟨.hbm, 163, rfl⟩
abbrev main_while0b_v101 : Ref sig .tc := ⟨.hbm, 164, rfl⟩
abbrev main_while0b_cst_22 : Ref sig .tc := ⟨.hbm, 165, rfl⟩
abbrev main_while0b_v102 : Ref sig .tc := ⟨.hbm, 166, rfl⟩
abbrev main_while0b_v103 : Ref sig .tc := ⟨.hbm, 167, rfl⟩
abbrev main_while0b_cst_23 : Ref sig .tc := ⟨.hbm, 168, rfl⟩
abbrev main_while0b_v104 : Ref sig .tc := ⟨.hbm, 169, rfl⟩
abbrev main_while0b_v105 : Ref sig .tc := ⟨.hbm, 170, rfl⟩
abbrev main_while0b_v106 : Ref sig .tc := ⟨.hbm, 171, rfl⟩
abbrev main_while0b_v107 : Ref sig .tc := ⟨.hbm, 172, rfl⟩
abbrev main_while0b_v108 : Ref sig .tc := ⟨.hbm, 173, rfl⟩
abbrev main_while0b_v109 : Ref sig .tc := ⟨.hbm, 174, rfl⟩
abbrev main_while0b_v110 : Ref sig .tc := ⟨.hbm, 175, rfl⟩
abbrev main_while0b_cst_24 : Ref sig .tc := ⟨.hbm, 176, rfl⟩
abbrev main_while0b_v111 : Ref sig .tc := ⟨.hbm, 177, rfl⟩
abbrev main_while0b_v112 : Ref sig .tc := ⟨.hbm, 178, rfl⟩
abbrev main_while0b_cst_25 : Ref sig .tc := ⟨.hbm, 179, rfl⟩
abbrev main_while0b_v113 : Ref sig .tc := ⟨.hbm, 180, rfl⟩
abbrev main_while0b_v114 : Ref sig .tc := ⟨.hbm, 181, rfl⟩
abbrev main_while0b_cst_26 : Ref sig .tc := ⟨.hbm, 182, rfl⟩
abbrev main_while0b_v115 : Ref sig .tc := ⟨.hbm, 183, rfl⟩
abbrev main_while0b_v116 : Ref sig .tc := ⟨.hbm, 184, rfl⟩
abbrev main_while0b_v117 : Ref sig .tc := ⟨.hbm, 185, rfl⟩
abbrev main_while0b_v118 : Ref sig .tc := ⟨.hbm, 186, rfl⟩
abbrev main_while0b_v119 : Ref sig .tc := ⟨.hbm, 187, rfl⟩
abbrev main_while0b_v120 : Ref sig .tc := ⟨.hbm, 188, rfl⟩
abbrev main_while0b_v121 : Ref sig .tc := ⟨.hbm, 189, rfl⟩
abbrev main_while0b_v122 : Ref sig .tc := ⟨.hbm, 190, rfl⟩
abbrev main_while0b_v123 : Ref sig .tc := ⟨.hbm, 191, rfl⟩
abbrev main_while0b_v124 : Ref sig .tc := ⟨.hbm, 192, rfl⟩
abbrev main_while0b_v125 : Ref sig .tc := ⟨.hbm, 193, rfl⟩
abbrev main_while0b_v126 : Ref sig .tc := ⟨.hbm, 194, rfl⟩
abbrev main_while0b_v127 : Ref sig .tc := ⟨.hbm, 195, rfl⟩
abbrev main_while0b_v128 : Ref sig .tc := ⟨.hbm, 196, rfl⟩
abbrev main_while0b_v129 : Ref sig .tc := ⟨.hbm, 197, rfl⟩
abbrev main_while0b_v130 : Ref sig .tc := ⟨.hbm, 198, rfl⟩
abbrev main_while0b_cst_27 : Ref sig .tc := ⟨.hbm, 199, rfl⟩
abbrev main_while0b_v131 : Ref sig .tc := ⟨.hbm, 200, rfl⟩
abbrev main_while0b_v132 : Ref sig .tc := ⟨.hbm, 201, rfl⟩
abbrev main_while0b_v133 : Ref sig .tc := ⟨.hbm, 202, rfl⟩
abbrev main_while0b_v134 : Ref sig .tc := ⟨.hbm, 203, rfl⟩
abbrev main_while0b_v135 : Ref sig .tc := ⟨.hbm, 204, rfl⟩
abbrev main_while0b_v136 : Ref sig .tc := ⟨.hbm, 205, rfl⟩
abbrev main_while0b_v137 : Ref sig .tc := ⟨.hbm, 206, rfl⟩
abbrev main_while0b_v138 : Ref sig .tc := ⟨.hbm, 207, rfl⟩
abbrev main_while0b_v139 : Ref sig .tc := ⟨.hbm, 208, rfl⟩
abbrev main_while0b_v140 : Ref sig .tc := ⟨.hbm, 209, rfl⟩
abbrev main_while0b_v141 : Ref sig .tc := ⟨.hbm, 210, rfl⟩
abbrev main_while0b_v142 : Ref sig .tc := ⟨.hbm, 211, rfl⟩
abbrev main_while0b_v143 : Ref sig .tc := ⟨.hbm, 212, rfl⟩
abbrev main_while0b_v144 : Ref sig .tc := ⟨.hbm, 213, rfl⟩
abbrev main_while0b_v145 : Ref sig .tc := ⟨.hbm, 214, rfl⟩
abbrev main_while0b_v146 : Ref sig .tc := ⟨.hbm, 215, rfl⟩
abbrev main_while0b_v147 : Ref sig .tc := ⟨.hbm, 216, rfl⟩
abbrev main_while0b_v148 : Ref sig .tc := ⟨.hbm, 217, rfl⟩
abbrev main_while0b_v149 : Ref sig .tc := ⟨.hbm, 218, rfl⟩
abbrev main_while0b_v150 : Ref sig .tc := ⟨.hbm, 219, rfl⟩
abbrev main_while0b_v151 : Ref sig .tc := ⟨.hbm, 220, rfl⟩
abbrev main_while0b_v152 : Ref sig .tc := ⟨.hbm, 221, rfl⟩
abbrev main_while0b_v153 : Ref sig .tc := ⟨.hbm, 222, rfl⟩
abbrev main_while0b_cst_28 : Ref sig .tc := ⟨.hbm, 223, rfl⟩
abbrev main_while0b_v154 : Ref sig .tc := ⟨.hbm, 224, rfl⟩
abbrev main_while0b_v155 : Ref sig .tc := ⟨.hbm, 225, rfl⟩
abbrev main_while0b_call9_v0 : Ref sig .tc := ⟨.hbm, 226, rfl⟩
abbrev main_while0b_call9_c : Ref sig .tc := ⟨.hbm, 227, rfl⟩
abbrev main_while0b_call9_c_0 : Ref sig .tc := ⟨.hbm, 228, rfl⟩
abbrev main_while0b_call9_c_1 : Ref sig .tc := ⟨.hbm, 229, rfl⟩
abbrev main_while0b_call9_c_2 : Ref sig .tc := ⟨.hbm, 230, rfl⟩
abbrev main_while0b_v156 : Ref sig .tc := ⟨.hbm, 231, rfl⟩
abbrev main_while0b_c_29 : Ref sig .tc := ⟨.hbm, 232, rfl⟩
abbrev main_while0b_v157 : Ref sig .tc := ⟨.hbm, 233, rfl⟩
abbrev main_v47 : Ref sig .tc := ⟨.hbm, 234, rfl⟩
abbrev main_v48 : Ref sig .tc := ⟨.hbm, 235, rfl⟩
abbrev main_cst_6 : Ref sig .tc := ⟨.hbm, 236, rfl⟩
abbrev main_v49 : Ref sig .tc := ⟨.hbm, 237, rfl⟩
abbrev main_v50 : Ref sig .tc := ⟨.hbm, 238, rfl⟩
abbrev main_v51 : Ref sig .tc := ⟨.hbm, 239, rfl⟩
abbrev main_v52 : Ref sig .tc := ⟨.hbm, 240, rfl⟩

abbrev nD : Nat := 1
abbrev τ : Topo := Topo.v7x

variable {F : FTy → Type} [FloatOps F]

abbrev main_while0_count : Scf.Loop 32 := ⟨0#32, 32#32, 1#32⟩
-- ==== Swiglu.lean ====
abbrev S8704x4096 : Shape := ⟨2, ![8704, 4096]⟩
abbrev S2x4096x22016 : Shape := ⟨3, ![2, 4096, 22016]⟩
abbrev S8704x11008 : Shape := ⟨2, ![8704, 11008]⟩
abbrev S4352x512 : Shape := ⟨2, ![4352, 512]⟩
abbrev S1x512x256 : Shape := ⟨3, ![1, 512, 256]⟩
abbrev S512x256 : Shape := ⟨2, ![512, 256]⟩
abbrev S4352x256 : Shape := ⟨2, ![4352, 256]⟩

abbrev nBuf : Space → Nat
  | .hbm => 3
  | .vmem => 14
  | .smem => 0
  | _ => 0

abbrev bufTy : (tb : Table) → Fin (tcTables nBuf tb) → BufTy
  | .hbm, ⟨0, _⟩ => ⟨S8704x4096, .bf16⟩
  | .hbm, ⟨1, _⟩ => ⟨S2x4096x22016, .f32⟩
  | .hbm, ⟨2, _⟩ => ⟨S8704x11008, .bf16⟩
  | .local _ .vmem, ⟨0, _⟩ => ⟨S4352x512, .bf16⟩
  | .local _ .vmem, ⟨1, _⟩ => ⟨S4352x512, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S4352x512, .bf16⟩
  | .local _ .vmem, ⟨11, _⟩ => ⟨S4352x512, .bf16⟩
  | .local _ .vmem, ⟨12, _⟩ => ⟨S4352x512, .f32⟩
  | .local _ .vmem, ⟨13, _⟩ => ⟨S4352x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 22, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![c0_i32_0.toNat, arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![c0_i32.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c43_i32 : BitVec 32 := 43#32
  let v1 : BitVec 32 := Scalar.addi c43_i32 v0
  let c0_i32 : BitVec 32 := 0#32
  let v2 : BitVec 32 := Scalar.addi v1 c0_i32
  let c85_i32 : BitVec 32 := 85#32
  let v3 : BitVec 32 := Scalar.minsi v2 c85_i32
  let c0_i32_0 : BitVec 32 := 0#32
  let c0_i32_1 : BitVec 32 := 0#32
  ![c0_i32_0.toNat, arg2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c43_i32 : BitVec 32 := 43#32
  let v1 : BitVec 32 := Scalar.addi c43_i32 v0
  let c1_i32 : BitVec 32 := 1#32
  let v2 : BitVec 32 := Scalar.addi v1 c1_i32
  let c85_i32 : BitVec 32 := 85#32
  let v3 : BitVec 32 := Scalar.minsi v2 c85_i32
  let c0_i32 : BitVec 32 := 0#32
  let c0_i32_0 : BitVec 32 := 0#32
  ![c0_i32.toNat, arg2.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S4352x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SwigluIdeal.lean ====
abbrev S8704x4096 : Shape := ⟨2, ![8704, 4096]⟩
abbrev S2x4096x22016 : Shape := ⟨3, ![2, 4096, 22016]⟩
abbrev S8704x11008 : Shape := ⟨2, ![8704, 11008]⟩
abbrev S4352x512 : Shape := ⟨2, ![4352, 512]⟩
abbrev S1x512x256 : Shape := ⟨3, ![1, 512, 256]⟩
abbrev S512x256 : Shape := ⟨2, ![512, 256]⟩
abbrev S4352x256 : Shape := ⟨2, ![4352, 256]⟩

abbrev nBuf : Space → Nat
  | .hbm => 3
  | .vmem => 14
  | .smem => 0
  | _ => 0

abbrev bufTy : (tb : Table) → Fin (tcTables nBuf tb) → BufTy
  | .hbm, ⟨0, _⟩ => ⟨S8704x4096, .bf16⟩
  | .hbm, ⟨1, _⟩ => ⟨S2x4096x22016, .f32⟩
  | .hbm, ⟨2, _⟩ => ⟨S8704x11008, .bf16⟩
  | .local _ .vmem, ⟨0, _⟩ => ⟨S4352x512, .bf16⟩
  | .local _ .vmem, ⟨1, _⟩ => ⟨S4352x512, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S4352x512, .bf16⟩
  | .local _ .vmem, ⟨11, _⟩ => ⟨S4352x512, .bf16⟩
  | .local _ .vmem, ⟨12, _⟩ => ⟨S4352x512, .f32⟩
  | .local _ .vmem, ⟨13, _⟩ => ⟨S4352x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 22, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![c0_i32_0.toNat, arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![c0_i32.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c43_i32 : BitVec 32 := 43#32
  let v1 : BitVec 32 := Scalar.addi c43_i32 v0
  let c0_i32 : BitVec 32 := 0#32
  let v2 : BitVec 32 := Scalar.addi v1 c0_i32
  let c85_i32 : BitVec 32 := 85#32
  let v3 : BitVec 32 := Scalar.minsi v2 c85_i32
  let c0_i32_0 : BitVec 32 := 0#32
  let c0_i32_1 : BitVec 32 := 0#32
  ![c0_i32_0.toNat, arg2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c43_i32 : BitVec 32 := 43#32
  let v1 : BitVec 32 := Scalar.addi c43_i32 v0
  let c1_i32 : BitVec 32 := 1#32
  let v2 : BitVec 32 := Scalar.addi v1 c1_i32
  let c85_i32 : BitVec 32 := 85#32
  let v3 : BitVec 32 := Scalar.minsi v2 c85_i32
  let c0_i32 : BitVec 32 := 0#32
  let c0_i32_0 : BitVec 32 := 0#32
  ![c0_i32.toNat, arg2.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S4352x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SwigluReferenceIdeal.lean ====
abbrev S8704x4096 : Shape := ⟨2, ![8704, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S8704x22016 : Shape := ⟨2, ![8704, 22016]⟩
abbrev S8704x11008 : Shape := ⟨2, ![8704, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x22016, .f32⟩
  | .hbm, ⟨2, _⟩ => ⟨S8704x4096, .f32⟩
  | .hbm, ⟨3, _⟩ => ⟨S1x4096x22016, .f32⟩
  | .hbm, ⟨4, _⟩ => ⟨S4096x22016, .f32⟩
  | .hbm, ⟨5, _⟩ => ⟨S8704x22016, .f32⟩
  | .hbm, ⟨6, _⟩ => ⟨S8704x11008, .f32⟩
  | .hbm, ⟨7, _⟩ => ⟨S8704x11008, .f32⟩
  | .hbm, ⟨8, _⟩ => ⟨S8704x11008, .f32⟩
  | .hbm, ⟨9, _⟩ => ⟨S8704x11008, .f32⟩
  | .hbm, ⟨10, _⟩ => ⟨S_, .f32⟩
  | .hbm, ⟨11, _⟩ => ⟨S8704x11008, .f32⟩
  | .hbm, ⟨12, _⟩ => ⟨S8704x11008, .f32⟩
  | .hbm, ⟨13, _⟩ => ⟨S_, .f32⟩
  | .hbm, ⟨14, _⟩ => ⟨S8704x11008, .f32⟩
  | .hbm, ⟨15, _⟩ => ⟨S8704x11008, .f32⟩
  | .hbm, ⟨16, _⟩ => ⟨S8704x11008, .f32⟩
  | .hbm, ⟨17, _⟩ => ⟨S8704x11008, .f32⟩
  | .hbm, ⟨18, _⟩ => ⟨S8704x11008, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== SwigluLast.lean ====
abbrev S8704x4096 : Shape := ⟨2, ![8704, 4096]⟩
abbrev S2x4096x22016 : Shape := ⟨3, ![2, 4096, 22016]⟩
abbrev S8704x11008 : Shape := ⟨2, ![8704, 11008]⟩
abbrev S4352x512 : Shape := ⟨2, ![4352, 512]⟩
abbrev S1x512x256 : Shape := ⟨3, ![1, 512, 256]⟩
abbrev S512x256 : Shape := ⟨2, ![512, 256]⟩
abbrev S4352x256 : Shape := ⟨2, ![4352, 256]⟩

abbrev nBuf : Space → Nat
  | .hbm => 3
  | .vmem => 14
  | .smem => 0
  | _ => 0

abbrev bufTy : (tb : Table) → Fin (tcTables nBuf tb) → BufTy
  | .hbm, ⟨0, _⟩ => ⟨S8704x4096, .bf16⟩
  | .hbm, ⟨1, _⟩ => ⟨S2x4096x22016, .f32⟩
  | .hbm, ⟨2, _⟩ => ⟨S8704x11008, .bf16⟩
  | .local _ .vmem, ⟨0, _⟩ => ⟨S4352x512, .bf16⟩
  | .local _ .vmem, ⟨1, _⟩ => ⟨S4352x512, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S4352x512, .bf16⟩
  | .local _ .vmem, ⟨11, _⟩ => ⟨S4352x512, .bf16⟩
  | .local _ .vmem, ⟨12, _⟩ => ⟨S4352x512, .f32⟩
  | .local _ .vmem, ⟨13, _⟩ => ⟨S4352x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 22, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let c0_i32_0 : BitVec 32 := 0#32
  ![c1_i32.toNat, arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let c0_i32 : BitVec 32 := 0#32
  ![c1_i32_0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c43_i32 : BitVec 32 := 43#32
  let v1 : BitVec 32 := Scalar.addi c43_i32 v0
  let c0_i32 : BitVec 32 := 0#32
  let v2 : BitVec 32 := Scalar.addi v1 c0_i32
  let c85_i32 : BitVec 32 := 85#32
  let v3 : BitVec 32 := Scalar.minsi v2 c85_i32
  let c1_i32 : BitVec 32 := 1#32
  let c0_i32_0 : BitVec 32 := 0#32
  ![c1_i32.toNat, arg2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c43_i32 : BitVec 32 := 43#32
  let v1 : BitVec 32 := Scalar.addi c43_i32 v0
  let c1_i32 : BitVec 32 := 1#32
  let v2 : BitVec 32 := Scalar.addi v1 c1_i32
  let c85_i32 : BitVec 32 := 85#32
  let v3 : BitVec 32 := Scalar.minsi v2 c85_i32
  let c1_i32_0 : BitVec 32 := 1#32
  let c0_i32 : BitVec 32 := 0#32
  ![c1_i32_0.toNat, arg2.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S4352x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SwigluLastReferenceIdeal.lean ====
abbrev S8704x4096 : Shape := ⟨2, ![8704, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S8704x22016 : Shape := ⟨2, ![8704, 22016]⟩
abbrev S8704x11008 : Shape := ⟨2, ![8704, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x22016, .f32⟩
  | .hbm, ⟨2, _⟩ => ⟨S8704x4096, .f32⟩
  | .hbm, ⟨3, _⟩ => ⟨S1x4096x22016, .f32⟩
  | .hbm, ⟨4, _⟩ => ⟨S4096x22016, .f32⟩
  | .hbm, ⟨5, _⟩ => ⟨S8704x22016, .f32⟩
  | .hbm, ⟨6, _⟩ => ⟨S8704x11008, .f32⟩
  | .hbm, ⟨7, _⟩ => ⟨S8704x11008, .f32⟩
  | .hbm, ⟨8, _⟩ => ⟨S8704x11008, .f32⟩
  | .hbm, ⟨9, _⟩ => ⟨S8704x11008, .f32⟩
  | .hbm, ⟨10, _⟩ => ⟨S_, .f32⟩
  | .hbm, ⟨11, _⟩ => ⟨S8704x11008, .f32⟩
  | .hbm, ⟨12, _⟩ => ⟨S8704x11008, .f32⟩
  | .hbm, ⟨13, _⟩ => ⟨S_, .f32⟩
  | .hbm, ⟨14, _⟩ => ⟨S8704x11008, .f32⟩
  | .hbm, ⟨15, _⟩ => ⟨S8704x11008, .f32⟩
  | .hbm, ⟨16, _⟩ => ⟨S8704x11008, .f32⟩
  | .hbm, ⟨17, _⟩ => ⟨S8704x11008, .f32⟩
  | .hbm, ⟨18, _⟩ => ⟨S8704x11008, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Ffn.lean ====
abbrev S8704x11008 : Shape := ⟨2, ![8704, 11008]⟩
abbrev S2x11008x4096 : Shape := ⟨3, ![2, 11008, 4096]⟩
abbrev S8704x4096 : Shape := ⟨2, ![8704, 4096]⟩
abbrev S528x12288 : Shape := ⟨2, ![528, 12288]⟩
abbrev S2176x1536 : Shape := ⟨2, ![2176, 1536]⟩
abbrev S1x1536x512 : Shape := ⟨3, ![1, 1536, 512]⟩
abbrev S2176x256 : Shape := ⟨2, ![2176, 256]⟩
abbrev S1x256x512 : Shape := ⟨3, ![1, 256, 512]⟩
abbrev S2176x512 : Shape := ⟨2, ![2176, 512]⟩
abbrev S512x512 : Shape := ⟨2, ![512, 512]⟩
abbrev S8x512 : Shape := ⟨2, ![8, 512]⟩
abbrev S1536x512 : Shape := ⟨2, ![1536, 512]⟩
abbrev S256x512 : Shape := ⟨2, ![256, 512]⟩
abbrev S2048x512 : Shape := ⟨2, ![2048, 512]⟩
abbrev S1x512 : Shape := ⟨2, ![1, 512]⟩
abbrev S128x512 : Shape := ⟨2, ![128, 512]⟩
abbrev S1920x512 : Shape := ⟨2, ![1920, 512]⟩
abbrev S1792x512 : Shape := ⟨2, ![1792, 512]⟩
abbrev S384x512 : Shape := ⟨2, ![384, 512]⟩
abbrev S1664x512 : Shape := ⟨2, ![1664, 512]⟩

abbrev nBuf : Space → Nat
  | .hbm => 5
  | .vmem => 19
  | .smem => 0
  | _ => 0

abbrev bufTy : (tb : Table) → Fin (tcTables nBuf tb) → BufTy
  | .hbm, ⟨0, _⟩ => ⟨S8704x11008, .bf16⟩
  | .hbm, ⟨1, _⟩ => ⟨S2x11008x4096, .f32⟩
  | .hbm, ⟨2, _⟩ => ⟨S8704x4096, .f32⟩
  | .hbm, ⟨3, _⟩ => ⟨S528x12288, .f32⟩
  | .hbm, ⟨4, _⟩ => ⟨S8704x4096, .f32⟩
  | .local _ .vmem, ⟨0, _⟩ => ⟨S2176x1536, .bf16⟩
  | .local _ .vmem, ⟨1, _⟩ => ⟨S2176x1536, .bf16⟩
  | .local _ .vmem, ⟨2, _⟩ => ⟨S1x1536x512, .f32⟩
  | .local _ .vmem, ⟨3, _⟩ => ⟨S1x1536x512, .f32⟩
  | .local _ .vmem, ⟨4, _⟩ => ⟨S2176x256, .bf16⟩
  | .local _ .vmem, ⟨5, _⟩ => ⟨S2176x256, .bf16⟩
  | .local _ .vmem, ⟨6, _⟩ => ⟨S1x256x512, .f32⟩
  | .local _ .vmem, ⟨7, _⟩ => ⟨S1x256x512, .f32⟩
  | .local _ .vmem, ⟨8, _⟩ => ⟨S2176x512, .f32⟩
  | .local _ .vmem, ⟨9, _⟩ => ⟨S2176x512, .f32⟩
  | .local _ .vmem, ⟨10, _⟩ => ⟨S512x512, .f32⟩
  | .local _ .vmem, ⟨11, _⟩ => ⟨S512x512, .f32⟩
  | .local _ .vmem, ⟨12, _⟩ => ⟨S8x512, .f32⟩
  | .local _ .vmem, ⟨13, _⟩ => ⟨S8x512, .f32⟩
  | .local _ .vmem, ⟨14, _⟩ => ⟨S512x512, .f32⟩
  | .local _ .vmem, ⟨15, _⟩ => ⟨S512x512, .f32⟩
  | .local _ .vmem, ⟨16, _⟩ => ⟨S2176x512, .f32⟩
  | .local _ .vmem, ⟨17, _⟩ => ⟨S2176x512, .f32⟩
  | .local _ .vmem, ⟨18, _⟩ => ⟨S2176x512, .f32⟩
  | _, _ => ⟨S8704x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 7], ![false, false, false]⟩

def k0_cond3 (i : grid0.Coords) : BitVec 1 :=
  let arg2 : BitVec 32 := BitVec.ofNat 32 (i 2).val
  let c6_i32 : BitVec 32 := 6#32
  let v6 : BitVec 1 := Scalar.cmpi .eq arg2 c6_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c0_i32_4 : BitVec 32 := 0#32
  let v9 : BitVec 1 := Scalar.cmpi .eq arg1 c0_i32_4
  let v10 : BitVec 32 := Scalar.extui v9
  let c0_i32_5 : BitVec 32 := 0#32
  let v11 : BitVec 1 := Scalar.cmpi .ne v10 c0_i32_5
  v11

def k0_cond5 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_6 : BitVec 32 := 0#32
  let v14 : BitVec 1 := Scalar.cmpi .ne v13 c0_i32_6
  v14

def k0_cond6 (i : grid0.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_7 : BitVec 32 := 0#32
  let v17 : BitVec 1 := Scalar.cmpi .ne v16 c0_i32_7
  v17

def k0_cond7 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.minsi arg2 c6_i32
  let c0_i32 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c42_i32 : BitVec 32 := 42#32
  let c0_i32 : BitVec 32 := 0#32
  ![arg1.toNat, c42_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c42_i32 : BitVec 32 := 42#32
  let c0_i32_0 : BitVec 32 := 0#32
  ![c0_i32.toNat, c42_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  ![c16_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c64_i32 : BitVec 32 := 64#32
  let c0_i32 : BitVec 32 := 0#32
  ![c64_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1536x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2176x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S2176x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfnReferenceIdeal.lean ====
abbrev S8704x11008 : Shape := ⟨2, ![8704, 11008]⟩
abbrev S2x11008x4096 : Shape := ⟨3, ![2, 11008, 4096]⟩
abbrev S8704x4096 : Shape := ⟨2, ![8704, 4096]⟩
abbrev S528x12288 : Shape := ⟨2, ![528, 12288]⟩
abbrev S1x11008x4096 : Shape := ⟨3, ![1, 11008, 4096]⟩
abbrev S11008x4096 : Shape := ⟨2, ![11008, 4096]⟩
abbrev S8192x4096 : Shape := ⟨2, ![8192, 4096]⟩
abbrev S4x2048x4096 : Shape := ⟨3, ![4, 2048, 4096]⟩
abbrev S512x4096 : Shape := ⟨2, ![512, 4096]⟩
abbrev S4x4096 : Shape := ⟨2, ![4, 4096]⟩
abbrev S4x1x4096 : Shape := ⟨3, ![4, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8704x11008, .bf16⟩
  | .hbm, ⟨1, _⟩ => ⟨S2x11008x4096, .f32⟩
  | .hbm, ⟨2, _⟩ => ⟨S8704x4096, .f32⟩
  | .hbm, ⟨3, _⟩ => ⟨S528x12288, .f32⟩
  | .hbm, ⟨4, _⟩ => ⟨S8704x11008, .f32⟩
  | .hbm, ⟨5, _⟩ => ⟨S1x11008x4096, .f32⟩
  | .hbm, ⟨6, _⟩ => ⟨S11008x4096, .f32⟩
  | .hbm, ⟨7, _⟩ => ⟨S8704x4096, .f32⟩
  | .hbm, ⟨8, _⟩ => ⟨S8192x4096, .f32⟩
  | .hbm, ⟨9, _⟩ => ⟨S4x2048x4096, .f32⟩
  | .hbm, ⟨10, _⟩ => ⟨S512x4096, .f32⟩
  | .hbm, ⟨11, _⟩ => ⟨S8192x4096, .f32⟩
  | .hbm, ⟨12, _⟩ => ⟨S4x2048x4096, .f32⟩
  | .hbm, ⟨13, _⟩ => ⟨S512x4096, .f32⟩
  | .hbm, ⟨14, _⟩ => ⟨S4x4096, .f32⟩
  | .hbm, ⟨15, _⟩ => ⟨S4x1x4096, .f32⟩
  | .hbm, ⟨16, _⟩ => ⟨S512x4096, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | .hbm, ⟨20, _⟩ => ⟨S8192x4096, .f32⟩
  | .hbm, ⟨21, _⟩ => ⟨S512x4096, .f32⟩
  | .hbm, ⟨22, _⟩ => ⟨S512x4096, .f32⟩
  | .hbm, ⟨23, _⟩ => ⟨S8704x4096, .f32⟩
  | _, _ => ⟨S8704x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kv.lean ====
abbrev S8704x5696 : Shape := ⟨2, ![8704, 5696]⟩
abbrev S1x512 : Shape := ⟨2, ![1, 512]⟩
abbrev S1x64 : Shape := ⟨2, ![1, 64]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x64 : Shape := ⟨2, ![8704, 64]⟩
abbrev S1x1x512 : Shape := ⟨3, ![1, 1, 512]⟩
abbrev S1x1x64 : Shape := ⟨3, ![1, 1, 64]⟩
abbrev S8704x512 : Shape := ⟨2, ![8704, 512]⟩
abbrev S8704x576 : Shape := ⟨2, ![8704, 576]⟩
abbrev S512x512 : Shape := ⟨2, ![512, 512]⟩
abbrev S512x128 : Shape := ⟨2, ![512, 128]⟩
abbrev S512x64 : Shape := ⟨2, ![512, 64]⟩
abbrev S512x576 : Shape := ⟨2, ![512, 576]⟩
abbrev S512x1 : Shape := ⟨2, ![512, 1]⟩
abbrev S512x32 : Shape := ⟨2, ![512, 32]⟩

abbrev nBuf : Space → Nat
  | .hbm => 39
  | .vmem => 16
  | .smem => 0
  | _ => 0

abbrev bufTy : (tb : Table) → Fin (tcTables nBuf tb) → BufTy
  | .hbm, ⟨0, _⟩ => ⟨S8704x5696, .f32⟩
  | .hbm, ⟨1, _⟩ => ⟨S1x512, .f32⟩
  | .hbm, ⟨2, _⟩ => ⟨S1x64, .f32⟩
  | .hbm, ⟨3, _⟩ => ⟨S2048, .i32⟩
  | .hbm, ⟨4, _⟩ => ⟨S1x2048, .i32⟩
  | .hbm, ⟨5, _⟩ => ⟨S4x2048, .i32⟩
  | .hbm, ⟨6, _⟩ => ⟨S8192, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S1x4, .i32⟩
  | .hbm, ⟨12, _⟩ => ⟨S128x4, .i32⟩
  | .hbm, ⟨13, _⟩ => ⟨S512, .i32⟩
  | .hbm, ⟨14, _⟩ => ⟨S8704, .i32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S8704, .f32⟩
  | .hbm, ⟨24, _⟩ => ⟨S8704x1, .f32⟩
  | .hbm, ⟨25, _⟩ => ⟨S1x32, .f32⟩
  | .hbm, ⟨26, _⟩ => ⟨S8704x32, .f32⟩
  | .hbm, ⟨27, _⟩ => ⟨S8704x32, .f32⟩
  | .hbm, ⟨28, _⟩ => ⟨S8704x32, .f32⟩
  | .hbm, ⟨29, _⟩ => ⟨S8704x32, .f32⟩
  | .hbm, ⟨30, _⟩ => ⟨S8704x32, .f32⟩
  | .hbm, ⟨31, _⟩ => ⟨S8704x64, .f32⟩
  | .hbm, ⟨32, _⟩ => ⟨S8704x32, .f32⟩
  | .hbm, ⟨33, _⟩ => ⟨S8704x64, .f32⟩
  | .hbm, ⟨34, _⟩ => ⟨S1x1x512, .f32⟩
  | .hbm, ⟨35, _⟩ => ⟨S1x1x64, .f32⟩
  | .hbm, ⟨36, _⟩ => ⟨S8704x512, .f32⟩
  | .hbm, ⟨37, _⟩ => ⟨S8704x64, .f32⟩
  | .hbm, ⟨38, _⟩ => ⟨S8704x576, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S1x1x512, .f32⟩
  | .local _ .vmem, ⟨5, _⟩ => ⟨S1x1x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x512, .f32⟩
  | .local _ .vmem, ⟨11, _⟩ => ⟨S512x512, .f32⟩
  | .local _ .vmem, ⟨12, _⟩ => ⟨S512x64, .f32⟩
  | .local _ .vmem, ⟨13, _⟩ => ⟨S512x64, .f32⟩
  | .local _ .vmem, ⟨14, _⟩ => ⟨S512x576, .bf16⟩
  | .local _ .vmem, ⟨15, _⟩ => ⟨S512x576, .bf16⟩
  | _, _ => ⟨S8704x5696, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30_0 : Ref sig .tc := ⟨.hbm, 36, rfl⟩
abbrev main_v30_1 : Ref sig .tc := ⟨.hbm, 37, rfl⟩
abbrev main_v30_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x576 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KvReferenceIdeal.lean ====
abbrev S8704x5696 : Shape := ⟨2, ![8704, 5696]⟩
abbrev S1x512 : Shape := ⟨2, ![1, 512]⟩
abbrev S1x64 : Shape := ⟨2, ![1, 64]⟩
abbrev S2048 : Shape := ⟨1, ![2048]⟩
abbrev S4 : Shape := ⟨1, ![4]⟩
abbrev S_ : Shape := ⟨0, ![]⟩
abbrev S8192x5696 : Shape := ⟨2, ![8192, 5696]⟩
abbrev S4x2048x5696 : Shape := ⟨3, ![4, 2048, 5696]⟩
abbrev S512x5696 : Shape := ⟨2, ![512, 5696]⟩
abbrev S128x4x5696 : Shape := ⟨3, ![128, 4, 5696]⟩
abbrev S4x2048x512 : Shape := ⟨3, ![4, 2048, 512]⟩
abbrev S512 : Shape := ⟨1, ![512]⟩
abbrev S4x2048 : Shape := ⟨2, ![4, 2048]⟩
abbrev S4x2048x1 : Shape := ⟨3, ![4, 2048, 1]⟩
abbrev S1x1x512 : Shape := ⟨3, ![1, 1, 512]⟩
abbrev S128x4x512 : Shape := ⟨3, ![128, 4, 512]⟩
abbrev S128x4 : Shape := ⟨2, ![128, 4]⟩
abbrev S128x4x1 : Shape := ⟨3, ![128, 4, 1]⟩
abbrev S4x2048x64 : Shape := ⟨3, ![4, 2048, 64]⟩
abbrev S64 : Shape := ⟨1, ![64]⟩
abbrev S1x1x64 : Shape := ⟨3, ![1, 1, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S4x2048x32 : Shape := ⟨3, ![4, 2048, 32]⟩
abbrev S1x2048x32 : Shape := ⟨3, ![1, 2048, 32]⟩
abbrev S128x4x64 : Shape := ⟨3, ![128, 4, 64]⟩
abbrev S4x1 : Shape := ⟨2, ![4, 1]⟩
abbrev S4x32 : Shape := ⟨2, ![4, 32]⟩
abbrev S128x4x32 : Shape := ⟨3, ![128, 4, 32]⟩
abbrev S1x4x32 : Shape := ⟨3, ![1, 4, 32]⟩
abbrev S8192x512 : Shape := ⟨2, ![8192, 512]⟩
abbrev S512x512 : Shape := ⟨2, ![512, 512]⟩
abbrev S8704x512 : Shape := ⟨2, ![8704, 512]⟩
abbrev S8192x64 : Shape := ⟨2, ![8192, 64]⟩
abbrev S512x64 : Shape := ⟨2, ![512, 64]⟩
abbrev S8704x64 : Shape := ⟨2, ![8704, 64]⟩

abbrev nBuf : Space → Nat
  | .hbm => 156
  | .vmem => 0
  | .smem => 0
  | _ => 0

abbrev hbmTy0_0 (i : Nat) : BufTy := match i % 128 with
  | 0 => ⟨S8704x5696, .f32⟩
  | 1 => ⟨S1x512, .f32⟩
  | 2 => ⟨S1x64, .f32⟩
  | 3 => ⟨S2048, .i32⟩
  | 4 => ⟨S4, .i32⟩
  | 5 => ⟨S_, .i32⟩
  | 6 => ⟨S4, .i32⟩
  | 7 => ⟨S4, .i32⟩
  | 8 => ⟨S8192x5696, .f32⟩
  | 9 => ⟨S4x2048x5696, .f32⟩
  | 10 => ⟨S512x5696, .f32⟩
  | 11 => ⟨S128x4x5696, .f32⟩
  | 12 => ⟨S4x2048x512, .f32⟩
  | 13 => ⟨S512, .f32⟩
  | 14 => ⟨S4x2048x512, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S_, .f32⟩
  | 22 => ⟨S4x2048x1, .f32⟩
  | 23 => ⟨S4x2048x1, .f32⟩
  | 24 => ⟨S4x2048x1, .f32⟩
  | 25 => ⟨S4x2048x512, .f32⟩
  | 26 => ⟨S4x2048x512, .f32⟩
  | 27 => ⟨S1x1x512, .f32⟩
  | 28 => ⟨S4x2048x512, .f32⟩
  | 29 => ⟨S4x2048x512, .f32⟩
  | 30 => ⟨S128x4x512, .f32⟩
  | 31 => ⟨S512, .f32⟩
  | 32 => ⟨S128x4x512, .f32⟩
  | 33 => ⟨S_, .f32⟩
  | 34 => ⟨S128x4, .f32⟩
  | 35 => ⟨S128x4x1, .f32⟩
  | 36 => ⟨S_, .f32⟩
  | 37 => ⟨S128x4x1, .f32⟩
  | 38 => ⟨S128x4x1, .f32⟩
  | 39 => ⟨S_, .f32⟩
  | 40 => ⟨S128x4x1, .f32⟩
  | 41 => ⟨S128x4x1, .f32⟩
  | 42 => ⟨S128x4x1, .f32⟩
  | 43 => ⟨S128x4x512, .f32⟩
  | 44 => ⟨S128x4x512, .f32⟩
  | 45 => ⟨S1x1x512, .f32⟩
  | 46 => ⟨S128x4x512, .f32⟩
  | 47 => ⟨S128x4x512, .f32⟩
  | 48 => ⟨S4x2048x64, .f32⟩
  | 49 => ⟨S64, .f32⟩
  | 50 => ⟨S4x2048x64, .f32⟩
  | 51 => ⟨S_, .f32⟩
  | 52 => ⟨S4x2048, .f32⟩
  | 53 => ⟨S4x2048x1, .f32⟩
  | 54 => ⟨S_, .f32⟩
  | 55 => ⟨S4x2048x1, .f32⟩
  | 56 => ⟨S4x2048x1, .f32⟩
  | 57 => ⟨S_, .f32⟩
  | 58 => ⟨S4x2048x1, .f32⟩
  | 59 => ⟨S4x2048x1, .f32⟩
  | 60 => ⟨S4x2048x1, .f32⟩
  | 61 => ⟨S4x2048x64, .f32⟩
  | 62 => ⟨S4x2048x64, .f32⟩
  | 63 => ⟨S1x1x64, .f32⟩
  | 64 => ⟨S4x2048x64, .f32⟩
  | 65 => ⟨S4x2048x64, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S2048, .f32⟩
  | 75 => ⟨S2048x1, .f32⟩
  | 76 => ⟨S1x32, .f32⟩
  | 77 => ⟨S2048x32, .f32⟩
  | 78 => ⟨S2048x32, .f32⟩
  | 79 => ⟨S2048x32, .f32⟩
  | 80 => ⟨S2048x32, .f32⟩
  | 81 => ⟨S2048x32, .f32⟩
  | 82 => ⟨S4x2048x32, .f32⟩
  | 83 => ⟨S4x2048x32, .f32⟩
  | 84 => ⟨S1x2048x32, .f32⟩
  | 85 => ⟨S4x2048x32, .f32⟩
  | 86 => ⟨S4x2048x32, .f32⟩
  | 87 => ⟨S1x2048x32, .f32⟩
  | 88 => ⟨S4x2048x32, .f32⟩
  | 89 => ⟨S4x2048x32, .f32⟩
  | 90 => ⟨S4x2048x32, .f32⟩
  | 91 => ⟨S1x2048x32, .f32⟩
  | 92 => ⟨S4x2048x32, .f32⟩
  | 93 => ⟨S4x2048x32, .f32⟩
  | 94 => ⟨S1x2048x32, .f32⟩
  | 95 => ⟨S4x2048x32, .f32⟩
  | 96 => ⟨S4x2048x32, .f32⟩
  | 97 => ⟨S4x2048x32, .f32⟩
  | 98 => ⟨S4x2048x64, .f32⟩
  | 99 => ⟨S128x4x64, .f32⟩
  | 100 => ⟨S64, .f32⟩
  | 101 => ⟨S128x4x64, .f32⟩
  | 102 => ⟨S_, .f32⟩
  | 103 => ⟨S128x4, .f32⟩
  | 104 => ⟨S128x4x1, .f32⟩
  | 105 => ⟨S_, .f32⟩
  | 106 => ⟨S128x4x1, .f32⟩
  | 107 => ⟨S128x4x1, .f32⟩
  | 108 => ⟨S_, .f32⟩
  | 109 => ⟨S128x4x1, .f32⟩
  | 110 => ⟨S128x4x1, .f32⟩
  | 111 => ⟨S128x4x1, .f32⟩
  | 112 => ⟨S128x4x64, .f32⟩
  | 113 => ⟨S128x4x64, .f32⟩
  | 114 => ⟨S1x1x64, .f32⟩
  | 115 => ⟨S128x4x64, .f32⟩
  | 116 => ⟨S128x4x64, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S4, .f32⟩
  | 126 => ⟨S4x1, .f32⟩
  | 127 => ⟨S1x32, .f32⟩
  | _ => ⟨S8704x5696, .f32⟩

abbrev hbmTy0_1 (i : Nat) : BufTy := match i % 128 with
  | 0 => ⟨S4x32, .f32⟩
  | 1 => ⟨S4x32, .f32⟩
  | 2 => ⟨S4x32, .f32⟩
  | 3 => ⟨S4x32, .f32⟩
  | 4 => ⟨S4x32, .f32⟩
  | 5 => ⟨S128x4x32, .f32⟩
  | 6 => ⟨S128x4x32, .f32⟩
  | 7 => ⟨S1x4x32, .f32⟩
  | 8 => ⟨S128x4x32, .f32⟩
  | 9 => ⟨S128x4x32, .f32⟩
  | 10 => ⟨S1x4x32, .f32⟩
  | 11 => ⟨S128x4x32, .f32⟩
  | 12 => ⟨S128x4x32, .f32⟩
  | 13 => ⟨S128x4x32, .f32⟩
  | 14 => ⟨S1x4x32, .f32⟩
  | 15 => ⟨S128x4x32, .f32⟩
  | 16 => ⟨S128x4x32, .f32⟩
  | 17 => ⟨S1x4x32, .f32⟩
  | 18 => ⟨S128x4x32, .f32⟩
  | 19 => ⟨S128x4x32, .f32⟩
  | 20 => ⟨S128x4x32, .f32⟩
  | 21 => ⟨S128x4x64, .f32⟩
  | 22 => ⟨S8192x512, .f32⟩
  | 23 => ⟨S512x512, .f32⟩
  | 24 => ⟨S8704x512, .f32⟩
  | 25 => ⟨S8192x64, .f32⟩
  | 26 => ⟨S512x64, .f32⟩
  | 27 => ⟨S8704x64, .f32⟩
  | _ => ⟨S8704x5696, .f32⟩

abbrev hbmTy (i : Nat) : BufTy := match i / 128 with
  | 0 => hbmTy0_0 i
  | 1 => hbmTy0_1 i
  | _ => ⟨S8704x5696, .f32⟩

abbrev bufTy : (tb : Table) → Fin (tcTables nBuf tb) → BufTy
  | .hbm, ⟨i, _⟩ => hbmTy i
  | _, _ => ⟨S8704x5696, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_10 : Ref sig .tc := ⟨.hbm, 102, rfl⟩
abbrev main_v87 : Ref sig .tc := ⟨.hbm, 103, rfl⟩
abbrev main_v88 : Ref sig .tc := ⟨.hbm, 104, rfl⟩
abbrev main_cst_11 : Ref sig .tc := ⟨.hbm, 105, rfl⟩
abbrev main_v89 : Ref sig .tc := ⟨.hbm, 106, rfl⟩
abbrev main_v90 : Ref sig .tc := ⟨.hbm, 107, rfl⟩
abbrev main_cst_12 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_13 : Ref sig .tc := ⟨.hbm, 119, rfl⟩
abbrev main_v101 : Ref sig .tc := ⟨.hbm, 120, rfl⟩
abbrev main_v102 : Ref sig .tc := ⟨.hbm, 121, rfl⟩
abbrev main_cst_14 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩

abbrev nD : Nat := 1
abbrev τ : Topo := Topo.v7x

variable {F : FTy → Type} [FloatOps F]
-- ==== Proof.Staging.lean ====
/- The branch of the body on the chunk number, and the staging buffers the recurrence runs over. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Recur

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev firstChunk (i : grid0.Coords) : Prop := (Scalar.cmpi .ne (Scalar.extui (Scalar.cmpi .eq (BitVec.ofNat 32 (i 1).val) 0#32)) 0#32) = 1#1
/-- It holds at the points ≡ 0 (mod 32) — by arithmetic of the point. -/
theorem firstChunk_iff : ∀ t : Fin cfg0.N, firstChunk (grid0.coords t) ↔ t.val % 32 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 1 % 32 := Pipeline.Grid.coords_val t 1 (by decide) rfl
    have e2 : (grid0.coords t 2).val = t.val / 1 % 1 := Pipeline.Grid.coords_val t 2 (by decide) rfl
    simp only [firstChunk, e0, e1, e2]
    word_cmp
   : ∀ t : Fin grid0.N, firstChunk (grid0.coords t) ↔ t.val % 32 = 0)

/-! ## The kernel body on any staging memrefs: a subtype the run finds -/

/-- One staging buffer of output window 12, through which its contents are stated (`View.read_writes_of_cover`: the
    choice does not matter). -/
abbrev VO12 : View sig .tc .vmem S64x4096 .bf16 := (Memref.whole cc0_stg12_0 : Memref sig .tc .vmem S64x4096 .bf16).view
/-- One staging buffer of output window 13, through which its contents are stated (`View.read_writes_of_cover`: the
    choice does not matter). -/
abbrev VO13 : View sig .tc .vmem S1x8x256x512 .f32 := (Memref.whole cc0_stg13_0 : Memref sig .tc .vmem S1x8x256x512 .f32).view
/-- One staging buffer of output window 14, through which its contents are stated (`View.read_writes_of_cover`: the
    choice does not matter). -/
abbrev VO14 : View sig .tc .vmem S1x8x256 .f32 := (Memref.whole cc0_stg14_0 : Memref sig .tc .vmem S1x8x256 .f32).view
/-- One staging buffer of output window 15, through which its contents are stated (`View.read_writes_of_cover`: the
    choice does not matter). -/
abbrev VO15 : View sig .tc .vmem S1x8x1 .f32 := (Memref.whole cc0_stg15_0 : Memref sig .tc .vmem S1x8x1 .f32).view
/-- Each window's current staging memref at point `t`, spelled as the pipeline passes it (`bodyAt0`), and its wholeness. -/
abbrev ms0 (t : Fin cfg0.N) : Memref sig .tc .vmem S64x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x16 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x16x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x4096 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8x256x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x8x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x8x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S64x4096 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x8x256x512 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x8x256 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x8x1 .f32 := win0_15.stage (cfg0.slots t 15)
abbrev hs15 (t : Fin cfg0.N) : (ms15 t).IsWhole := hstage0_15 ((cfg0.slots t 15).cast nbuf0_15)

end Cert.KernelIdeal.Recur

end
-- ==== Proof.Head.lean ====
/- One head of the chunkwise mLSTM cell, as the body computes it: the operations on one head's columns, over the arrays the
   body loads for that head. -/
module

public import proofs.«01_k».proof.Proof.Staging
public import Idealize.ShloMosaic.Lib.Pipeline.ValueKit

@[expose] public section

set_option maxRecDepth 16384

noncomputable section

namespace Cert.KernelIdeal.Recur

open Idealize.ShloMosaic Idealize.ShloMosaic.TcCoe
open Cert.KernelIdeal Cert.KernelIdeal.Gen

variable {F : FTy → Type} [FloatOps F]

/-- What the body reads for one head: its two gate columns (`gi`, `gf`) and the same gates as rows (`ri`, `rf`), its columns of the
    queries, keys, values, output gates and norm weights, and its state from the chunk before (the matrix state it loads
    twice, the second time after the heads before it are stored). -/
structure Head (F : FTy → Type) where
  s : BitVec 32
  gi : FVec F S64x1 .f32
  gf : FVec F S64x1 .f32
  ri : FVec F S1x64 .f32
  rf : FVec F S1x64 .f32
  q : FVec F S64x256 .f32
  k : FVec F S64x256 .f32
  v : FVec F S64x512 .f32
  o : FVec F S64x512 .f32
  g : FVec F S1x1x512 .f32
  C : FVec F S1x1x256x512 .f32
  C' : FVec F S1x1x256x512 .f32
  n : FVec F S1x256 .f32
  m : FVec F S1x1 .f32

/-- The rows of the chunk the point owns, as a column and as a row. -/
def rowOk (s : BitVec 32) : IVec S64x1 1 :=
  andi (cmpi .sge (iota .tc S64x1 32 [0] iota_S64x1_d0_w32) (broadcast S64x1 (Scalar.muli s 64#32)))
    (cmpi .slt (iota .tc S64x1 32 [0] iota_S64x1_d0_w32) (broadcast S64x1 (Scalar.muli (Scalar.addi s 1#32) 64#32)))
def colOk (s : BitVec 32) : IVec S1x64 1 :=
  andi (cmpi .sge (iota .tc S1x64 32 [1] iota_S1x64_d1_w32) (broadcast S1x64 (Scalar.muli s 64#32)))
    (cmpi .slt (iota .tc S1x64 32 [1] iota_S1x64_d1_w32) (broadcast S1x64 (Scalar.muli (Scalar.addi s 1#32) 64#32)))

/-- Position `s` is not after position `l` (`l` the row, `s` the column), and the other way round. -/
def causal : IVec S64x64 1 := cmpi .sle (iota .tc S64x64 32 [1] iota_S64x64_d1_w32) (iota .tc S64x64 32 [0] iota_S64x64_d0_w32)
def causalT : IVec S64x64 1 := cmpi .sle (iota .tc S64x64 32 [0] iota_S64x64_d0_w32) (iota .tc S64x64 32 [1] iota_S64x64_d1_w32)

/-- `log σ` of a vector, as `min x 0 - log (1 + exp (0 - |x|))`. -/
def logSig {S : Shape} (x : FVec F S .f32) : FVec F S .f32 :=
  subf (minimumf x (broadcast S (Scalar.ofBits .f32 0x00000000#32)))
    (log (addf (broadcast S (Scalar.ofBits .f32 0x3F800000#32)) (exp (subf (broadcast S (Scalar.ofBits .f32 0x00000000#32)) (absf x)))))

namespace Head

variable (X : Head F)

/-- The input gates and the logarithms of the forget gates, as columns and as rows. -/
def igC : FVec F S64x1 .f32 := select (rowOk X.s) X.gi (broadcast S64x1 (Scalar.ofBits .f32 0xFF800000#32))
def lfC : FVec F S64x1 .f32 := select (rowOk X.s) (logSig X.gf) (broadcast S64x1 (Scalar.ofBits .f32 0x00000000#32))
def igR : FVec F S1x64 .f32 := select (colOk X.s) X.ri (broadcast S1x64 (Scalar.ofBits .f32 0xFF800000#32))
def lfR : FVec F S1x64 .f32 := select (colOk X.s) (logSig X.rf) (broadcast S1x64 (Scalar.ofBits .f32 0x00000000#32))
/-- The sums of the forget gates up to each position, as a column and as a row, and over the whole chunk. -/
def bC : FVec F S64x1 .f32 :=
  shapeCast S64x1 (multiReduction .add [1] S64 (select causal (broadcastTo S64x64 (shapeCast S1x64 X.lfR shapeCasts_S1x64_S1x64) broadcasts_S1x64_S64x64)
    (broadcast S64x64 (Scalar.ofBits .f32 0x00000000#32))) 0x00000000#32 reduces_S64x64_S64 (.inl rfl) rfl) shapeCasts_S64_S64x1
def bR : FVec F S1x64 .f32 :=
  shapeCast S1x64 (multiReduction .add [0] S64 (select causalT (broadcastTo S64x64 (shapeCast S64x1 X.lfC shapeCasts_S64x1_S64x1) broadcasts_S64x1_S64x64)
    (broadcast S64x64 (Scalar.ofBits .f32 0x00000000#32))) 0x00000000#32 reduces_S64x64_S64_2 (.inl rfl) rfl) shapeCasts_S64_S1x64
def bL : FVec F S1x1 .f32 :=
  shapeCast S1x1 (multiReduction .add [1] S1 X.lfR 0x00000000#32 reduces_S1x64_S1 (.inl rfl) rfl) shapeCasts_S1_S1x1
/-- The decay matrix's exponents, the state's, and their running maximum. -/
def dmat : FVec F S64x64 .f32 :=
  select causal (addf (subf (broadcastTo S64x64 X.bC broadcasts_S64x1_S64x64) (broadcastTo S64x64 X.bR broadcasts_S1x64_S64x64))
    (broadcastTo S64x64 X.igR broadcasts_S1x64_S64x64)) (broadcast S64x64 (Scalar.ofBits .f32 0xFF800000#32))
def inter : FVec F S64x1 .f32 := addf X.bC (broadcastTo S64x1 X.m broadcasts_S1x1_S64x1)
def mPos : FVec F S64x1 .f32 :=
  maximumf X.inter (shapeCast S64x1 (multiReduction .maximumf [1] S64 X.dmat 0xFF800000#32 reduces_S64x64_S64 (.inl rfl) rfl) shapeCasts_S64_S64x1)
def gR : FVec F S1x64 .f32 := addf (subf (broadcastTo S1x64 X.bL broadcasts_S1x1_S1x64) X.bR) X.igR
/-- The new stabiliser. -/
def mNew : FVec F S1x1 .f32 :=
  maximumf (addf X.bL X.m) (shapeCast S1x1 (multiReduction .maximumf [1] S1 X.gR 0xFF800000#32 reduces_S1x64_S1 (.inl rfl) rfl) shapeCasts_S1_S1x1)
def decayW : FVec F S64x64 .f32 := exp (subf X.dmat (broadcastTo S64x64 X.mPos broadcasts_S64x1_S64x64))
def aC : FVec F S64x1 .f32 := exp (subf X.inter X.mPos)
def floorC : FVec F S64x1 .f32 := exp (subf (broadcast S64x1 (Scalar.ofBits .f32 0x00000000#32)) X.mPos)
def decay : FVec F S1x1 .f32 := exp (subf (addf X.bL X.m) X.mNew)
def wkC : FVec F S64x1 .f32 :=
  exp (subf (addf (subf (broadcastTo S64x1 X.bL broadcasts_S1x1_S64x1) X.bC) X.igC) (broadcastTo S64x1 X.mNew broadcasts_S1x1_S64x1))
def kS : FVec F S64x256 .f32 := mulf X.k (broadcast S64x256 (Scalar.ofBits .f32 0x3D800000#32))
def qk : FVec F S64x64 .f32 :=
  matmul dot_S64x256_S64x256_S64x64_1_1_0_0_n_n none (truncf .bf16 X.q bitsLt_bf16_f32) (truncf .bf16 X.kS bitsLt_bf16_f32) (constant S64x64 .f32 0x00000000#32)
def cM : FVec F S256x512 .f32 := shapeCast S256x512 X.C shapeCasts_S1x1x256x512_S256x512
def cM' : FVec F S256x512 .f32 := shapeCast S256x512 X.C' shapeCasts_S1x1x256x512_S256x512
def qc : FVec F S64x512 .f32 :=
  matmul dot_S64x256_S256x512_S64x512_1_0_0_1_n_n none (truncf .bf16 X.q bitsLt_bf16_f32) (truncf .bf16 X.cM bitsLt_bf16_f32) (constant S64x512 .f32 0x00000000#32)
def w : FVec F S64x64 .f32 := mulf X.decayW X.qk
def num : FVec F S64x512 .f32 :=
  addf (mulf (broadcastTo S64x512 X.aC broadcasts_S64x1_S64x512) X.qc)
    (matmul dot_S64x64_S64x512_S64x512_1_0_0_1_n_n none (truncf .bf16 X.w bitsLt_bf16_f32) (truncf .bf16 X.v bitsLt_bf16_f32) (constant S64x512 .f32 0x00000000#32))
def nq : FVec F S64x1 .f32 :=
  addf (mulf X.aC (shapeCast S64x1 (multiReduction .add [1] S64 (mulf X.q (broadcastTo S64x256 X.n broadcasts_S1x256_S64x256)) 0x00000000#32 reduces_S64x256_S64 (.inl rfl) rfl) shapeCasts_S64_S64x1))
    (shapeCast S64x1 (multiReduction .add [1] S64 X.w 0x00000000#32 reduces_S64x64_S64 (.inl rfl) rfl) shapeCasts_S64_S64x1)
def kw : FVec F S64x256 .f32 := mulf (broadcastTo S64x256 X.wkC broadcasts_S64x1_S64x256) X.kS
/-- The new matrix and normaliser states. -/
def cNew : FVec F S1x1x256x512 .f32 :=
  shapeCast S1x1x256x512 (addf (mulf (broadcastTo S256x512 X.decay broadcasts_S1x1_S256x512) X.cM')
    (matmul dot_S64x256_S64x512_S256x512_0_0_1_1_n_n none (truncf .bf16 X.kw bitsLt_bf16_f32) (truncf .bf16 X.v bitsLt_bf16_f32) (constant S256x512 .f32 0x00000000#32))) shapeCasts_S256x512_S1x1x256x512
def nNew : FVec F S1x256 .f32 :=
  addf (mulf (broadcastTo S1x256 X.decay broadcasts_S1x1_S1x256) X.n)
    (shapeCast S1x256 (multiReduction .add [0] S256 X.kw 0x00000000#32 reduces_S64x256_S256 (.inl rfl) rfl) shapeCasts_S256_S1x256)
/-- The head's output before and after the norm and the output gate. -/
def hs : FVec F S64x512 .f32 := divf X.num (broadcastTo S64x512 (maximumf (absf X.nq) X.floorC) broadcasts_S64x1_S64x512)
def hn : FVec F S64x512 .f32 :=
  mulf (mulf X.hs (broadcastTo S64x512 (rsqrt (addf (divf (shapeCast S64x1 (multiReduction .add [1] S64 (mulf X.hs X.hs) 0x00000000#32 reduces_S64x512_S64 (.inl rfl) rfl) shapeCasts_S64_S64x1)
    (broadcast S64x1 (Scalar.ofBits .f32 0x44000000#32))) (broadcast S64x1 (Scalar.ofBits .f32 0x358637BD#32)))) broadcasts_S64x1_S64x512))
    (broadcastTo S64x512 (shapeCast S1x512 X.g shapeCasts_S1x1x512_S1x512) broadcasts_S1x512_S64x512)
def out : FVec F S64x512 .bf16 :=
  truncf .bf16 (mulf (mulf (broadcast S64x512 (Scalar.ofBits .f32 0x3F000000#32)) (addf (tanh (mulf (broadcast S64x512 (Scalar.ofBits .f32 0x3F000000#32)) X.o)) (broadcast S64x512 (Scalar.ofBits .f32 0x3F800000#32)))) X.hn) bitsLt_bf16_f32

end Head

/-- What the body finds in its staging buffers: the gates' first 16 columns, and the blocks of the other windows. -/
structure Blocks (F : FTy → Type) where
  s : BitVec 32
  x0 : Vec F S64x2048 .f32
  x1 : Vec F S64x2048 .f32
  x2 : Vec F S64x4096 .f32
  x3 : Vec F S64x4096 .f32
  x4 : Vec F S64x16 .f32
  x5 : Vec F S1x16x64 .f32
  x6 : Vec F S1x1x16 .f32
  x7 : Vec F S1x16x1 .f32
  x8 : Vec F S1x1x4096 .f32

theorem in256 (h : ℕ) (hh : h < 8) : ∀ a, (![0, 256 * h] : Fin 2 → ℕ) a + S64x256.size a ≤ S64x2048.size a := by
  intro a; fin_cases a <;> simp <;> omega
theorem in512 (h : ℕ) (hh : h < 8) : ∀ a, (![0, 512 * h] : Fin 2 → ℕ) a + S64x512.size a ≤ S64x4096.size a := by
  intro a; fin_cases a <;> simp <;> omega
theorem inG (h : ℕ) (hh : h < 8) : ∀ a, (![0, 0, 512 * h] : Fin 3 → ℕ) a + S1x1x512.size a ≤ S1x1x4096.size a := by
  intro a; fin_cases a <;> simp <;> omega
theorem inC (h : ℕ) (hh : h < 8) : ∀ a, (![0, h, 0, 0] : Fin 4 → ℕ) a + S1x1x256x512.size a ≤ S1x8x256x512.size a := by
  intro a; fin_cases a <;> simp <;> omega
theorem slC (a : ℕ) (ha : a < 16) : S64x16.Slices ![0, a] S64x1 := by
  refine ⟨rfl, fun i => ?_⟩; fin_cases i <;> simp <;> omega
theorem slR (a : ℕ) (ha : a < 16) : S16x64.Slices ![a, 0] S1x64 := by
  refine ⟨rfl, fun i => ?_⟩; fin_cases i <;> simp <;> omega
theorem slN (a : ℕ) (ha : a < 8) : S8x256.Slices ![a, 0] S1x256 := by
  refine ⟨rfl, fun i => ?_⟩; fin_cases i <;> simp <;> omega
theorem slM (a : ℕ) (ha : a < 8) : S8x1.Slices ![a, 0] S1x1 := by
  refine ⟨rfl, fun i => ?_⟩; fin_cases i <;> simp <;> omega

/-- Head `h`'s part of an array: its columns, and its matrix state. -/
abbrev rOut (h : ℕ) (hh : h < 8) : Rect S64x4096 := Rect.unit ![0, 512 * h] S64x512.size (in512 h hh)
abbrev rC (h : ℕ) (hh : h < 8) : Rect S1x8x256x512 := Rect.unit ![0, h, 0, 0] S1x1x256x512.size (inC h hh)

namespace Blocks

variable (B : Blocks F)

/-- The gates, capped at 15: by position and gate, and by gate and position. -/
def gC : FVec F S64x16 .f32 :=
  mulf (broadcast S64x16 (Scalar.ofBits .f32 0x41700000#32)) (tanh (divf (addf B.x4 (broadcastTo S64x16 (shapeCast S1x16 B.x6 shapeCasts_S1x1x16_S1x16) broadcasts_S1x16_S64x16))
    (broadcast S64x16 (Scalar.ofBits .f32 0x41700000#32))))
def gR : FVec F S16x64 .f32 :=
  mulf (broadcast S16x64 (Scalar.ofBits .f32 0x41700000#32)) (tanh (divf (addf (shapeCast S16x64 B.x5 shapeCasts_S1x16x64_S16x64) (broadcastTo S16x64 (shapeCast S16x1 B.x7 shapeCasts_S1x16x1_S16x1) broadcasts_S16x1_S16x64))
    (broadcast S16x64 (Scalar.ofBits .f32 0x41700000#32))))

/-- What head `h` reads, from the blocks and the state: the matrix states `C` by head, the normalisers and stabilisers as the body
    first loads them. -/
def head (C C' : ∀ h : ℕ, h < 8 → FVec F S1x1x256x512 .f32) (n : Vec F S1x8x256 .f32) (m : Vec F S1x8x1 .f32) (h : ℕ) (hh : h < 8) : Head F where
  s := B.s
  gi := extractStridedSlice S64x1 ![0, h] B.gC (slC h (by omega))
  gf := extractStridedSlice S64x1 ![0, 8 + h] B.gC (slC (8 + h) (by omega))
  ri := extractStridedSlice S1x64 ![h, 0] B.gR (slR h (by omega))
  rf := extractStridedSlice S1x64 ![8 + h, 0] B.gR (slR (8 + h) (by omega))
  q := View.ld (e' := .f32) B.x0 (Rect.unit (s := S64x2048) ![0, 256 * h] S64x256.size (in256 h hh))
  k := View.ld (e' := .f32) B.x1 (Rect.unit (s := S64x2048) ![0, 256 * h] S64x256.size (in256 h hh))
  v := View.ld (e' := .f32) B.x2 (rOut h hh)
  o := View.ld (e' := .f32) B.x3 (rOut h hh)
  g := View.ld (e' := .f32) B.x8 (Rect.unit (s := S1x1x4096) ![0, 0, 512 * h] S1x1x512.size (inG h hh))
  C := C h hh
  C' := C' h hh
  n := extractStridedSlice S1x256 ![h, 0] (shapeCast S8x256 n shapeCasts_S1x8x256_S8x256) (slN h hh)
  m := extractStridedSlice S1x1 ![h, 0] (shapeCast S8x1 m shapeCasts_S1x8x1_S8x1) (slM h hh)

end Blocks

/-- Head `h`'s normaliser and stabiliser put in their row. -/
def putN (h : BitVec 32) (x : FVec F S1x256 .f32) (p : FVec F S8x256 .f32) : FVec F S8x256 .f32 :=
  select (broadcastTo S8x256 (shapeCast S8x1 (cmpi .eq (iota .tc S8x1 32 [0] iota_S8x1_d0_w32) (broadcast S8x1 h)) shapeCasts_S8x1_S8x1) broadcasts_S8x1_S8x256)
    (broadcastTo S8x256 (shapeCast S1x256 x shapeCasts_S1x256_S1x256) broadcasts_S1x256_S8x256) p
def putM (h : BitVec 32) (x : FVec F S1x1 .f32) (p : FVec F S8x1 .f32) : FVec F S8x1 .f32 :=
  select (cmpi .eq (iota .tc S8x1 32 [0] iota_S8x1_d0_w32) (broadcast S8x1 h)) (broadcastTo S8x1 (shapeCast S1x1 x shapeCasts_S1x1_S1x1) broadcasts_S1x1_S8x1) p

/-- The stores into the outputs of a point, from what each head reads: the heads' outputs and matrix states in turn (the last store
    first), and the whole normaliser and stabiliser blocks. -/
def outL (H : ∀ h : ℕ, h < 8 → Head F) : List (View.Piece (Elt F) S64x4096 .bf16) :=
  [⟨rOut 7 (by decide), (H 7 (by decide)).out⟩, ⟨rOut 6 (by decide), (H 6 (by decide)).out⟩, ⟨rOut 5 (by decide), (H 5 (by decide)).out⟩,
    ⟨rOut 4 (by decide), (H 4 (by decide)).out⟩, ⟨rOut 3 (by decide), (H 3 (by decide)).out⟩, ⟨rOut 2 (by decide), (H 2 (by decide)).out⟩,
    ⟨rOut 1 (by decide), (H 1 (by decide)).out⟩, ⟨rOut 0 (by decide), (H 0 (by decide)).out⟩]
def cL (H : ∀ h : ℕ, h < 8 → Head F) : List (View.Piece (Elt F) S1x8x256x512 .f32) :=
  [⟨rC 7 (by decide), (H 7 (by decide)).cNew⟩, ⟨rC 6 (by decide), (H 6 (by decide)).cNew⟩, ⟨rC 5 (by decide), (H 5 (by decide)).cNew⟩,
    ⟨rC 4 (by decide), (H 4 (by decide)).cNew⟩, ⟨rC 3 (by decide), (H 3 (by decide)).cNew⟩, ⟨rC 2 (by decide), (H 2 (by decide)).cNew⟩,
    ⟨rC 1 (by decide), (H 1 (by decide)).cNew⟩, ⟨rC 0 (by decide), (H 0 (by decide)).cNew⟩]
def nOut (H : ∀ h : ℕ, h < 8 → Head F) (n : Vec F S1x8x256 .f32) : Vec F S1x8x256 .f32 :=
  shapeCast S1x8x256 (putN 7#32 (H 7 (by decide)).nNew (putN 6#32 (H 6 (by decide)).nNew (putN 5#32 (H 5 (by decide)).nNew (putN 4#32 (H 4 (by decide)).nNew
    (putN 3#32 (H 3 (by decide)).nNew (putN 2#32 (H 2 (by decide)).nNew (putN 1#32 (H 1 (by decide)).nNew (putN 0#32 (H 0 (by decide)).nNew
      (shapeCast S8x256 n shapeCasts_S1x8x256_S8x256))))))))) shapeCasts_S8x256_S1x8x256
def mOut (H : ∀ h : ℕ, h < 8 → Head F) (m : Vec F S1x8x1 .f32) : Vec F S1x8x1 .f32 :=
  shapeCast S1x8x1 (putM 7#32 (H 7 (by decide)).mNew (putM 6#32 (H 6 (by decide)).mNew (putM 5#32 (H 5 (by decide)).mNew (putM 4#32 (H 4 (by decide)).mNew
    (putM 3#32 (H 3 (by decide)).mNew (putM 2#32 (H 2 (by decide)).mNew (putM 1#32 (H 1 (by decide)).mNew (putM 0#32 (H 0 (by decide)).mNew
      (shapeCast S8x1 m shapeCasts_S1x8x1_S8x1))))))))) shapeCasts_S8x1_S1x8x1

/-- The heads' stores cover their blocks. -/
theorem outL_cover (H : ∀ h : ℕ, h < 8 → Head F) (y : S64x4096.Idx) : ∃ p ∈ outL H, y ∈ p.1.set :=
  View.cover_of_tiledL (outL H) S64x512.size (by sl_kernel_rfl) y
theorem cL_cover (H : ∀ h : ℕ, h < 8 → Head F) (y : S1x8x256x512.Idx) : ∃ p ∈ cL H, y ∈ p.1.set :=
  View.cover_of_tiledL (cL H) S1x1x256x512.size (by sl_kernel_rfl) y

/-- The state a chunk starts from. -/
structure St (F : FTy → Type) where
  C : Vec F S1x8x256x512 .f32
  n : Vec F S1x8x256 .f32
  m : Vec F S1x8x1 .f32

/-- What every head reads when the state is `S`, and the state after the chunk. -/
def Blocks.heads (B : Blocks F) (S : St F) : ∀ h : ℕ, h < 8 → Head F :=
  B.head (fun h hh => View.ld (e' := .f32) S.C (rC h hh)) (fun h hh => View.ld (e' := .f32) S.C (rC h hh)) S.n S.m
def Blocks.next (B : Blocks F) (S : St F) : St F :=
  ⟨View.canon (cL (B.heads S)), nOut (B.heads S) S.n, mOut (B.heads S) S.m⟩
/-- The chunk's output rows. -/
def Blocks.rows (B : Blocks F) (S : St F) : Vec F S64x4096 .bf16 := View.canon (outL (B.heads S))

/-- The blocks from the staging buffers' contents: of the gates' buffer only the first 16 columns. -/
def blocksOf (i : grid0.Coords) (x0 x1 : Vec F S64x2048 .f32) (x2 x3 : Vec F S64x4096 .f32) (x4 : Vec F S64x128 .f32) (x5 : Vec F S1x16x64 .f32)
    (x6 : Vec F S1x1x16 .f32) (x7 : Vec F S1x16x1 .f32) (x8 : Vec F S1x1x4096 .f32) : Blocks F :=
  ⟨BitVec.ofNat 32 (i 2), x0, x1, x2, x3, View.ld (e' := .f32) x4 (Rect.unit (s := S64x128) ![0, 0] S64x16.size inb_S64x128_S64x16_0_0), x5, x6, x7, x8⟩

end Cert.KernelIdeal.Recur

end
-- ==== Proof.RunFirst.lean ====
/- The body at the first chunk of a sequence, as a run of its memory operations. -/
module

public import proofs.«01_k».proof.Proof.Staging

@[expose] public section

set_option maxRecDepth 16384

noncomputable section

namespace Cert.KernelIdeal.Recur

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1180000 in
/-- The body at the first chunk of a sequence, run over whole staging buffers: the pieces it writes into each output, with the proof that it does. -/
noncomputable def runFirst (c : Dev nD) (i : grid0.Coords) (arg3 : Memref sig .tc .vmem S64x2048 .f32) (harg3 : arg3.IsWhole) (arg4 : Memref sig .tc .vmem S64x2048 .f32) (harg4 : arg4.IsWhole) (arg5 : Memref sig .tc .vmem S64x4096 .f32) (harg5 : arg5.IsWhole) (arg6 : Memref sig .tc .vmem S64x4096 .f32) (harg6 : arg6.IsWhole) (arg7 : Memref sig .tc .vmem S64x128 .f32) (harg7 : arg7.IsWhole) (arg8 : Memref sig .tc .vmem S1x16x64 .f32) (harg8 : arg8.IsWhole) (arg9 : Memref sig .tc .vmem S1x1x16 .f32) (harg9 : arg9.IsWhole) (arg10 : Memref sig .tc .vmem S1x16x1 .f32) (harg10 : arg10.IsWhole) (arg11 : Memref sig .tc .vmem S1x1x4096 .f32) (harg11 : arg11.IsWhole) (arg12 : Memref sig .tc .vmem S1x8x256x512 .f32) (harg12 : arg12.IsWhole) (arg13 : Memref sig .tc .vmem S1x8x256 .f32) (harg13 : arg13.IsWhole) (arg14 : Memref sig .tc .vmem S1x8x1 .f32) (harg14 : arg14.IsWhole) (arg16 : Memref sig .tc .vmem S64x4096 .bf16) (harg16 : arg16.IsWhole) (arg17 : Memref sig .tc .vmem S1x8x256x512 .f32) (harg17 : arg17.IsWhole) (arg18 : Memref sig .tc .vmem S1x8x256 .f32) (harg18 : arg18.IsWhole) (arg19 : Memref sig .tc .vmem S1x8x1 .f32) (harg19 : arg19.IsWhole) (hc0 : firstChunk i)
    (x0 : Vec F S64x2048 .f32) (x1 : Vec F S64x2048 .f32) (x2 : Vec F S64x4096 .f32) (x3 : Vec F S64x4096 .f32) (x4 : Vec F S64x128 .f32) (x5 : Vec F S1x16x64 .f32) (x6 : Vec F S1x1x16 .f32) (x7 : Vec F S1x16x1 .f32) (x8 : Vec F S1x1x4096 .f32) (x9 : Vec F S1x8x256x512 .f32) (x10 : Vec F S1x8x256 .f32) (x11 : Vec F S1x8x1 .f32) :
    Σ' (L12 : List (View.Piece (Elt F) S64x4096 .bf16)), Σ' (L13 : List (View.Piece (Elt F) S1x8x256x512 .f32)), Σ' (L14 : List (View.Piece (Elt F) S1x8x256 .f32)), { L15 : List (View.Piece (Elt F) S1x8x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ f, arg16.view.loc (c : Thread nD τ) ↦[arg16.view.set]{fullShare} arg16.view.writes (Elt F) f L12) ∗ (∃ f, arg17.view.loc (c : Thread nD τ) ↦[arg17.view.set]{fullShare} arg17.view.writes (Elt F) f L13) ∗ (∃ f, arg18.view.loc (c : Thread nD τ) ↦[arg18.view.set]{fullShare} arg18.view.writes (Elt F) f L14) ∗ (∃ f, arg19.view.loc (c : Thread nD τ) ↦[arg19.view.set]{fullShare} arg19.view.writes (Elt F) f L15)) -∗ K ⟨⟩))
          ⊢ wp frame (wpE (defs₀ (F := F)) Variants.none c none) E (cc0_mlstm i arg3 harg3 arg4 harg4 arg5 harg5 arg6 harg6 arg7 harg7 arg8 harg8 arg9 harg9 arg10 harg10 arg11 harg11 arg12 harg12 arg13 harg13 arg14 harg14 (Memref.whole main_v10) (Memref.isWhole_whole _) arg16 harg16 arg17 harg17 arg18 harg18 arg19 harg19) K } := by
  refine ⟨?_, ?_, ?_, ?_, fun E K => ?run⟩
  case run =>
    simp only [cc0_mlstm_eq_skeleton]; unfold cc0_mlstm_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]; · iexists _; iexact H12
    isplitl [H13]; · iexists _; iexact H13
    isplitl [H14]; · iexists _; iexact H14
    iexists _; iexact H15

end Cert.KernelIdeal.Recur

end
-- ==== Proof.RunLater.lean ====
/- The body at a later chunk, as a run of its memory operations. -/
module

public import proofs.«01_k».proof.Proof.RunFirst

@[expose] public section

set_option maxRecDepth 16384

noncomputable section

namespace Cert.KernelIdeal.Recur

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1132000 in
/-- The body at a later chunk, run over whole staging buffers: the pieces it writes into each output, with the proof that it does. -/
noncomputable def runLater (c : Dev nD) (i : grid0.Coords) (arg3 : Memref sig .tc .vmem S64x2048 .f32) (harg3 : arg3.IsWhole) (arg4 : Memref sig .tc .vmem S64x2048 .f32) (harg4 : arg4.IsWhole) (arg5 : Memref sig .tc .vmem S64x4096 .f32) (harg5 : arg5.IsWhole) (arg6 : Memref sig .tc .vmem S64x4096 .f32) (harg6 : arg6.IsWhole) (arg7 : Memref sig .tc .vmem S64x128 .f32) (harg7 : arg7.IsWhole) (arg8 : Memref sig .tc .vmem S1x16x64 .f32) (harg8 : arg8.IsWhole) (arg9 : Memref sig .tc .vmem S1x1x16 .f32) (harg9 : arg9.IsWhole) (arg10 : Memref sig .tc .vmem S1x16x1 .f32) (harg10 : arg10.IsWhole) (arg11 : Memref sig .tc .vmem S1x1x4096 .f32) (harg11 : arg11.IsWhole) (arg12 : Memref sig .tc .vmem S1x8x256x512 .f32) (harg12 : arg12.IsWhole) (arg13 : Memref sig .tc .vmem S1x8x256 .f32) (harg13 : arg13.IsWhole) (arg14 : Memref sig .tc .vmem S1x8x1 .f32) (harg14 : arg14.IsWhole) (arg16 : Memref sig .tc .vmem S64x4096 .bf16) (harg16 : arg16.IsWhole) (arg17 : Memref sig .tc .vmem S1x8x256x512 .f32) (harg17 : arg17.IsWhole) (arg18 : Memref sig .tc .vmem S1x8x256 .f32) (harg18 : arg18.IsWhole) (arg19 : Memref sig .tc .vmem S1x8x1 .f32) (harg19 : arg19.IsWhole) (hc0 : ¬firstChunk i)
    (x0 : Vec F S64x2048 .f32) (x1 : Vec F S64x2048 .f32) (x2 : Vec F S64x4096 .f32) (x3 : Vec F S64x4096 .f32) (x4 : Vec F S64x128 .f32) (x5 : Vec F S1x16x64 .f32) (x6 : Vec F S1x1x16 .f32) (x7 : Vec F S1x16x1 .f32) (x8 : Vec F S1x1x4096 .f32) (x9 : Vec F S1x8x256x512 .f32) (x10 : Vec F S1x8x256 .f32) (x11 : Vec F S1x8x1 .f32) (xo13 : Vec F S1x8x256x512 .f32) (xo14 : Vec F S1x8x256 .f32) (xo15 : Vec F S1x8x1 .f32) :
    Σ' (L12 : List (View.Piece (Elt F) S64x4096 .bf16)), Σ' (L13 : List (View.Piece (Elt F) S1x8x256x512 .f32)), Σ' (L14 : List (View.Piece (Elt F) S1x8x256 .f32)), { L15 : List (View.Piece (Elt F) S1x8x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg16 fullShare d) ∗ owns (c : Thread nD τ) arg17 fullShare xo13 ∗ owns (c : Thread nD τ) arg18 fullShare xo14 ∗ owns (c : Thread nD τ) arg19 fullShare xo15
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ f, arg16.view.loc (c : Thread nD τ) ↦[arg16.view.set]{fullShare} arg16.view.writes (Elt F) f L12) ∗ (∃ f, arg17.view.loc (c : Thread nD τ) ↦[arg17.view.set]{fullShare} arg17.view.writes (Elt F) f L13) ∗ (∃ f, arg18.view.loc (c : Thread nD τ) ↦[arg18.view.set]{fullShare} arg18.view.writes (Elt F) f L14) ∗ (∃ f, arg19.view.loc (c : Thread nD τ) ↦[arg19.view.set]{fullShare} arg19.view.writes (Elt F) f L15)) -∗ K ⟨⟩))
          ⊢ wp frame (wpE (defs₀ (F := F)) Variants.none c none) E (cc0_mlstm i arg3 harg3 arg4 harg4 arg5 harg5 arg6 harg6 arg7 harg7 arg8 harg8 arg9 harg9 arg10 harg10 arg11 harg11 arg12 harg12 arg13 harg13 arg14 harg14 (Memref.whole main_v10) (Memref.isWhole_whole _) arg16 harg16 arg17 harg17 arg18 harg18 arg19 harg19) K } := by
  refine ⟨?_, ?_, ?_, ?_, fun E K => ?run⟩
  case run =>
    simp only [cc0_mlstm_eq_skeleton]; unfold cc0_mlstm_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg17.eq_unread hf13; obtain rfl := harg18.eq_unread hf14; obtain rfl := harg19.eq_unread hf15
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]; · iexists _; iexact H12
    isplitl [H13]; · iexists _; iexact H13
    isplitl [H14]; · iexists _; iexact H14
    iexists _; iexact H15

end Cert.KernelIdeal.Recur

end
-- ==== Proof.Stores.lean ====
/- The stores of a chunk are what its heads compute from the blocks and the state. -/
module

public import proofs.«01_k».proof.Proof.Head
public import proofs.«01_k».proof.Proof.RunLater

@[expose] public section

set_option maxRecDepth 16384

noncomputable section

namespace Cert.KernelIdeal.Recur

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- What is stored of the matrix states when head `h` loads its own. -/
def stored1 (c : Dev nD) (i : grid0.Coords) (arg4 : Memref sig .tc .vmem S64x2048 .f32) (harg4 : arg4.IsWhole) (arg5 : Memref sig .tc .vmem S64x4096 .f32) (harg5 : arg5.IsWhole) (arg7 : Memref sig .tc .vmem S64x128 .f32) (harg7 : arg7.IsWhole) (arg8 : Memref sig .tc .vmem S1x16x64 .f32) (harg8 : arg8.IsWhole) (arg9 : Memref sig .tc .vmem S1x1x16 .f32) (harg9 : arg9.IsWhole) (arg10 : Memref sig .tc .vmem S1x16x1 .f32) (harg10 : arg10.IsWhole) (arg12 : Memref sig .tc .vmem S1x8x256x512 .f32) (harg12 : arg12.IsWhole) (arg14 : Memref sig .tc .vmem S1x8x1 .f32) (harg14 : arg14.IsWhole) (arg17 : Memref sig .tc .vmem S1x8x256x512 .f32) (arg19 : Memref sig .tc .vmem S1x8x1 .f32) (x1 : Vec F S64x2048 .f32) (x2 : Vec F S64x4096 .f32) (x4 : Vec F S64x128 .f32) (x5 : Vec F S1x16x64 .f32) (x6 : Vec F S1x1x16 .f32) (x7 : Vec F S1x16x1 .f32) (x9 : Vec F S1x8x256x512 .f32) (x11 : Vec F S1x8x1 .f32) (h : ℕ) : List (View.Piece (Elt F) S1x8x256x512 .f32) :=
  match h with
  | 0 => runFirst.sl.H13_1 c arg12 harg12 x9
  | 1 => runFirst.sl.H13_1 c arg12 harg12 x9
  | 2 => runFirst.sl.H13_2 c i arg4 harg4 arg5 harg5 arg7 harg7 arg8 harg8 arg9 harg9 arg10 harg10 arg12 harg12 arg14 harg14 arg17 arg19 x1 x2 x4 x5 x6 x7 x9 x11
  | 3 => runFirst.sl.H13_3 c i arg4 harg4 arg5 harg5 arg7 harg7 arg8 harg8 arg9 harg9 arg10 harg10 arg12 harg12 arg14 harg14 arg17 arg19 x1 x2 x4 x5 x6 x7 x9 x11
  | 4 => runFirst.sl.H13_4 c i arg4 harg4 arg5 harg5 arg7 harg7 arg8 harg8 arg9 harg9 arg10 harg10 arg12 harg12 arg14 harg14 arg17 arg19 x1 x2 x4 x5 x6 x7 x9 x11
  | 5 => runFirst.sl.H13_5 c i arg4 harg4 arg5 harg5 arg7 harg7 arg8 harg8 arg9 harg9 arg10 harg10 arg12 harg12 arg14 harg14 arg17 arg19 x1 x2 x4 x5 x6 x7 x9 x11
  | 6 => runFirst.sl.H13_6 c i arg4 harg4 arg5 harg5 arg7 harg7 arg8 harg8 arg9 harg9 arg10 harg10 arg12 harg12 arg14 harg14 arg17 arg19 x1 x2 x4 x5 x6 x7 x9 x11
  | _ => runFirst.sl.H13_7 c i arg4 harg4 arg5 harg5 arg7 harg7 arg8 harg8 arg9 harg9 arg10 harg10 arg12 harg12 arg14 harg14 arg17 arg19 x1 x2 x4 x5 x6 x7 x9 x11

/-- What is stored of the matrix states when head `h` loads its own again. -/
def stored2 (c : Dev nD) (i : grid0.Coords) (arg4 : Memref sig .tc .vmem S64x2048 .f32) (harg4 : arg4.IsWhole) (arg5 : Memref sig .tc .vmem S64x4096 .f32) (harg5 : arg5.IsWhole) (arg7 : Memref sig .tc .vmem S64x128 .f32) (harg7 : arg7.IsWhole) (arg8 : Memref sig .tc .vmem S1x16x64 .f32) (harg8 : arg8.IsWhole) (arg9 : Memref sig .tc .vmem S1x1x16 .f32) (harg9 : arg9.IsWhole) (arg10 : Memref sig .tc .vmem S1x16x1 .f32) (harg10 : arg10.IsWhole) (arg12 : Memref sig .tc .vmem S1x8x256x512 .f32) (harg12 : arg12.IsWhole) (arg14 : Memref sig .tc .vmem S1x8x1 .f32) (harg14 : arg14.IsWhole) (arg17 : Memref sig .tc .vmem S1x8x256x512 .f32) (arg19 : Memref sig .tc .vmem S1x8x1 .f32) (x1 : Vec F S64x2048 .f32) (x2 : Vec F S64x4096 .f32) (x4 : Vec F S64x128 .f32) (x5 : Vec F S1x16x64 .f32) (x6 : Vec F S1x1x16 .f32) (x7 : Vec F S1x16x1 .f32) (x9 : Vec F S1x8x256x512 .f32) (x11 : Vec F S1x8x1 .f32) (h : ℕ) : List (View.Piece (Elt F) S1x8x256x512 .f32) :=
  match h with
  | 0 => runFirst.sl.H13_1 c arg12 harg12 x9
  | 1 => runFirst.sl.H13_2 c i arg4 harg4 arg5 harg5 arg7 harg7 arg8 harg8 arg9 harg9 arg10 harg10 arg12 harg12 arg14 harg14 arg17 arg19 x1 x2 x4 x5 x6 x7 x9 x11
  | 2 => runFirst.sl.H13_3 c i arg4 harg4 arg5 harg5 arg7 harg7 arg8 harg8 arg9 harg9 arg10 harg10 arg12 harg12 arg14 harg14 arg17 arg19 x1 x2 x4 x5 x6 x7 x9 x11
  | 3 => runFirst.sl.H13_4 c i arg4 harg4 arg5 harg5 arg7 harg7 arg8 harg8 arg9 harg9 arg10 harg10 arg12 harg12 arg14 harg14 arg17 arg19 x1 x2 x4 x5 x6 x7 x9 x11
  | 4 => runFirst.sl.H13_5 c i arg4 harg4 arg5 harg5 arg7 harg7 arg8 harg8 arg9 harg9 arg10 harg10 arg12 harg12 arg14 harg14 arg17 arg19 x1 x2 x4 x5 x6 x7 x9 x11
  | 5 => runFirst.sl.H13_6 c i arg4 harg4 arg5 harg5 arg7 harg7 arg8 harg8 arg9 harg9 arg10 harg10 arg12 harg12 arg14 harg14 arg17 arg19 x1 x2 x4 x5 x6 x7 x9 x11
  | 6 => runFirst.sl.H13_7 c i arg4 harg4 arg5 harg5 arg7 harg7 arg8 harg8 arg9 harg9 arg10 harg10 arg12 harg12 arg14 harg14 arg17 arg19 x1 x2 x4 x5 x6 x7 x9 x11
  | _ => runFirst.sl.H13_8 c i arg4 harg4 arg5 harg5 arg7 harg7 arg8 harg8 arg9 harg9 arg10 harg10 arg12 harg12 arg14 harg14 arg17 arg19 x1 x2 x4 x5 x6 x7 x9 x11

/-- Head `h`'s matrix state read after the stores of heads before it is the state the sequence starts from. -/
theorem readC_cons (v : View sig .tc .vmem S1x8x256x512 .f32) (L : List (View.Piece (Elt F) S1x8x256x512 .f32)) (X : Vec F S1x8x256x512 .f32) (k : ℕ)
    (inb) (w) (hL : ∀ h hh, k ≤ h → v.readCov L (rC h hh).toLoadRect = View.ld (e' := .f32) X (rC h hh)) (h : ℕ) (hh : h < 8) (hk : k + 1 ≤ h) :
    v.readCov (⟨Rect.unit (s := S1x8x256x512) ![0, k, 0, 0] S1x1x256x512.size inb, w⟩ :: L) (rC h hh).toLoadRect = View.ld (e' := .f32) X (rC h hh) := by
  rw [View.readCov_cons_of_disjoint]
  · exact hL h hh (by omega)
  · exact Rect.unit_disjoint (s := S1x8x256x512) (inb := inb) 1 (.inl (by simpa using hk))
theorem readC_1 (v : View sig .tc .vmem S1x8x256x512 .f32) (c : Dev nD) (arg12 : Memref sig .tc .vmem S1x8x256x512 .f32) (harg12 : arg12.IsWhole) (x9 : Vec F S1x8x256x512 .f32)
    (h : ℕ) (hh : h < 8) : v.readCov (runFirst.sl.H13_1 c arg12 harg12 x9) (rC h hh).toLoadRect = View.ld (e' := .f32) x9 (rC h hh) := by
  rw [View.readCov_eq_canon']
  have e : View.canon (runFirst.sl.H13_1 c arg12 harg12 x9) = x9 := by
    unfold runFirst.sl.H13_1
    rw [View.canon_cons_unit_lit _ _ _ (by decide)]
    unfold k0_pay3
    simp only [shapeCast_shapeCast]
    change View.ld (e' := .f32) (arg12.view.read (Elt F) (harg12.unread x9)) _ = _
    rw [harg12.read_unread, View.ld_unit_lit _ _ (by decide)]
  rw [e]

variable (c : Dev nD) (i : grid0.Coords) (arg3 : Memref sig .tc .vmem S64x2048 .f32) (harg3 : arg3.IsWhole) (arg4 : Memref sig .tc .vmem S64x2048 .f32) (harg4 : arg4.IsWhole) (arg5 : Memref sig .tc .vmem S64x4096 .f32) (harg5 : arg5.IsWhole) (arg6 : Memref sig .tc .vmem S64x4096 .f32) (harg6 : arg6.IsWhole) (arg7 : Memref sig .tc .vmem S64x128 .f32) (harg7 : arg7.IsWhole) (arg8 : Memref sig .tc .vmem S1x16x64 .f32) (harg8 : arg8.IsWhole) (arg9 : Memref sig .tc .vmem S1x1x16 .f32) (harg9 : arg9.IsWhole) (arg10 : Memref sig .tc .vmem S1x16x1 .f32) (harg10 : arg10.IsWhole) (arg11 : Memref sig .tc .vmem S1x1x4096 .f32) (harg11 : arg11.IsWhole) (arg12 : Memref sig .tc .vmem S1x8x256x512 .f32) (harg12 : arg12.IsWhole) (arg13 : Memref sig .tc .vmem S1x8x256 .f32) (harg13 : arg13.IsWhole) (arg14 : Memref sig .tc .vmem S1x8x1 .f32) (harg14 : arg14.IsWhole) (arg16 : Memref sig .tc .vmem S64x4096 .bf16) (harg16 : arg16.IsWhole) (arg17 : Memref sig .tc .vmem S1x8x256x512 .f32) (harg17 : arg17.IsWhole) (arg18 : Memref sig .tc .vmem S1x8x256 .f32) (harg18 : arg18.IsWhole) (arg19 : Memref sig .tc .vmem S1x8x1 .f32) (harg19 : arg19.IsWhole)
  (x0 : Vec F S64x2048 .f32) (x1 : Vec F S64x2048 .f32) (x2 : Vec F S64x4096 .f32) (x3 : Vec F S64x4096 .f32) (x4 : Vec F S64x128 .f32) (x5 : Vec F S1x16x64 .f32) (x6 : Vec F S1x1x16 .f32) (x7 : Vec F S1x16x1 .f32) (x8 : Vec F S1x1x4096 .f32) (x9 : Vec F S1x8x256x512 .f32) (x10 : Vec F S1x8x256 .f32) (x11 : Vec F S1x8x1 .f32)
include c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11

theorem later_out_raw (hc0 : ¬firstChunk i) (xo13 : Vec F S1x8x256x512 .f32) (xo14 : Vec F S1x8x256 .f32) (xo15 : Vec F S1x8x1 .f32)  :
    (runLater c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11 xo13 xo14 xo15).1 = outL (Blocks.head ⟨BitVec.ofNat 32 (i 2), (arg3.view.read (Elt F) (harg3.unread x0)), (arg4.view.read (Elt F) (harg4.unread x1)), (arg5.view.read (Elt F) (harg5.unread x2)), (arg6.view.read (Elt F) (harg6.unread x3)),
      View.ld (e' := .f32) (arg7.view.read (Elt F) (harg7.unread x4)) (Rect.unit (s := S64x128) ![0, 0] S64x16.size inb_S64x128_S64x16_0_0),
      (View.ld (e' := .f32) (arg8.view.read (Elt F) (harg8.unread x5)) (Rect.unit (s := S1x16x64) ![0, 0, 0] S1x16x64.size inb_S1x16x64_S1x16x64_0_0_0)),
      (View.ld (e' := .f32) (arg9.view.read (Elt F) (harg9.unread x6)) (Rect.unit (s := S1x1x16) ![0, 0, 0] S1x1x16.size inb_S1x1x16_S1x1x16_0_0_0)),
      (View.ld (e' := .f32) (arg10.view.read (Elt F) (harg10.unread x7)) (Rect.unit (s := S1x16x1) ![0, 0, 0] S1x16x1.size inb_S1x16x1_S1x16x1_0_0_0)), (arg11.view.read (Elt F) (harg11.unread x8))⟩
      (fun h hh => View.ld (e' := .f32) (arg17.view.read (Elt F) (harg17.unread xo13)) (rC h hh))
      (fun h hh => View.ld (e' := .f32) (arg17.view.read (Elt F) (harg17.unread xo13)) (rC h hh))
      (View.ld (e' := .f32) (arg18.view.read (Elt F) (harg18.unread xo14)) (Rect.unit (s := S1x8x256) ![0, 0, 0] S1x8x256.size inb_S1x8x256_S1x8x256_0_0_0))
      (View.ld (e' := .f32) (arg19.view.read (Elt F) (harg19.unread xo15)) (Rect.unit (s := S1x8x1) ![0, 0, 0] S1x8x1.size inb_S1x8x1_S1x8x1_0_0_0))) := by sl_kernel_rfl

theorem later_c_raw (hc0 : ¬firstChunk i) (xo13 : Vec F S1x8x256x512 .f32) (xo14 : Vec F S1x8x256 .f32) (xo15 : Vec F S1x8x1 .f32)  :
    (runLater c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11 xo13 xo14 xo15).2.1 = cL (Blocks.head ⟨BitVec.ofNat 32 (i 2), (arg3.view.read (Elt F) (harg3.unread x0)), (arg4.view.read (Elt F) (harg4.unread x1)), (arg5.view.read (Elt F) (harg5.unread x2)), (arg6.view.read (Elt F) (harg6.unread x3)),
      View.ld (e' := .f32) (arg7.view.read (Elt F) (harg7.unread x4)) (Rect.unit (s := S64x128) ![0, 0] S64x16.size inb_S64x128_S64x16_0_0),
      (View.ld (e' := .f32) (arg8.view.read (Elt F) (harg8.unread x5)) (Rect.unit (s := S1x16x64) ![0, 0, 0] S1x16x64.size inb_S1x16x64_S1x16x64_0_0_0)),
      (View.ld (e' := .f32) (arg9.view.read (Elt F) (harg9.unread x6)) (Rect.unit (s := S1x1x16) ![0, 0, 0] S1x1x16.size inb_S1x1x16_S1x1x16_0_0_0)),
      (View.ld (e' := .f32) (arg10.view.read (Elt F) (harg10.unread x7)) (Rect.unit (s := S1x16x1) ![0, 0, 0] S1x16x1.size inb_S1x16x1_S1x16x1_0_0_0)), (arg11.view.read (Elt F) (harg11.unread x8))⟩
      (fun h hh => View.ld (e' := .f32) (arg17.view.read (Elt F) (harg17.unread xo13)) (rC h hh))
      (fun h hh => View.ld (e' := .f32) (arg17.view.read (Elt F) (harg17.unread xo13)) (rC h hh))
      (View.ld (e' := .f32) (arg18.view.read (Elt F) (harg18.unread xo14)) (Rect.unit (s := S1x8x256) ![0, 0, 0] S1x8x256.size inb_S1x8x256_S1x8x256_0_0_0))
      (View.ld (e' := .f32) (arg19.view.read (Elt F) (harg19.unread xo15)) (Rect.unit (s := S1x8x1) ![0, 0, 0] S1x8x1.size inb_S1x8x1_S1x8x1_0_0_0))) := by sl_kernel_rfl

theorem later_n_raw (hc0 : ¬firstChunk i) (xo13 : Vec F S1x8x256x512 .f32) (xo14 : Vec F S1x8x256 .f32) (xo15 : Vec F S1x8x1 .f32)  :
    (runLater c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11 xo13 xo14 xo15).2.2.1 = ⟨Rect.unit (s := S1x8x256) ![0, 0, 0] S1x8x256.size inb_S1x8x256_S1x8x256_0_0_0, nOut (Blocks.head ⟨BitVec.ofNat 32 (i 2), (arg3.view.read (Elt F) (harg3.unread x0)), (arg4.view.read (Elt F) (harg4.unread x1)), (arg5.view.read (Elt F) (harg5.unread x2)), (arg6.view.read (Elt F) (harg6.unread x3)),
      View.ld (e' := .f32) (arg7.view.read (Elt F) (harg7.unread x4)) (Rect.unit (s := S64x128) ![0, 0] S64x16.size inb_S64x128_S64x16_0_0),
      (View.ld (e' := .f32) (arg8.view.read (Elt F) (harg8.unread x5)) (Rect.unit (s := S1x16x64) ![0, 0, 0] S1x16x64.size inb_S1x16x64_S1x16x64_0_0_0)),
      (View.ld (e' := .f32) (arg9.view.read (Elt F) (harg9.unread x6)) (Rect.unit (s := S1x1x16) ![0, 0, 0] S1x1x16.size inb_S1x1x16_S1x1x16_0_0_0)),
      (View.ld (e' := .f32) (arg10.view.read (Elt F) (harg10.unread x7)) (Rect.unit (s := S1x16x1) ![0, 0, 0] S1x16x1.size inb_S1x16x1_S1x16x1_0_0_0)), (arg11.view.read (Elt F) (harg11.unread x8))⟩
      (fun h hh => View.ld (e' := .f32) (arg17.view.read (Elt F) (harg17.unread xo13)) (rC h hh))
      (fun h hh => View.ld (e' := .f32) (arg17.view.read (Elt F) (harg17.unread xo13)) (rC h hh))
      (View.ld (e' := .f32) (arg18.view.read (Elt F) (harg18.unread xo14)) (Rect.unit (s := S1x8x256) ![0, 0, 0] S1x8x256.size inb_S1x8x256_S1x8x256_0_0_0))
      (View.ld (e' := .f32) (arg19.view.read (Elt F) (harg19.unread xo15)) (Rect.unit (s := S1x8x1) ![0, 0, 0] S1x8x1.size inb_S1x8x1_S1x8x1_0_0_0))) (View.ld (e' := .f32) (arg18.view.read (Elt F) (harg18.unread xo14)) (Rect.unit (s := S1x8x256) ![0, 0, 0] S1x8x256.size inb_S1x8x256_S1x8x256_0_0_0))⟩ :: [] := by sl_kernel_rfl

theorem later_m_raw (hc0 : ¬firstChunk i) (xo13 : Vec F S1x8x256x512 .f32) (xo14 : Vec F S1x8x256 .f32) (xo15 : Vec F S1x8x1 .f32)  :
    (runLater c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11 xo13 xo14 xo15).2.2.2.1 = ⟨Rect.unit (s := S1x8x1) ![0, 0, 0] S1x8x1.size inb_S1x8x1_S1x8x1_0_0_0, mOut (Blocks.head ⟨BitVec.ofNat 32 (i 2), (arg3.view.read (Elt F) (harg3.unread x0)), (arg4.view.read (Elt F) (harg4.unread x1)), (arg5.view.read (Elt F) (harg5.unread x2)), (arg6.view.read (Elt F) (harg6.unread x3)),
      View.ld (e' := .f32) (arg7.view.read (Elt F) (harg7.unread x4)) (Rect.unit (s := S64x128) ![0, 0] S64x16.size inb_S64x128_S64x16_0_0),
      (View.ld (e' := .f32) (arg8.view.read (Elt F) (harg8.unread x5)) (Rect.unit (s := S1x16x64) ![0, 0, 0] S1x16x64.size inb_S1x16x64_S1x16x64_0_0_0)),
      (View.ld (e' := .f32) (arg9.view.read (Elt F) (harg9.unread x6)) (Rect.unit (s := S1x1x16) ![0, 0, 0] S1x1x16.size inb_S1x1x16_S1x1x16_0_0_0)),
      (View.ld (e' := .f32) (arg10.view.read (Elt F) (harg10.unread x7)) (Rect.unit (s := S1x16x1) ![0, 0, 0] S1x16x1.size inb_S1x16x1_S1x16x1_0_0_0)), (arg11.view.read (Elt F) (harg11.unread x8))⟩
      (fun h hh => View.ld (e' := .f32) (arg17.view.read (Elt F) (harg17.unread xo13)) (rC h hh))
      (fun h hh => View.ld (e' := .f32) (arg17.view.read (Elt F) (harg17.unread xo13)) (rC h hh))
      (View.ld (e' := .f32) (arg18.view.read (Elt F) (harg18.unread xo14)) (Rect.unit (s := S1x8x256) ![0, 0, 0] S1x8x256.size inb_S1x8x256_S1x8x256_0_0_0))
      (View.ld (e' := .f32) (arg19.view.read (Elt F) (harg19.unread xo15)) (Rect.unit (s := S1x8x1) ![0, 0, 0] S1x8x1.size inb_S1x8x1_S1x8x1_0_0_0))) (View.ld (e' := .f32) (arg19.view.read (Elt F) (harg19.unread xo15)) (Rect.unit (s := S1x8x1) ![0, 0, 0] S1x8x1.size inb_S1x8x1_S1x8x1_0_0_0))⟩ :: [] := by sl_kernel_rfl

theorem later_out (hc0 : ¬firstChunk i) (xo13 : Vec F S1x8x256x512 .f32) (xo14 : Vec F S1x8x256 .f32) (xo15 : Vec F S1x8x1 .f32) :
    (runLater c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11 xo13 xo14 xo15).1 = outL ((blocksOf i x0 x1 x2 x3 x4 x5 x6 x7 x8).heads ⟨xo13, xo14, xo15⟩) := by
  refine (later_out_raw c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 xo13 xo14 xo15).trans ?_
  rw [harg3.read_unread, harg4.read_unread, harg5.read_unread, harg6.read_unread, harg7.read_unread, harg8.read_unread, harg9.read_unread, harg10.read_unread, harg11.read_unread, harg17.read_unread, harg18.read_unread, harg19.read_unread,
    View.ld_unit_lit inb_S1x16x64_S1x16x64_0_0_0 x5 (by decide), View.ld_unit_lit inb_S1x1x16_S1x1x16_0_0_0 x6 (by decide), View.ld_unit_lit inb_S1x16x1_S1x16x1_0_0_0 x7 (by decide),
    View.ld_unit_lit inb_S1x8x256_S1x8x256_0_0_0 xo14 (by decide), View.ld_unit_lit inb_S1x8x1_S1x8x1_0_0_0 xo15 (by decide)]; rfl

theorem later_c (hc0 : ¬firstChunk i) (xo13 : Vec F S1x8x256x512 .f32) (xo14 : Vec F S1x8x256 .f32) (xo15 : Vec F S1x8x1 .f32) :
    (runLater c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11 xo13 xo14 xo15).2.1 = cL ((blocksOf i x0 x1 x2 x3 x4 x5 x6 x7 x8).heads ⟨xo13, xo14, xo15⟩) := by
  refine (later_c_raw c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 xo13 xo14 xo15).trans ?_
  rw [harg3.read_unread, harg4.read_unread, harg5.read_unread, harg6.read_unread, harg7.read_unread, harg8.read_unread, harg9.read_unread, harg10.read_unread, harg11.read_unread, harg17.read_unread, harg18.read_unread, harg19.read_unread,
    View.ld_unit_lit inb_S1x16x64_S1x16x64_0_0_0 x5 (by decide), View.ld_unit_lit inb_S1x1x16_S1x1x16_0_0_0 x6 (by decide), View.ld_unit_lit inb_S1x16x1_S1x16x1_0_0_0 x7 (by decide),
    View.ld_unit_lit inb_S1x8x256_S1x8x256_0_0_0 xo14 (by decide), View.ld_unit_lit inb_S1x8x1_S1x8x1_0_0_0 xo15 (by decide)]; rfl

theorem later_n (hc0 : ¬firstChunk i) (xo13 : Vec F S1x8x256x512 .f32) (xo14 : Vec F S1x8x256 .f32) (xo15 : Vec F S1x8x1 .f32) :
    (runLater c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11 xo13 xo14 xo15).2.2.1 = ⟨Rect.unit (s := S1x8x256) ![0, 0, 0] S1x8x256.size inb_S1x8x256_S1x8x256_0_0_0, nOut ((blocksOf i x0 x1 x2 x3 x4 x5 x6 x7 x8).heads ⟨xo13, xo14, xo15⟩) xo14⟩ :: [] := by
  refine (later_n_raw c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 xo13 xo14 xo15).trans ?_
  rw [harg3.read_unread, harg4.read_unread, harg5.read_unread, harg6.read_unread, harg7.read_unread, harg8.read_unread, harg9.read_unread, harg10.read_unread, harg11.read_unread, harg17.read_unread, harg18.read_unread, harg19.read_unread,
    View.ld_unit_lit inb_S1x16x64_S1x16x64_0_0_0 x5 (by decide), View.ld_unit_lit inb_S1x1x16_S1x1x16_0_0_0 x6 (by decide), View.ld_unit_lit inb_S1x16x1_S1x16x1_0_0_0 x7 (by decide),
    View.ld_unit_lit inb_S1x8x256_S1x8x256_0_0_0 xo14 (by decide), View.ld_unit_lit inb_S1x8x1_S1x8x1_0_0_0 xo15 (by decide)]; rfl

theorem later_m (hc0 : ¬firstChunk i) (xo13 : Vec F S1x8x256x512 .f32) (xo14 : Vec F S1x8x256 .f32) (xo15 : Vec F S1x8x1 .f32) :
    (runLater c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11 xo13 xo14 xo15).2.2.2.1 = ⟨Rect.unit (s := S1x8x1) ![0, 0, 0] S1x8x1.size inb_S1x8x1_S1x8x1_0_0_0, mOut ((blocksOf i x0 x1 x2 x3 x4 x5 x6 x7 x8).heads ⟨xo13, xo14, xo15⟩) xo15⟩ :: [] := by
  refine (later_m_raw c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 xo13 xo14 xo15).trans ?_
  rw [harg3.read_unread, harg4.read_unread, harg5.read_unread, harg6.read_unread, harg7.read_unread, harg8.read_unread, harg9.read_unread, harg10.read_unread, harg11.read_unread, harg17.read_unread, harg18.read_unread, harg19.read_unread,
    View.ld_unit_lit inb_S1x16x64_S1x16x64_0_0_0 x5 (by decide), View.ld_unit_lit inb_S1x1x16_S1x1x16_0_0_0 x6 (by decide), View.ld_unit_lit inb_S1x16x1_S1x16x1_0_0_0 x7 (by decide),
    View.ld_unit_lit inb_S1x8x256_S1x8x256_0_0_0 xo14 (by decide), View.ld_unit_lit inb_S1x8x1_S1x8x1_0_0_0 xo15 (by decide)]; rfl

theorem readC_2 (hc0 : firstChunk i) (h : ℕ) (hh : h < 8) (hk : 1 ≤ h) :
    arg17.view.readCov (runFirst.sl.H13_2 c i arg4 harg4 arg5 harg5 arg7 harg7 arg8 harg8 arg9 harg9 arg10 harg10 arg12 harg12 arg14 harg14 arg17 arg19 x1 x2 x4 x5 x6 x7 x9 x11) (rC h hh).toLoadRect = View.ld (e' := .f32) x9 (rC h hh) := by
  unfold runFirst.sl.H13_2
  exact readC_cons _ _ _ 0 _ _ (fun h hh _ => readC_1 _ _ _ _ _ h hh) h hh hk
theorem readC_3 (hc0 : firstChunk i) (h : ℕ) (hh : h < 8) (hk : 2 ≤ h) :
    arg17.view.readCov (runFirst.sl.H13_3 c i arg4 harg4 arg5 harg5 arg7 harg7 arg8 harg8 arg9 harg9 arg10 harg10 arg12 harg12 arg14 harg14 arg17 arg19 x1 x2 x4 x5 x6 x7 x9 x11) (rC h hh).toLoadRect = View.ld (e' := .f32) x9 (rC h hh) := by
  unfold runFirst.sl.H13_3
  exact readC_cons _ _ _ 1 _ _ (fun h hh hk => readC_2 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 h hh hk) h hh hk
theorem readC_4 (hc0 : firstChunk i) (h : ℕ) (hh : h < 8) (hk : 3 ≤ h) :
    arg17.view.readCov (runFirst.sl.H13_4 c i arg4 harg4 arg5 harg5 arg7 harg7 arg8 harg8 arg9 harg9 arg10 harg10 arg12 harg12 arg14 harg14 arg17 arg19 x1 x2 x4 x5 x6 x7 x9 x11) (rC h hh).toLoadRect = View.ld (e' := .f32) x9 (rC h hh) := by
  unfold runFirst.sl.H13_4
  exact readC_cons _ _ _ 2 _ _ (fun h hh hk => readC_3 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 h hh hk) h hh hk
theorem readC_5 (hc0 : firstChunk i) (h : ℕ) (hh : h < 8) (hk : 4 ≤ h) :
    arg17.view.readCov (runFirst.sl.H13_5 c i arg4 harg4 arg5 harg5 arg7 harg7 arg8 harg8 arg9 harg9 arg10 harg10 arg12 harg12 arg14 harg14 arg17 arg19 x1 x2 x4 x5 x6 x7 x9 x11) (rC h hh).toLoadRect = View.ld (e' := .f32) x9 (rC h hh) := by
  unfold runFirst.sl.H13_5
  exact readC_cons _ _ _ 3 _ _ (fun h hh hk => readC_4 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 h hh hk) h hh hk
theorem readC_6 (hc0 : firstChunk i) (h : ℕ) (hh : h < 8) (hk : 5 ≤ h) :
    arg17.view.readCov (runFirst.sl.H13_6 c i arg4 harg4 arg5 harg5 arg7 harg7 arg8 harg8 arg9 harg9 arg10 harg10 arg12 harg12 arg14 harg14 arg17 arg19 x1 x2 x4 x5 x6 x7 x9 x11) (rC h hh).toLoadRect = View.ld (e' := .f32) x9 (rC h hh) := by
  unfold runFirst.sl.H13_6
  exact readC_cons _ _ _ 4 _ _ (fun h hh hk => readC_5 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 h hh hk) h hh hk
theorem readC_7 (hc0 : firstChunk i) (h : ℕ) (hh : h < 8) (hk : 6 ≤ h) :
    arg17.view.readCov (runFirst.sl.H13_7 c i arg4 harg4 arg5 harg5 arg7 harg7 arg8 harg8 arg9 harg9 arg10 harg10 arg12 harg12 arg14 harg14 arg17 arg19 x1 x2 x4 x5 x6 x7 x9 x11) (rC h hh).toLoadRect = View.ld (e' := .f32) x9 (rC h hh) := by
  unfold runFirst.sl.H13_7
  exact readC_cons _ _ _ 5 _ _ (fun h hh hk => readC_6 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 h hh hk) h hh hk
theorem readC_8 (hc0 : firstChunk i) (h : ℕ) (hh : h < 8) (hk : 7 ≤ h) :
    arg17.view.readCov (runFirst.sl.H13_8 c i arg4 harg4 arg5 harg5 arg7 harg7 arg8 harg8 arg9 harg9 arg10 harg10 arg12 harg12 arg14 harg14 arg17 arg19 x1 x2 x4 x5 x6 x7 x9 x11) (rC h hh).toLoadRect = View.ld (e' := .f32) x9 (rC h hh) := by
  unfold runFirst.sl.H13_8
  exact readC_cons _ _ _ 6 _ _ (fun h hh hk => readC_7 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 h hh hk) h hh hk
theorem first_load1 (hc0 : firstChunk i) :
    (fun h hh => arg17.view.readCov (stored1 c i arg4 harg4 arg5 harg5 arg7 harg7 arg8 harg8 arg9 harg9 arg10 harg10 arg12 harg12 arg14 harg14 arg17 arg19 x1 x2 x4 x5 x6 x7 x9 x11 h) (rC h hh).toLoadRect) = fun h hh => View.ld (e' := .f32) x9 (rC h hh) := by
  funext h hh
  match h, hh with
  | 0, hh => exact readC_1 _ _ _ _ _ 0 hh
  | 1, hh => exact readC_1 _ _ _ _ _ 1 hh
  | 2, hh => exact readC_2 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 2 hh (by decide)
  | 3, hh => exact readC_3 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 3 hh (by decide)
  | 4, hh => exact readC_4 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 4 hh (by decide)
  | 5, hh => exact readC_5 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 5 hh (by decide)
  | 6, hh => exact readC_6 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 6 hh (by decide)
  | 7, hh => exact readC_7 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 7 hh (by decide)
  | h + 8, hh => omega
theorem first_load2 (hc0 : firstChunk i) :
    (fun h hh => arg17.view.readCov (stored2 c i arg4 harg4 arg5 harg5 arg7 harg7 arg8 harg8 arg9 harg9 arg10 harg10 arg12 harg12 arg14 harg14 arg17 arg19 x1 x2 x4 x5 x6 x7 x9 x11 h) (rC h hh).toLoadRect) = fun h hh => View.ld (e' := .f32) x9 (rC h hh) := by
  funext h hh
  match h, hh with
  | 0, hh => exact readC_1 _ _ _ _ _ 0 hh
  | 1, hh => exact readC_2 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 1 hh (by decide)
  | 2, hh => exact readC_3 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 2 hh (by decide)
  | 3, hh => exact readC_4 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 3 hh (by decide)
  | 4, hh => exact readC_5 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 4 hh (by decide)
  | 5, hh => exact readC_6 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 5 hh (by decide)
  | 6, hh => exact readC_7 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 6 hh (by decide)
  | 7, hh => exact readC_8 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0 7 hh (by decide)
  | h + 8, hh => omega
theorem first_loadN (hc0 : firstChunk i) :
    arg18.view.readCov (runFirst.sl.H14_1 c arg13 harg13 x10) (Rect.unit (s := S1x8x256) ![0, 0, 0] S1x8x256.size inb_S1x8x256_S1x8x256_0_0_0).toLoadRect = x10 := by
  unfold runFirst.sl.H14_1
  rw [View.readCov_unit_lit _ _ _ (by decide)]
  unfold k0_pay4
  simp only [shapeCast_shapeCast]
  change View.ld (e' := .f32) (arg13.view.read (Elt F) (harg13.unread x10)) _ = _
  rw [harg13.read_unread, View.ld_unit_lit _ _ (by decide)]
theorem first_loadM (hc0 : firstChunk i) :
    arg19.view.readCov (runFirst.sl.H15_1 c arg14 harg14 x11) (Rect.unit (s := S1x8x1) ![0, 0, 0] S1x8x1.size inb_S1x8x1_S1x8x1_0_0_0).toLoadRect = x11 := by
  unfold runFirst.sl.H15_1
  rw [View.readCov_unit_lit _ _ _ (by decide)]
  unfold k0_pay5
  simp only [shapeCast_shapeCast]
  change View.ld (e' := .f32) (arg14.view.read (Elt F) (harg14.unread x11)) _ = _
  rw [harg14.read_unread, View.ld_unit_lit _ _ (by decide)]

theorem first_out_raw (hc0 : firstChunk i)  :
    (runFirst c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11).1 = outL (Blocks.head ⟨BitVec.ofNat 32 (i 2), (arg3.view.read (Elt F) (harg3.unread x0)), (arg4.view.read (Elt F) (harg4.unread x1)), (arg5.view.read (Elt F) (harg5.unread x2)), (arg6.view.read (Elt F) (harg6.unread x3)),
      View.ld (e' := .f32) (arg7.view.read (Elt F) (harg7.unread x4)) (Rect.unit (s := S64x128) ![0, 0] S64x16.size inb_S64x128_S64x16_0_0),
      (View.ld (e' := .f32) (arg8.view.read (Elt F) (harg8.unread x5)) (Rect.unit (s := S1x16x64) ![0, 0, 0] S1x16x64.size inb_S1x16x64_S1x16x64_0_0_0)),
      (View.ld (e' := .f32) (arg9.view.read (Elt F) (harg9.unread x6)) (Rect.unit (s := S1x1x16) ![0, 0, 0] S1x1x16.size inb_S1x1x16_S1x1x16_0_0_0)),
      (View.ld (e' := .f32) (arg10.view.read (Elt F) (harg10.unread x7)) (Rect.unit (s := S1x16x1) ![0, 0, 0] S1x16x1.size inb_S1x16x1_S1x16x1_0_0_0)), (arg11.view.read (Elt F) (harg11.unread x8))⟩
      (fun h hh => arg17.view.readCov (stored1 c i arg4 harg4 arg5 harg5 arg7 harg7 arg8 harg8 arg9 harg9 arg10 harg10 arg12 harg12 arg14 harg14 arg17 arg19 x1 x2 x4 x5 x6 x7 x9 x11 h) (rC h hh).toLoadRect)
      (fun h hh => arg17.view.readCov (stored2 c i arg4 harg4 arg5 harg5 arg7 harg7 arg8 harg8 arg9 harg9 arg10 harg10 arg12 harg12 arg14 harg14 arg17 arg19 x1 x2 x4 x5 x6 x7 x9 x11 h) (rC h hh).toLoadRect)
      (arg18.view.readCov (runFirst.sl.H14_1 c arg13 harg13 x10) (Rect.unit (s := S1x8x256) ![0, 0, 0] S1x8x256.size inb_S1x8x256_S1x8x256_0_0_0).toLoadRect)
      (arg19.view.readCov (runFirst.sl.H15_1 c arg14 harg14 x11) (Rect.unit (s := S1x8x1) ![0, 0, 0] S1x8x1.size inb_S1x8x1_S1x8x1_0_0_0).toLoadRect)) := by sl_kernel_rfl

theorem first_c_raw (hc0 : firstChunk i)  :
    (runFirst c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11).2.1 = cL (Blocks.head ⟨BitVec.ofNat 32 (i 2), (arg3.view.read (Elt F) (harg3.unread x0)), (arg4.view.read (Elt F) (harg4.unread x1)), (arg5.view.read (Elt F) (harg5.unread x2)), (arg6.view.read (Elt F) (harg6.unread x3)),
      View.ld (e' := .f32) (arg7.view.read (Elt F) (harg7.unread x4)) (Rect.unit (s := S64x128) ![0, 0] S64x16.size inb_S64x128_S64x16_0_0),
      (View.ld (e' := .f32) (arg8.view.read (Elt F) (harg8.unread x5)) (Rect.unit (s := S1x16x64) ![0, 0, 0] S1x16x64.size inb_S1x16x64_S1x16x64_0_0_0)),
      (View.ld (e' := .f32) (arg9.view.read (Elt F) (harg9.unread x6)) (Rect.unit (s := S1x1x16) ![0, 0, 0] S1x1x16.size inb_S1x1x16_S1x1x16_0_0_0)),
      (View.ld (e' := .f32) (arg10.view.read (Elt F) (harg10.unread x7)) (Rect.unit (s := S1x16x1) ![0, 0, 0] S1x16x1.size inb_S1x16x1_S1x16x1_0_0_0)), (arg11.view.read (Elt F) (harg11.unread x8))⟩
      (fun h hh => arg17.view.readCov (stored1 c i arg4 harg4 arg5 harg5 arg7 harg7 arg8 harg8 arg9 harg9 arg10 harg10 arg12 harg12 arg14 harg14 arg17 arg19 x1 x2 x4 x5 x6 x7 x9 x11 h) (rC h hh).toLoadRect)
      (fun h hh => arg17.view.readCov (stored2 c i arg4 harg4 arg5 harg5 arg7 harg7 arg8 harg8 arg9 harg9 arg10 harg10 arg12 harg12 arg14 harg14 arg17 arg19 x1 x2 x4 x5 x6 x7 x9 x11 h) (rC h hh).toLoadRect)
      (arg18.view.readCov (runFirst.sl.H14_1 c arg13 harg13 x10) (Rect.unit (s := S1x8x256) ![0, 0, 0] S1x8x256.size inb_S1x8x256_S1x8x256_0_0_0).toLoadRect)
      (arg19.view.readCov (runFirst.sl.H15_1 c arg14 harg14 x11) (Rect.unit (s := S1x8x1) ![0, 0, 0] S1x8x1.size inb_S1x8x1_S1x8x1_0_0_0).toLoadRect)) ++ runFirst.sl.H13_1 c arg12 harg12 x9 := by sl_kernel_rfl

theorem first_n_raw (hc0 : firstChunk i)  :
    (runFirst c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11).2.2.1 = ⟨Rect.unit (s := S1x8x256) ![0, 0, 0] S1x8x256.size inb_S1x8x256_S1x8x256_0_0_0, nOut (Blocks.head ⟨BitVec.ofNat 32 (i 2), (arg3.view.read (Elt F) (harg3.unread x0)), (arg4.view.read (Elt F) (harg4.unread x1)), (arg5.view.read (Elt F) (harg5.unread x2)), (arg6.view.read (Elt F) (harg6.unread x3)),
      View.ld (e' := .f32) (arg7.view.read (Elt F) (harg7.unread x4)) (Rect.unit (s := S64x128) ![0, 0] S64x16.size inb_S64x128_S64x16_0_0),
      (View.ld (e' := .f32) (arg8.view.read (Elt F) (harg8.unread x5)) (Rect.unit (s := S1x16x64) ![0, 0, 0] S1x16x64.size inb_S1x16x64_S1x16x64_0_0_0)),
      (View.ld (e' := .f32) (arg9.view.read (Elt F) (harg9.unread x6)) (Rect.unit (s := S1x1x16) ![0, 0, 0] S1x1x16.size inb_S1x1x16_S1x1x16_0_0_0)),
      (View.ld (e' := .f32) (arg10.view.read (Elt F) (harg10.unread x7)) (Rect.unit (s := S1x16x1) ![0, 0, 0] S1x16x1.size inb_S1x16x1_S1x16x1_0_0_0)), (arg11.view.read (Elt F) (harg11.unread x8))⟩
      (fun h hh => arg17.view.readCov (stored1 c i arg4 harg4 arg5 harg5 arg7 harg7 arg8 harg8 arg9 harg9 arg10 harg10 arg12 harg12 arg14 harg14 arg17 arg19 x1 x2 x4 x5 x6 x7 x9 x11 h) (rC h hh).toLoadRect)
      (fun h hh => arg17.view.readCov (stored2 c i arg4 harg4 arg5 harg5 arg7 harg7 arg8 harg8 arg9 harg9 arg10 harg10 arg12 harg12 arg14 harg14 arg17 arg19 x1 x2 x4 x5 x6 x7 x9 x11 h) (rC h hh).toLoadRect)
      (arg18.view.readCov (runFirst.sl.H14_1 c arg13 harg13 x10) (Rect.unit (s := S1x8x256) ![0, 0, 0] S1x8x256.size inb_S1x8x256_S1x8x256_0_0_0).toLoadRect)
      (arg19.view.readCov (runFirst.sl.H15_1 c arg14 harg14 x11) (Rect.unit (s := S1x8x1) ![0, 0, 0] S1x8x1.size inb_S1x8x1_S1x8x1_0_0_0).toLoadRect)) (arg18.view.readCov (runFirst.sl.H14_1 c arg13 harg13 x10) (Rect.unit (s := S1x8x256) ![0, 0, 0] S1x8x256.size inb_S1x8x256_S1x8x256_0_0_0).toLoadRect)⟩ :: runFirst.sl.H14_1 c arg13 harg13 x10 := by sl_kernel_rfl

theorem first_m_raw (hc0 : firstChunk i)  :
    (runFirst c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11).2.2.2.1 = ⟨Rect.unit (s := S1x8x1) ![0, 0, 0] S1x8x1.size inb_S1x8x1_S1x8x1_0_0_0, mOut (Blocks.head ⟨BitVec.ofNat 32 (i 2), (arg3.view.read (Elt F) (harg3.unread x0)), (arg4.view.read (Elt F) (harg4.unread x1)), (arg5.view.read (Elt F) (harg5.unread x2)), (arg6.view.read (Elt F) (harg6.unread x3)),
      View.ld (e' := .f32) (arg7.view.read (Elt F) (harg7.unread x4)) (Rect.unit (s := S64x128) ![0, 0] S64x16.size inb_S64x128_S64x16_0_0),
      (View.ld (e' := .f32) (arg8.view.read (Elt F) (harg8.unread x5)) (Rect.unit (s := S1x16x64) ![0, 0, 0] S1x16x64.size inb_S1x16x64_S1x16x64_0_0_0)),
      (View.ld (e' := .f32) (arg9.view.read (Elt F) (harg9.unread x6)) (Rect.unit (s := S1x1x16) ![0, 0, 0] S1x1x16.size inb_S1x1x16_S1x1x16_0_0_0)),
      (View.ld (e' := .f32) (arg10.view.read (Elt F) (harg10.unread x7)) (Rect.unit (s := S1x16x1) ![0, 0, 0] S1x16x1.size inb_S1x16x1_S1x16x1_0_0_0)), (arg11.view.read (Elt F) (harg11.unread x8))⟩
      (fun h hh => arg17.view.readCov (stored1 c i arg4 harg4 arg5 harg5 arg7 harg7 arg8 harg8 arg9 harg9 arg10 harg10 arg12 harg12 arg14 harg14 arg17 arg19 x1 x2 x4 x5 x6 x7 x9 x11 h) (rC h hh).toLoadRect)
      (fun h hh => arg17.view.readCov (stored2 c i arg4 harg4 arg5 harg5 arg7 harg7 arg8 harg8 arg9 harg9 arg10 harg10 arg12 harg12 arg14 harg14 arg17 arg19 x1 x2 x4 x5 x6 x7 x9 x11 h) (rC h hh).toLoadRect)
      (arg18.view.readCov (runFirst.sl.H14_1 c arg13 harg13 x10) (Rect.unit (s := S1x8x256) ![0, 0, 0] S1x8x256.size inb_S1x8x256_S1x8x256_0_0_0).toLoadRect)
      (arg19.view.readCov (runFirst.sl.H15_1 c arg14 harg14 x11) (Rect.unit (s := S1x8x1) ![0, 0, 0] S1x8x1.size inb_S1x8x1_S1x8x1_0_0_0).toLoadRect)) (arg19.view.readCov (runFirst.sl.H15_1 c arg14 harg14 x11) (Rect.unit (s := S1x8x1) ![0, 0, 0] S1x8x1.size inb_S1x8x1_S1x8x1_0_0_0).toLoadRect)⟩ :: runFirst.sl.H15_1 c arg14 harg14 x11 := by sl_kernel_rfl

theorem first_out (hc0 : firstChunk i) :
    (runFirst c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11).1 = outL ((blocksOf i x0 x1 x2 x3 x4 x5 x6 x7 x8).heads ⟨x9, x10, x11⟩) := by
  refine (first_out_raw c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0).trans ?_
  rw [harg3.read_unread, harg4.read_unread, harg5.read_unread, harg6.read_unread, harg7.read_unread, harg8.read_unread, harg9.read_unread, harg10.read_unread, harg11.read_unread, first_loadN c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_loadM c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_load1 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_load2 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0,
    View.ld_unit_lit inb_S1x16x64_S1x16x64_0_0_0 x5 (by decide), View.ld_unit_lit inb_S1x1x16_S1x1x16_0_0_0 x6 (by decide), View.ld_unit_lit inb_S1x16x1_S1x16x1_0_0_0 x7 (by decide)]; rfl

theorem first_c (hc0 : firstChunk i) :
    (runFirst c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11).2.1 = cL ((blocksOf i x0 x1 x2 x3 x4 x5 x6 x7 x8).heads ⟨x9, x10, x11⟩) ++ runFirst.sl.H13_1 c arg12 harg12 x9 := by
  refine (first_c_raw c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0).trans ?_
  rw [harg3.read_unread, harg4.read_unread, harg5.read_unread, harg6.read_unread, harg7.read_unread, harg8.read_unread, harg9.read_unread, harg10.read_unread, harg11.read_unread, first_loadN c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_loadM c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_load1 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_load2 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0,
    View.ld_unit_lit inb_S1x16x64_S1x16x64_0_0_0 x5 (by decide), View.ld_unit_lit inb_S1x1x16_S1x1x16_0_0_0 x6 (by decide), View.ld_unit_lit inb_S1x16x1_S1x16x1_0_0_0 x7 (by decide)]; rfl

theorem first_n (hc0 : firstChunk i) :
    (runFirst c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11).2.2.1 = ⟨Rect.unit (s := S1x8x256) ![0, 0, 0] S1x8x256.size inb_S1x8x256_S1x8x256_0_0_0, nOut ((blocksOf i x0 x1 x2 x3 x4 x5 x6 x7 x8).heads ⟨x9, x10, x11⟩) x10⟩ :: runFirst.sl.H14_1 c arg13 harg13 x10 := by
  refine (first_n_raw c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0).trans ?_
  rw [harg3.read_unread, harg4.read_unread, harg5.read_unread, harg6.read_unread, harg7.read_unread, harg8.read_unread, harg9.read_unread, harg10.read_unread, harg11.read_unread, first_loadN c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_loadM c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_load1 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_load2 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0,
    View.ld_unit_lit inb_S1x16x64_S1x16x64_0_0_0 x5 (by decide), View.ld_unit_lit inb_S1x1x16_S1x1x16_0_0_0 x6 (by decide), View.ld_unit_lit inb_S1x16x1_S1x16x1_0_0_0 x7 (by decide)]; rfl

theorem first_m (hc0 : firstChunk i) :
    (runFirst c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 hc0 x0 x1 x2 x3 x4 x5 x6 x7 x8 x9 x10 x11).2.2.2.1 = ⟨Rect.unit (s := S1x8x1) ![0, 0, 0] S1x8x1.size inb_S1x8x1_S1x8x1_0_0_0, mOut ((blocksOf i x0 x1 x2 x3 x4 x5 x6 x7 x8).heads ⟨x9, x10, x11⟩) x11⟩ :: runFirst.sl.H15_1 c arg14 harg14 x11 := by
  refine (first_m_raw c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0).trans ?_
  rw [harg3.read_unread, harg4.read_unread, harg5.read_unread, harg6.read_unread, harg7.read_unread, harg8.read_unread, harg9.read_unread, harg10.read_unread, harg11.read_unread, first_loadN c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_loadM c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_load1 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0, first_load2 c i arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 x0 x1 x2 x3 x4 x5 x6 x7 x8 x9 x10 x11 hc0,
    View.ld_unit_lit inb_S1x16x64_S1x16x64_0_0_0 x5 (by decide), View.ld_unit_lit inb_S1x1x16_S1x1x16_0_0_0 x6 (by decide), View.ld_unit_lit inb_S1x16x1_S1x16x1_0_0_0 x7 (by decide)]; rfl

end Cert.KernelIdeal.Recur

end
-- ==== Proof.Frame.lean ====
/- Every run of the kernel ends, with the outputs at what the chunks compute in turn. -/
module

public import proofs.«01_k».proof.Proof.Stores
public import proofs.«01_k».proof.Proof.Gen.KernelIdeal.Points

@[expose] public section

set_option maxRecDepth 16384

noncomputable section

namespace Cert.KernelIdeal.Recur

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The gates' block at point `t` over arbitrary contents of the part no transfer moves (the last column block overhangs the array). -/
def dflt4 : (cfg0.win 4).block.Idx → Elt F (cfg0.win 4).elt := fun _ => Classical.choice inferInstance
def X4 (c : Dev nD) (t : Fin cfg0.N) : Vec F S64x128 .f32 := (cfg0.win 4).fill (cfg0.grid.coords t) dflt4 (iblk m c 4 t)

theorem xsize4 : ∀ t : Fin cfg0.N, (cfg0.win 4).xsize (cfg0.grid.coords t) 0 = 64 ∧ (cfg0.win 4).xsize (cfg0.grid.coords t) 1 = 16 := by decide +kernel

/-- The first 16 columns of the gates' buffer are the array's, whatever the rest holds. -/
theorem cols4 (c : Dev nD) (t : Fin cfg0.N) (d d' : Vec F S64x128 .f32) :
    View.ld (e' := .f32) (S := S64x128) ((cfg0.win 4).fill (cfg0.grid.coords t) d (iblk m c 4 t)) (Rect.unit (s := S64x128) ![0, 0] S64x16.size inb_S64x128_S64x16_0_0)
      = View.ld (e' := .f32) (S := S64x128) ((cfg0.win 4).fill (cfg0.grid.coords t) d' (iblk m c 4 t)) (Rect.unit (s := S64x128) ![0, 0] S64x16.size inb_S64x128_S64x16_0_0) := by
  funext x
  have hm : (cfg0.win 4).moved (cfg0.grid.coords t) ((Rect.unit (s := S64x128) ![0, 0] S64x16.size inb_S64x128_S64x16_0_0).idx x) = true := by
    refine ((cfg0.win 4).moved_iff _ _).mpr fun a => ?_
    match a with
    | ⟨0, _⟩ =>
      refine lt_of_lt_of_eq ?_ (xsize4 t).1.symm
      rw [Rect.idx_unit_val]; have := (x 0).isLt; simpa using this
    | ⟨1, _⟩ =>
      refine lt_of_lt_of_eq ?_ (xsize4 t).2.symm
      rw [Rect.idx_unit_val]; have := (x 1).isLt; simpa using this
  unfold View.ld Pipeline.Window.fill
  rw [dif_pos hm, dif_pos hm]

/-- The blocks the body computes from at point `t`, the state it starts from, and the state the first chunk starts from. -/
def blks (c : Dev nD) (t : Fin cfg0.N) : Blocks F :=
  blocksOf (grid0.coords t) (X0_0 m c t) (X0_1 m c t) (X0_2 m c t) (X0_3 m c t) (X4 m c t) (iblk m c 5 t) (iblk m c 6 t) (iblk m c 7 t) (iblk m c 8 t)
def start (c : Dev nD) (t : Fin cfg0.N) : St F := ⟨iblk m c 9 t, iblk m c 10 t, iblk m c 11 t⟩
def entry (c : Dev nD) : (n : ℕ) → n < cfg0.N → St F
  | 0, h => start m c ⟨0, h⟩
  | n + 1, h => if (n + 1) % 32 = 0 then start m c ⟨n + 1, h⟩ else (blks m c ⟨n, Nat.lt_of_succ_lt h⟩).next (entry c n (Nat.lt_of_succ_lt h))

theorem entry_first (c : Dev nD) (t : Fin cfg0.N) (h : t.val % 32 = 0) : entry m c t.val t.isLt = start m c t := by
  obtain ⟨n, hn⟩ := t
  cases n with
  | zero => rfl
  | succ n => exact if_pos h
theorem entry_later (c : Dev nD) (t : Fin cfg0.N) (h : ¬t.val % 32 = 0) (hp : t.val - 1 < cfg0.N) :
    entry m c t.val t.isLt = (blks m c ⟨t.val - 1, hp⟩).next (entry m c (t.val - 1) hp) := by
  obtain ⟨n, hn⟩ := t
  cases n with
  | zero => exact absurd (Nat.zero_mod _) h
  | succ n => exact if_neg h

/-- The state after point `t`. -/
def after (c : Dev nD) (t : Fin cfg0.N) : St F := (blks m c t).next (entry m c t.val t.isLt)

/-! ## The pipeline's proof data -/

/-- The arrays as the region finds them; after the body each input's buffer at its block, the outputs' at the chunk's rows and the
    state after it; nothing owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (blks m c t).rows (entry m c t.val t.isLt)
    | ⟨13, _⟩ => (after m c t).C
    | ⟨14, _⟩ => (after m c t).n
    | ⟨15, _⟩ => (after m c t).m
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = X4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = (blks m c t).rows (entry m c t.val t.isLt) := by dsimp only [dats]
theorem after_13 (c : Dev nD) (t : Fin cfg0.N) : (dats m 0 c).after 13 t = (after m c t).C := by dsimp only [dats]
theorem after_14 (c : Dev nD) (t : Fin cfg0.N) : (dats m 0 c).after 14 t = (after m c t).n := by dsimp only [dats]
theorem after_15 (c : Dev nD) (t : Fin cfg0.N) : (dats m 0 c).after 15 t = (after m c t).m := by dsimp only [dats]

theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
/-- The gates' buffer is fetched at every point. -/
theorem fetch4 : ∀ t : Fin cfg0.N, (cfg0.win 4).fetch t = true := by decide +kernel
theorem before_4 (c : Dev nD) (t : Fin cfg0.N) (d) : (dats m 0 c).before 4 t d = (cfg0.win 4).fill (cfg0.grid.coords t) d (iblk m c 4 t) := by
  unfold Dat.before; rw [if_pos (fetch4 t)]; rfl
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
/-- At a later chunk the state's buffers hold what the chunk before left. -/
theorem before_13 (c : Dev nD) (t : Fin cfg0.N) (h0 : ¬t.val % 32 = 0) (d) :
    (dats m 0 c).before 13 t d = (entry m c t.val t.isLt).C := by
  have hN : t.val < 128 := lt_of_lt_of_eq t.isLt (show cfg0.N = 128 from N_0)
  rw [entry_later m c t h0 (by omega), Dat.before_out_kept _ 13 rfl t (by omega) (Bool.eq_false_iff.mpr fun h => by have := (flush0_13 _).mp h; dsimp only at this; omega)
    (fun _ => rfl) (fun _ _ => rfl)]
  dsimp only [dats]; rfl
/-- At a later chunk the state's buffers hold what the chunk before left. -/
theorem before_14 (c : Dev nD) (t : Fin cfg0.N) (h0 : ¬t.val % 32 = 0) (d) :
    (dats m 0 c).before 14 t d = (entry m c t.val t.isLt).n := by
  have hN : t.val < 128 := lt_of_lt_of_eq t.isLt (show cfg0.N = 128 from N_0)
  rw [entry_later m c t h0 (by omega), Dat.before_out_kept _ 14 rfl t (by omega) (Bool.eq_false_iff.mpr fun h => by have := (flush0_14 _).mp h; dsimp only at this; omega)
    (fun _ => rfl) (fun _ _ => rfl)]
  dsimp only [dats]; rfl
/-- At a later chunk the state's buffers hold what the chunk before left. -/
theorem before_15 (c : Dev nD) (t : Fin cfg0.N) (h0 : ¬t.val % 32 = 0) (d) :
    (dats m 0 c).before 15 t d = (entry m c t.val t.isLt).m := by
  have hN : t.val < 128 := lt_of_lt_of_eq t.isLt (show cfg0.N = 128 from N_0)
  rw [entry_later m c t h0 (by omega), Dat.before_out_kept _ 15 rfl t (by omega) (Bool.eq_false_iff.mpr fun h => by have := (flush0_15 _).mp h; dsimp only at this; omega)
    (fun _ => rfl) (fun _ _ => rfl)]
  dsimp only [dats]; rfl

/-! ## The body obligation, at a generic point -/

/-- What the body is called with at point `t`, and what it returns: the buffers of the clipped windows on the part their transfers move. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))
def bodyPost (c : Dev nD) (t : Fin cfg0.N) : sProp 𝕄 :=
  iprop((dats m 0 c).Φ t.succ ∗ (dats m 0 c).owesAt () t.succ
    ∗ (∃ d, owns (c : Thread nD τ) (ms0 t) fullShare ((cfg0.win 0).fill (cfg0.grid.coords t) d ((cfg0.win 0).cut (cfg0.grid.coords t) ((dats m 0 c).after 0 t))))
    ∗ (∃ d, owns (c : Thread nD τ) (ms1 t) fullShare ((cfg0.win 1).fill (cfg0.grid.coords t) d ((cfg0.win 1).cut (cfg0.grid.coords t) ((dats m 0 c).after 1 t))))
    ∗ (∃ d, owns (c : Thread nD τ) (ms2 t) fullShare ((cfg0.win 2).fill (cfg0.grid.coords t) d ((cfg0.win 2).cut (cfg0.grid.coords t) ((dats m 0 c).after 2 t))))
    ∗ (∃ d, owns (c : Thread nD τ) (ms3 t) fullShare ((cfg0.win 3).fill (cfg0.grid.coords t) d ((cfg0.win 3).cut (cfg0.grid.coords t) ((dats m 0 c).after 3 t))))
    ∗ (∃ d, owns (c : Thread nD τ) (ms4 t) fullShare ((cfg0.win 4).fill (cfg0.grid.coords t) d ((cfg0.win 4).cut (cfg0.grid.coords t) ((dats m 0 c).after 4 t))))
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t))

/-- What a list leaves whose first part covers the buffer. -/
theorem cover_first {S : Shape} {e : EltTy} (v : View sig .tc .vmem S e) (f) (L L' : List (View.Piece (Elt F) S e)) (h : ∀ y, ∃ p ∈ L, y ∈ p.1.set) :
    v.read (Elt F) (v.writes (Elt F) f (L ++ L')) = View.canon L := by
  rw [View.writes_append]; exact View.read_writes_eq_canon v _ L h

/-- A list that begins with a store of the whole shape covers it. -/
theorem whole_first {S : Shape} {e : EltTy} {off : Fin S.rank → ℕ} (inb : ∀ a, off a + S.size a ≤ S.size a) (h : ∀ a, off a = 0) (w : S.Idx → Elt F e)
    (L : List (View.Piece (Elt F) S e)) (v : View sig .tc .vmem S e) (f) :
    v.read (Elt F) (v.writes (Elt F) f (⟨Rect.unit off S.size inb, w⟩ :: L)) = w := by
  rw [View.read_writes_eq_canon v f _ fun y => ⟨⟨Rect.unit off S.size inb, w⟩, List.mem_cons_self,
    (Rect.mem_set_unit (inb := inb)).mpr fun a => ⟨by rw [h a]; exact Nat.zero_le _, by rw [h a, Nat.zero_add]; exact (y a).isLt⟩⟩]
  exact View.canon_cons_unit_lit inb w L h

/-- What the stores leave in a buffer. -/
theorem read_out (v : View sig .tc .vmem S64x4096 .bf16) (f) (B : Blocks F) (S : St F) : v.read (Elt F) (v.writes (Elt F) f (outL (B.heads S))) = B.rows S :=
  View.read_writes_eq_canon v f _ (outL_cover _)
attribute [local irreducible] cL in
theorem read_c (v : View sig .tc .vmem S1x8x256x512 .f32) (f) (B : Blocks F) (S : St F) (L) :
    v.read (Elt F) (v.writes (Elt F) f (cL (B.heads S) ++ L)) = (B.next S).C := by
  show _ = View.canon (cL (B.heads S))
  have h := cL_cover (B.heads S)
  generalize cL (B.heads S) = L' at h ⊢
  exact cover_first v f L' L h
theorem read_n (v : View sig .tc .vmem S1x8x256 .f32) (f) (B : Blocks F) (S : St F) (L) :
    v.read (Elt F) (v.writes (Elt F) f (⟨Rect.unit (s := S1x8x256) ![0, 0, 0] S1x8x256.size inb_S1x8x256_S1x8x256_0_0_0, nOut (B.heads S) S.n⟩ :: L)) = (B.next S).n := by
  show _ = nOut (B.heads S) S.n
  exact whole_first inb_S1x8x256_S1x8x256_0_0_0 (by intro a; match a with | ⟨0, _⟩ => rfl | ⟨1, _⟩ => rfl | ⟨2, _⟩ => rfl) (nOut (B.heads S) S.n) L v f
theorem read_m (v : View sig .tc .vmem S1x8x1 .f32) (f) (B : Blocks F) (S : St F) (L) :
    v.read (Elt F) (v.writes (Elt F) f (⟨Rect.unit (s := S1x8x1) ![0, 0, 0] S1x8x1.size inb_S1x8x1_S1x8x1_0_0_0, mOut (B.heads S) S.m⟩ :: L)) = (B.next S).m := by
  exact whole_first _ (by decide) _ _ _ _

theorem put0 (c : Dev nD) (t : Fin cfg0.N) (d) : (cfg0.win 0).fill (cfg0.grid.coords t) d ((cfg0.win 0).cut (cfg0.grid.coords t) (X0_0 m c t)) = X0_0 m c t := by
  unfold X0_0; rw [Pipeline.Window.cut_fill]; exact fill0_0 t _ _ _
theorem put1 (c : Dev nD) (t : Fin cfg0.N) (d) : (cfg0.win 1).fill (cfg0.grid.coords t) d ((cfg0.win 1).cut (cfg0.grid.coords t) (X0_1 m c t)) = X0_1 m c t := by
  unfold X0_1; rw [Pipeline.Window.cut_fill]; exact fill0_1 t _ _ _
theorem put2 (c : Dev nD) (t : Fin cfg0.N) (d) : (cfg0.win 2).fill (cfg0.grid.coords t) d ((cfg0.win 2).cut (cfg0.grid.coords t) (X0_2 m c t)) = X0_2 m c t := by
  unfold X0_2; rw [Pipeline.Window.cut_fill]; exact fill0_2 t _ _ _
theorem put3 (c : Dev nD) (t : Fin cfg0.N) (d) : (cfg0.win 3).fill (cfg0.grid.coords t) d ((cfg0.win 3).cut (cfg0.grid.coords t) (X0_3 m c t)) = X0_3 m c t := by
  unfold X0_3; rw [Pipeline.Window.cut_fill]; exact fill0_3 t _ _ _

set_option maxHeartbeats 3200000 in
/-- The body at any point: the run of its case, over the blocks and the state the point starts from. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  unfold after
  by_cases h0 : t.val % 32 = 0
  · rw [entry_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    have hB : blocksOf (grid0.coords t) (X0_0 m c t) (X0_1 m c t) (X0_2 m c t) (X0_3 m c t) (((cfg0.win 4).fill (cfg0.grid.coords t) d4 (iblk m c 4 t))) (iblk m c 5 t) (iblk m c 6 t) (iblk m c 7 t) (iblk m c 8 t) = blks m c t := by
      unfold blks blocksOf X4; rw [cols4 m c t d4 dflt4]
    have hS : (⟨iblk m c 9 t, iblk m c 10 t, iblk m c 11 t⟩ : St F) = start m c t := rfl
    iapply ((runFirst c (grid0.coords t) _ _ _ _ _ _ _ _ _ _ _ _ _ _ _ _ _ _ _ _ _ _ _ _ _ _ _ _ _ _ _ _ ((firstChunk_iff t).mpr h0) (X0_0 m c t) (X0_1 m c t) (X0_2 m c t) (X0_3 m c t) ((cfg0.win 4).fill (cfg0.grid.coords t) d4 (iblk m c 4 t)) (iblk m c 5 t) (iblk m c 6 t) (iblk m c 7 t) (iblk m c 8 t) (iblk m c 9 t) (iblk m c 10 t) (iblk m c 11 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    iintro ⟨H0, H1, H2, H3, H4, H5, H6, H7, H8, H9, H10, H11, ⟨%e12, H12⟩, ⟨%e13, H13⟩, ⟨%e14, H14⟩, ⟨%e15, H15⟩⟩
    isplitl [HΦ]; · iexact HΦ
    isplitl [Ho]; · iexact Ho
    isplitl [H0]; · iexists X0_0 m c t; rw [put0]; iexact H0
    isplitl [H1]; · iexists X0_1 m c t; rw [put1]; iexact H1
    isplitl [H2]; · iexists X0_2 m c t; rw [put2]; iexact H2
    isplitl [H3]; · iexists X0_3 m c t; rw [put3]; iexact H3
    isplitl [H4]; · iexists d4; rw [show (cfg0.win 4).cut (cfg0.grid.coords t) (X4 m c t) = iblk m c 4 t from Pipeline.Window.cut_fill _ _ _ _]; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; rw [(first_out c (grid0.coords t) _ _ _ _ _ _ _ _ _ _ _ _ _ _ _ _ _ _ _ _ _ _ _ _ _ _ _ _ _ _ _ _ (X0_0 m c t) (X0_1 m c t) (X0_2 m c t) (X0_3 m c t) ((cfg0.win 4).fill (cfg0.grid.coords t) d4 (iblk m c 4 t)) (iblk m c 5 t) (iblk m c 6 t) (iblk m c 7 t) (iblk m c 8 t) (iblk m c 9 t) (iblk m c 10 t) (iblk m c 11 t) ((firstChunk_iff t).mpr h0)), hB, hS]; exact read_out _ _ (blks m c t) (start m c t)
    isplitl [H13]
    · unfold owns; iexists _; isplitr
      swap; · iexact H13
      ipureintro; rw [(first_c c (grid0.coords t) _ _ _ _ _ _ _ _ _ _ _ _ _ _ _ _ _ _ _ _ _ _ _ _ _ _ _ _ _ _ _ _ (X0_0 m c t) (X0_1 m c t) (X0_2 m c t) (X0_3 m c t) ((cfg0.win 4).fill (cfg0.grid.coords t) d4 (iblk m c 4 t)) (iblk m c 5 t) (iblk m c 6 t) (iblk m c 7 t) (iblk m c 8 t) (iblk m c 9 t) (iblk m c 10 t) (iblk m c 11 t) ((firstChunk_iff t).mpr h0)), hB, hS]; exact read_c _ _ (blks m c t) (start m c t) _
    isplitl [H14]
    · unfold owns; iexists _; isplitr
      swap; · iexact H14
      ipureintro; rw [(first_n c (grid0.coords t) _ _ _ _ _ _ _ _ _ _ _ _ _ _ _ _ _ _ _ _ _ _ _ _ _ _ _ _ _ _ _ _ (X0_0 m c t) (X0_1 m c t) (X0_2 m c t) (X0_3 m c t) ((cfg0.win 4).fill (cfg0.grid.coords t) d4 (iblk m c 4 t)) (iblk m c 5 t) (iblk m c 6 t) (iblk m c 7 t) (iblk m c 8 t) (iblk m c 9 t) (iblk m c 10 t) (iblk m c 11 t) ((firstChunk_iff t).mpr h0)), hB, hS]; exact read_n _ _ (blks m c t) (start m c t) _
    · unfold owns; iexists _; isplitr
      swap; · iexact H15
      ipureintro; rw [(first_m c (grid0.coords t) _ _ _ _ _ _ _ _ _ _ _ _ _ _ _ _ _ _ _ _ _ _ _ _ _ _ _ _ _ _ _ _ (X0_0 m c t) (X0_1 m c t) (X0_2 m c t) (X0_3 m c t) ((cfg0.win 4).fill (cfg0.grid.coords t) d4 (iblk m c 4 t)) (iblk m c 5 t) (iblk m c 6 t) (iblk m c 7 t) (iblk m c 8 t) (iblk m c 9 t) (iblk m c 10 t) (iblk m c 11 t) ((firstChunk_iff t).mpr h0)), hB, hS]; exact read_m _ _ (blks m c t) (start m c t) _
  · simp only [before_13 m c t h0, before_14 m c t h0, before_15 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    have hB : blocksOf (grid0.coords t) (X0_0 m c t) (X0_1 m c t) (X0_2 m c t) (X0_3 m c t) (((cfg0.win 4).fill (cfg0.grid.coords t) d4 (iblk m c 4 t))) (iblk m c 5 t) (iblk m c 6 t) (iblk m c 7 t) (iblk m c 8 t) = blks m c t := by
      unfold blks blocksOf X4; rw [cols4 m c t d4 dflt4]
    have hS : (⟨(entry m c t.val t.isLt).C, (entry m c t.val t.isLt).n, (entry m c t.val t.isLt).m⟩ : St F) = entry m c t.val t.isLt := rfl
    iapply ((runLater c (grid0.coords t) _ _ _ _ _ _ _ _ _ _ _ _ _ _ _ _ _ _ _ _ _ _ _ _ _ _ _ _ _ _ _ _ (fun h => h0 ((firstChunk_iff t).mp h)) (X0_0 m c t) (X0_1 m c t) (X0_2 m c t) (X0_3 m c t) ((cfg0.win 4).fill (cfg0.grid.coords t) d4 (iblk m c 4 t)) (iblk m c 5 t) (iblk m c 6 t) (iblk m c 7 t) (iblk m c 8 t) (iblk m c 9 t) (iblk m c 10 t) (iblk m c 11 t) (entry m c t.val t.isLt).C (entry m c t.val t.isLt).n (entry m c t.val t.isLt).m).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [H14]; · iexact H14
    isplitl [H15]; · iexact H15
    iintro ⟨H0, H1, H2, H3, H4, H5, H6, H7, H8, H9, H10, H11, ⟨%e12, H12⟩, ⟨%e13, H13⟩, ⟨%e14, H14⟩, ⟨%e15, H15⟩⟩
    isplitl [HΦ]; · iexact HΦ
    isplitl [Ho]; · iexact Ho
    isplitl [H0]; · iexists X0_0 m c t; rw [put0]; iexact H0
    isplitl [H1]; · iexists X0_1 m c t; rw [put1]; iexact H1
    isplitl [H2]; · iexists X0_2 m c t; rw [put2]; iexact H2
    isplitl [H3]; · iexists X0_3 m c t; rw [put3]; iexact H3
    isplitl [H4]; · iexists d4; rw [show (cfg0.win 4).cut (cfg0.grid.coords t) (X4 m c t) = iblk m c 4 t from Pipeline.Window.cut_fill _ _ _ _]; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; rw [(later_out c (grid0.coords t) _ _ _ _ _ _ _ _ _ _ _ _ _ _ _ _ _ _ _ _ _ _ _ _ _ _ _ _ _ _ _ _ (X0_0 m c t) (X0_1 m c t) (X0_2 m c t) (X0_3 m c t) ((cfg0.win 4).fill (cfg0.grid.coords t) d4 (iblk m c 4 t)) (iblk m c 5 t) (iblk m c 6 t) (iblk m c 7 t) (iblk m c 8 t) (iblk m c 9 t) (iblk m c 10 t) (iblk m c 11 t) (fun h => h0 ((firstChunk_iff t).mp h)) (entry m c t.val t.isLt).C (entry m c t.val t.isLt).n (entry m c t.val t.isLt).m), hB, hS]; exact read_out _ _ (blks m c t) (entry m c t.val t.isLt)
    isplitl [H13]
    · unfold owns; iexists _; isplitr
      swap; · iexact H13
      ipureintro; rw [(later_c c (grid0.coords t) _ _ _ _ _ _ _ _ _ _ _ _ _ _ _ _ _ _ _ _ _ _ _ _ _ _ _ _ _ _ _ _ (X0_0 m c t) (X0_1 m c t) (X0_2 m c t) (X0_3 m c t) ((cfg0.win 4).fill (cfg0.grid.coords t) d4 (iblk m c 4 t)) (iblk m c 5 t) (iblk m c 6 t) (iblk m c 7 t) (iblk m c 8 t) (iblk m c 9 t) (iblk m c 10 t) (iblk m c 11 t) (fun h => h0 ((firstChunk_iff t).mp h)) (entry m c t.val t.isLt).C (entry m c t.val t.isLt).n (entry m c t.val t.isLt).m).trans (List.append_nil _).symm, hB, hS]; exact read_c _ _ (blks m c t) (entry m c t.val t.isLt) _
    isplitl [H14]
    · unfold owns; iexists _; isplitr
      swap; · iexact H14
      ipureintro; rw [(later_n c (grid0.coords t) _ _ _ _ _ _ _ _ _ _ _ _ _ _ _ _ _ _ _ _ _ _ _ _ _ _ _ _ _ _ _ _ (X0_0 m c t) (X0_1 m c t) (X0_2 m c t) (X0_3 m c t) ((cfg0.win 4).fill (cfg0.grid.coords t) d4 (iblk m c 4 t)) (iblk m c 5 t) (iblk m c 6 t) (iblk m c 7 t) (iblk m c 8 t) (iblk m c 9 t) (iblk m c 10 t) (iblk m c 11 t) (fun h => h0 ((firstChunk_iff t).mp h)) (entry m c t.val t.isLt).C (entry m c t.val t.isLt).n (entry m c t.val t.isLt).m), hB, hS]; exact read_n _ _ (blks m c t) (entry m c t.val t.isLt) _
    · unfold owns; iexists _; isplitr
      swap; · iexact H15
      ipureintro; rw [(later_m c (grid0.coords t) _ _ _ _ _ _ _ _ _ _ _ _ _ _ _ _ _ _ _ _ _ _ _ _ _ _ _ _ _ _ _ _ (X0_0 m c t) (X0_1 m c t) (X0_2 m c t) (X0_3 m c t) ((cfg0.win 4).fill (cfg0.grid.coords t) d4 (iblk m c 4 t)) (iblk m c 5 t) (iblk m c 6 t) (iblk m c 7 t) (iblk m c 8 t) (iblk m c 9 t) (iblk m c 10 t) (iblk m c 11 t) (fun h => h0 ((firstChunk_iff t).mp h)) (entry m c t.val t.isLt).C (entry m c t.val t.isLt).n (entry m c t.val t.isLt).m), hB, hS]; exact read_m _ _ (blks m c t) (entry m c t.val t.isLt) _

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact sound_body m c t

/-! ## The run and the frame -/

-- the launch lemma's implicit arguments are found by unifying its conclusion with this one
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hΦ := fun _ _ => rfl)

/-- Every run of `main` ends with each array at what the proof data say, and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Recur

end
-- ==== Proof.Quiet.lean ====
/- The frame claims: the arguments end unchanged and every counter at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import Idealize.ShloMosaic.Adequacy
public import Idealize.ShloMosaic.Init
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts

/-- What the frame says of the kernel's text read at the bit patterns. -/
def QuietBits : Prop :=
  ∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The two programs have the same text, so the two statements are the same. -/
theorem quiet_same : QuietBits = Cert.quiescent_Kernel (hKernel := Cert.Kernel.Gen.facts) := by sl_kernel_rfl

/-- The kernel read at the bit patterns: the same run. -/
theorem frame_kernel : Cert.quiescent_Kernel (hKernel := Cert.Kernel.Gen.facts) :=
  Eq.mp quiet_same fun m ρ _ => Cert.KernelIdeal.Recur.frame (F := Bits) m ρ

/-- The kernel read at the extended reals. -/
theorem frame_ideal : Cert.quiescent_KernelIdeal (hKernelIdeal := Cert.KernelIdeal.Gen.facts) := fun m ρ _ =>
  Cert.KernelIdeal.Recur.frame (F := Ideal) m ρ

/-- The reference: its run, and it has no counters. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems rfl r.2⟩) (Cert.ReferenceIdeal.Value.run (F := Ideal) m ρ)

end Cert.Proof

end
-- ==== Proof.Chunk.lean ====
/- One head's chunk of the recurrence as numbers: what one chunk makes of a state, and the scalar identities between the two ways
   the gates are written. -/
module

public import Idealize.ShloMosaic.Lib.Pointwise
public import Idealize.ShloMosaic.PureOps

@[expose] public section

noncomputable section

namespace Cert.Math

open Idealize.ShloMosaic

/-- The pattern of `-∞`. -/
abbrev ninf : EReal := Ideal.ofBits .f32 0xFF800000#32

/-- What one head sees of one chunk: logarithms of the forget gates, input gates, queries, scaled keys, values, output gates, norm
    weights, and the state before the chunk. -/
structure Chunk where
  lf : Fin 64 → EReal
  ig : Fin 64 → EReal
  q : Fin 64 → Fin 256 → EReal
  k : Fin 64 → Fin 256 → EReal
  v : Fin 64 → Fin 512 → EReal
  o : Fin 64 → Fin 512 → EReal
  g : Fin 512 → EReal
  C : Fin 256 → Fin 512 → EReal
  n : Fin 256 → EReal
  m : EReal

namespace Chunk

variable (K : Chunk)

/-- The forget gates summed up to a position, and over the chunk. -/
def B (l : Fin 64) : EReal := ∑ s, if s ≤ l then K.lf s else 0
def T : EReal := ∑ s, K.lf s
/-- The exponents of the decay matrix and of the old state, and their maximum. -/
def D (l s : Fin 64) : EReal := if s ≤ l then K.B l - K.B s + K.ig s else ninf
def I (l : Fin 64) : EReal := K.B l + K.m
def M (l : Fin 64) : EReal := max (K.I l) (Finset.univ.fold max ninf fun s => K.D l s)
/-- The exponents of the keys' weights, and the new stabiliser. -/
def G (s : Fin 64) : EReal := K.T - K.B s + K.ig s
def mN : EReal := max (K.T + K.m) (Finset.univ.fold max ninf fun s => K.G s)
def W (l s : Fin 64) : EReal := Ideal.exp (K.D l s - K.M l) * ∑ d, K.q l d * K.k s d
def A (l : Fin 64) : EReal := Ideal.exp (K.I l - K.M l)
def num (l : Fin 64) (e : Fin 512) : EReal := K.A l * ∑ d, K.q l d * K.C d e + ∑ s, K.W l s * K.v s e
def nq (l : Fin 64) : EReal := K.A l * ∑ d, K.q l d * K.n d + ∑ s, K.W l s
def hs (l : Fin 64) (e : Fin 512) : EReal :=
  Ideal.div (K.num l e) (max (FloatOps.absf (F := Ideal) (φ := .f32) (K.nq l)) (Ideal.exp (-K.M l)))
def dec : EReal := Ideal.exp (K.T + K.m - K.mN)
def kw (s : Fin 64) (d : Fin 256) : EReal := Ideal.exp (K.G s - K.mN) * K.k s d
/-- The new states. -/
def cN (d : Fin 256) (e : Fin 512) : EReal := K.dec * K.C d e + ∑ s, K.kw s d * K.v s e
def nN (d : Fin 256) : EReal := K.dec * K.n d + ∑ s, K.kw s d
/-- The gated, normed output. -/
def out (l : Fin 64) (e : Fin 512) : EReal :=
  Ideal.div 1 (1 + Ideal.exp (-K.o l e)) * (K.hs l e * Ideal.rsqrt (Ideal.div (∑ x, K.hs l x * K.hs l x) (Ideal.ofBits .f32 0x44000000#32)
    + Ideal.ofBits .f32 0x358637BD#32) * K.g e)

end Chunk

/-! ## The scalar identities -/

theorem zero_sub' (x : EReal) : 0 - x = -x := by rw [sub_eq_add_neg, zero_add]

theorem half : Ideal.ofBits .f32 0x3F000000#32 = ((1 / 2 : ℝ) : EReal) := by
  simp [Ideal.ofBits, Ideal.ieee, -EReal.coe_mul]; norm_num
theorem fifteen : Ideal.ofBits .f32 0x41700000#32 = ((15 : ℝ) : EReal) := by
  simp [Ideal.ofBits, Ideal.ieee, -EReal.coe_mul]; norm_num

/-- `min x 0 - log (1 + exp (0 - |x|)) = -log1p (exp (-x))` at a real `x`. -/
theorem logSig_real (r : ℝ) :
    min (r : EReal) 0 - Ideal.log (1 + Ideal.exp (0 - FloatOps.absf (F := Ideal) (φ := .f32) (r : EReal))) = -Ideal.log1p (Ideal.exp (-(r : EReal))) := by
  have hp : ∀ x : ℝ, Ideal.log (1 + Ideal.exp (x : EReal)) = ((Real.log (1 + Real.exp x) : ℝ) : EReal) := fun x => by
    have h : (1 : EReal) + Ideal.exp (x : EReal) = ((1 + Real.exp x : ℝ) : EReal) := by rw [EReal.coe_add]; rfl
    rw [h]
    show (if (1 + Real.exp x : ℝ) ≤ 0 then (⊥ : EReal) else _) = _
    rw [if_neg (by have := Real.exp_pos x; linarith)]
  have ha : FloatOps.absf (F := Ideal) (φ := .f32) (r : EReal) = ((|r| : ℝ) : EReal) := by
    rw [Ideal.absf_def]
    rcases le_total 0 r with h | h
    · rw [abs_of_nonneg h, max_eq_left]; exact_mod_cast (by linarith : -r ≤ r)
    · rw [abs_of_nonpos h, max_eq_right]; · exact_mod_cast rfl
      exact_mod_cast (by linarith : r ≤ -r)
  have hm : min (r : EReal) 0 = ((min r 0 : ℝ) : EReal) := by
    rcases le_total r 0 with h | h
    · rw [min_eq_left h, min_eq_left]; exact_mod_cast h
    · rw [min_eq_right h, min_eq_right]; · rfl
      exact_mod_cast h
  rw [zero_sub', ha, ← EReal.coe_neg, ← EReal.coe_neg, hp, hm, ← EReal.coe_sub, Ideal.log1p, hp, ← EReal.coe_neg]
  refine congrArg _ ?_
  rcases le_total 0 r with h | h
  · rw [abs_of_nonneg h, min_eq_right h, zero_sub]
  · rw [abs_of_nonpos h, min_eq_left h, neg_neg]
    have h1 : 1 + Real.exp (-r) = Real.exp (-r) * (1 + Real.exp r) := by
      rw [mul_add, mul_one, ← Real.exp_add, neg_add_cancel, Real.exp_zero, add_comm]
    rw [h1, Real.log_mul (Real.exp_pos _).ne' (by have := Real.exp_pos r; linarith), Real.log_exp]; ring

/-- `½ (tanh (x/2) + 1) = 1 / (1 + exp (-x))` at every extended real. -/
theorem sigmoid (x : EReal) :
    Ideal.ofBits .f32 0x3F000000#32 * (Ideal.tanh (Ideal.ofBits .f32 0x3F000000#32 * x) + 1) = Ideal.div 1 (1 + Ideal.exp (-x)) := by
  rw [half]
  induction x using EReal.rec with
  | bot =>
    rw [EReal.coe_mul_bot_of_pos (by norm_num), Ideal.tanh_bot, EReal.neg_bot]
    have : (-1 : EReal) + 1 = 0 := by rw [← EReal.coe_one, ← EReal.coe_neg, ← EReal.coe_add]; norm_num
    rw [this, mul_zero]
    show 0 = Ideal.div 1 (1 + ⊤)
    rw [EReal.add_top_of_ne_bot (by simp [← EReal.coe_one]), Ideal.div, if_neg (by simp), EReal.inv_top, mul_zero]
  | top =>
    rw [EReal.coe_mul_top_of_pos (by norm_num), Ideal.tanh_top, EReal.neg_top]
    have : (1 : EReal) + 1 = ((2 : ℝ) : EReal) := by rw [← EReal.coe_one, ← EReal.coe_add]; norm_num
    rw [this, ← EReal.coe_mul]
    show _ = Ideal.div 1 (1 + 0)
    rw [add_zero, Ideal.div, if_neg (by simp), ← EReal.coe_one, ← EReal.coe_inv, ← EReal.coe_mul]; norm_num
  | coe r =>
    have e1 : (1 : EReal) + Ideal.exp (-(r : EReal)) = ((1 + Real.exp (-r) : ℝ) : EReal) := by
      rw [← EReal.coe_neg, EReal.coe_add]; rfl
    rw [e1, ← EReal.coe_mul, Ideal.tanh_coe, ← EReal.coe_one, ← EReal.coe_add, ← EReal.coe_mul, Ideal.div_coe (by have := Real.exp_pos (-r); linarith), ← EReal.coe_mul]
    refine congrArg _ ?_
    have h : Real.exp (-r) = Real.exp (-(1 / 2 * r)) * Real.exp (-(1 / 2 * r)) := by rw [← Real.exp_add]; congr 1; ring
    have hm : Real.exp (1 / 2 * r) * Real.exp (-(1 / 2 * r)) = 1 := by rw [← Real.exp_add, add_neg_cancel, Real.exp_zero]
    rw [Real.tanh_eq_sinh_div_cosh, Real.sinh_eq, Real.cosh_eq, h]
    generalize Real.exp (1 / 2 * r) = a at hm ⊢
    have hb := Real.exp_pos (-(1 / 2 * r))
    generalize Real.exp (-(1 / 2 * r)) = b at hm hb ⊢
    have ha : 0 < a := by by_contra hn; have := mul_nonpos_of_nonpos_of_nonneg (not_lt.mp hn) hb.le; linarith
    have h3 : a + b ≠ 0 := by positivity
    have h4 : 1 + b * b ≠ 0 := by positivity
    field_simp
    nlinarith [hm]

/-- Fifteen times a `tanh` is a real number. -/
theorem capped_real (x : EReal) : ∃ r : ℝ, Ideal.ofBits .f32 0x41700000#32 * Ideal.tanh x = (r : EReal) := by
  rw [fifteen]
  induction x using EReal.rec with
  | bot => exact ⟨-15, by rw [Ideal.tanh_bot, ← EReal.coe_one, ← EReal.coe_neg, ← EReal.coe_mul]; norm_num⟩
  | top => exact ⟨15, by rw [Ideal.tanh_top, mul_one]⟩
  | coe r => exact ⟨15 * Real.tanh r, by rw [Ideal.tanh_coe, ← EReal.coe_mul]⟩

end Cert.Math

end
-- ==== Proof.HeadValue.lean ====
/- What the body computes for one head, over the extended reals: the numbers of `Chunk`. -/
module

public import proofs.«01_k».proof.Proof.Head
public import proofs.«01_k».proof.Proof.Chunk
public import Idealize.ShloMosaic.Lib.Pointwise

@[expose] public section

set_option maxRecDepth 16384

noncomputable section

namespace Cert.KernelIdeal.Recur

open Idealize.ShloMosaic Idealize.ShloMosaic.TcCoe Idealize.SL.Sem
open Cert.KernelIdeal Cert.KernelIdeal.Gen
open Cert.Math (Chunk)

/-- Position `x` is in the chunk's only part. -/
theorem in_part : ∀ x : Fin 64, IntOp.andi (IntOp.cmpi CmpIPredicate.sge (BitVec.ofNat 32 x.val) (Scalar.muli 0#32 64#32))
    (IntOp.cmpi CmpIPredicate.slt (BitVec.ofNat 32 x.val) (Scalar.muli (Scalar.addi 0#32 1#32) 64#32)) = 1#1 := by decide +kernel
/-- The comparison of two positions. -/
theorem le_pos : ∀ x l : Fin 64, IntOp.cmpi CmpIPredicate.sle (BitVec.ofNat 32 x.val) (BitVec.ofNat 32 l.val) = if x ≤ l then 1#1 else 0#1 := by decide +kernel
theorem pick_one (a b : EReal) : Scalar.select 1#1 a b = a := rfl
theorem pick_le (x l : Fin 64) (a b : EReal) : Scalar.select (if x ≤ l then 1#1 else 0#1) a b = if x ≤ l then a else b := by
  by_cases h : x ≤ l
  · rw [if_pos h, if_pos h]; rfl
  · rw [if_neg h, if_neg h]; rfl

namespace Head

variable (X : Head Ideal)

/-- What makes a head's operands one chunk's: the only part, the two layouts of the gates agree, the gates are real numbers, and the
    matrix state is read twice. -/
structure Ok : Prop where
  s0 : X.s = 0#32
  ri : ∀ l : Fin 64, X.ri (ix2 0 l) = X.gi (ix2 l 0)
  rf : ∀ l : Fin 64, X.rf (ix2 0 l) = X.gf (ix2 l 0)
  real : ∀ l : Fin 64, ∃ r : ℝ, X.gf (ix2 l 0) = (r : EReal)
  C' : X.C' = X.C

/-- The chunk a head sees. -/
def chunk : Chunk where
  lf l := -Ideal.log1p (Ideal.exp (-X.gf (ix2 l 0)))
  ig l := X.gi (ix2 l 0)
  q l d := X.q (ix2 l d)
  k l d := X.k (ix2 l d) * Ideal.ofBits .f32 0x3D800000#32
  v l e := X.v (ix2 l e)
  o l e := X.o (ix2 l e)
  g e := X.g (ix3 0 0 e)
  C d e := X.C (ix4 0 0 d e)
  n d := X.n (ix2 0 d)
  m := X.m (ix2 0 0)

variable {X} (ok : X.Ok)
include ok

theorem lfC_at (l : Fin 64) : X.lfC (ix2 l 0) = X.chunk.lf l := by
  obtain ⟨r, hr⟩ := ok.real l
  pointwise [Head.lfC, logSig, rowOk, ok.s0]
  rw [in_part, pick_one]
  show _ = -Ideal.log1p (Ideal.exp (-X.gf (ix2 l 0)))
  rw [hr]; exact Cert.Math.logSig_real r
theorem lfR_at (l : Fin 64) : X.lfR (ix2 0 l) = X.chunk.lf l := by
  obtain ⟨r, hr⟩ := ok.real l
  pointwise [Head.lfR, logSig, colOk, ok.s0]
  rw [in_part, pick_one, ok.rf]
  show _ = -Ideal.log1p (Ideal.exp (-X.gf (ix2 l 0)))
  rw [hr]; exact Cert.Math.logSig_real r
theorem igC_at (l : Fin 64) : X.igC (ix2 l 0) = X.chunk.ig l := by
  pointwise [Head.igC, rowOk, ok.s0]
  rw [in_part, pick_one]; rfl
theorem igR_at (l : Fin 64) : X.igR (ix2 0 l) = X.chunk.ig l := by
  pointwise [Head.igR, colOk, ok.s0]
  rw [in_part, pick_one, ok.ri]; rfl
theorem bC_at (l : Fin 64) : X.bC (ix2 l 0) = X.chunk.B l := by
  pointwise [Head.bC, causal]
  exact Finset.sum_congr rfl fun x _ => by rw [le_pos, pick_le, lfR_at ok]
theorem bR_at (l : Fin 64) : X.bR (ix2 0 l) = X.chunk.B l := by
  pointwise [Head.bR, causalT]
  exact Finset.sum_congr rfl fun x _ => by rw [le_pos, pick_le, lfC_at ok]
theorem bL_at : X.bL (ix2 0 0) = X.chunk.T := by
  pointwise [Head.bL]
  exact Finset.sum_congr rfl fun x _ => lfR_at ok x
theorem dmat_at (l s : Fin 64) : X.dmat (ix2 l s) = X.chunk.D l s := by
  pointwise [Head.dmat, causal]
  rw [le_pos, pick_le, bC_at ok, bR_at ok, igR_at ok]; rfl
theorem inter_at (l : Fin 64) : X.inter (ix2 l 0) = X.chunk.I l := by
  pointwise [Head.inter]
  rw [bC_at ok]; rfl
theorem mPos_at (l : Fin 64) : X.mPos (ix2 l 0) = X.chunk.M l := by
  pointwise [Head.mPos]
  rw [inter_at ok]; unfold Chunk.M; simp only [dmat_at ok]
theorem gR_at (s : Fin 64) : X.gR (ix2 0 s) = X.chunk.G s := by
  pointwise [Head.gR]
  rw [bL_at ok, bR_at ok, igR_at ok]; rfl
theorem mNew_at : X.mNew (ix2 0 0) = X.chunk.mN := by
  pointwise [Head.mNew]
  rw [bL_at ok]; unfold Chunk.mN; simp only [gR_at ok]; rfl
theorem w_at (l s : Fin 64) : X.w (ix2 l s) = X.chunk.W l s := by
  pointwise [Head.w, Head.decayW, Head.qk, Head.kS]
  rw [dmat_at ok, mPos_at ok]; rfl
theorem aC_at (l : Fin 64) : X.aC (ix2 l 0) = X.chunk.A l := by
  pointwise [Head.aC]
  rw [inter_at ok, mPos_at ok]; rfl
theorem num_at (l : Fin 64) (e : Fin 512) : X.num (ix2 l e) = X.chunk.num l e := by
  pointwise [Head.num, Head.qc, Head.cM]
  rw [aC_at ok]; simp only [w_at ok]; rfl
theorem nq_at (l : Fin 64) : X.nq (ix2 l 0) = X.chunk.nq l := by
  pointwise [Head.nq]
  rw [aC_at ok]; simp only [w_at ok]; rfl
theorem hs_at (l : Fin 64) (e : Fin 512) : X.hs (ix2 l e) = X.chunk.hs l e := by
  pointwise [Head.hs, Head.floorC]
  rw [num_at ok, nq_at ok, mPos_at ok, Cert.Math.zero_sub']; rfl
theorem decay_at : X.decay (ix2 0 0) = X.chunk.dec := by
  pointwise [Head.decay]
  rw [bL_at ok, mNew_at ok]; rfl
theorem kw_at (s : Fin 64) (d : Fin 256) : X.kw (ix2 s d) = X.chunk.kw s d := by
  pointwise [Head.kw, Head.wkC, Head.kS]
  rw [bL_at ok, bC_at ok, igC_at ok, mNew_at ok]; rfl
/-- The new states and the output. -/
theorem cNew_at (d : Fin 256) (e : Fin 512) : X.cNew (ix4 0 0 d e) = X.chunk.cN d e := by
  pointwise [Head.cNew, Head.cM', ok.C']
  rw [decay_at ok]; simp only [kw_at ok]; rfl
theorem nNew_at (d : Fin 256) : X.nNew (ix2 0 d) = X.chunk.nN d := by
  pointwise [Head.nNew]
  rw [decay_at ok]; simp only [kw_at ok]; rfl
theorem out_at (l : Fin 64) (e : Fin 512) : X.out (ix2 l e) = X.chunk.out l e := by
  pointwise [Head.out, Head.hn]
  rw [Cert.Math.sigmoid]; simp only [hs_at ok]; rfl

end Head

end Cert.KernelIdeal.Recur

end
-- ==== Proof.BlocksValue.lean ====
/- What one point of the grid computes for each head, from the blocks and the state, as the numbers of `Chunk`. -/
module

public import proofs.«01_k».proof.Proof.HeadValue
public import Idealize.ShloMosaic.Lib.Pipeline.ValueKit

@[expose] public section

set_option maxRecDepth 16384

noncomputable section

namespace Cert.KernelIdeal.Recur

open Idealize.ShloMosaic Idealize.ShloMosaic.TcCoe Idealize.SL.Sem
open Cert.KernelIdeal Cert.KernelIdeal.Gen
open Cert.Math (Chunk)

/-- The column of head `h`, place `d`, among the keys' 2048 and the values' 4096 columns. -/
def col256 (h : Fin 8) (d : Fin 256) : Fin 2048 := ⟨256 * h.val + d.val, by omega⟩
def col512 (h : Fin 8) (e : Fin 512) : Fin 4096 := ⟨512 * h.val + e.val, by omega⟩
def igCol (h : Fin 8) : Fin 16 := ⟨h.val, by omega⟩
def fgCol (h : Fin 8) : Fin 16 := ⟨8 + h.val, by omega⟩

namespace Blocks

variable (B : Blocks Ideal) (S : St Ideal)

/-- A capped gate. -/
def gate (l : Fin 64) (a : Fin 16) : EReal :=
  Ideal.ofBits .f32 0x41700000#32 * Ideal.tanh (Ideal.div (B.x4 (ix2 l a) + B.x6 (ix3 0 0 a)) (Ideal.ofBits .f32 0x41700000#32))

/-- The only part of the rows, and the gates the same in both layouts. -/
structure Ok : Prop where
  s0 : B.s = 0#32
  x5 : ∀ (a : Fin 16) (l : Fin 64), B.x5 (ix3 0 a l) = B.x4 (ix2 l a)
  x7 : ∀ a : Fin 16, B.x7 (ix3 0 a 0) = B.x6 (ix3 0 0 a)

/-- The chunk that head `h` sees. -/
def chunk (h : Fin 8) : Chunk where
  lf l := -Ideal.log1p (Ideal.exp (-B.gate l (fgCol h)))
  ig l := B.gate l (igCol h)
  q l d := B.x0 (ix2 l (col256 h d))
  k l d := B.x1 (ix2 l (col256 h d)) * Ideal.ofBits .f32 0x3D800000#32
  v l e := B.x2 (ix2 l (col512 h e))
  o l e := B.x3 (ix2 l (col512 h e))
  g e := B.x8 (ix3 0 0 (col512 h e))
  C d e := S.C (ix4 0 h d e)
  n d := S.n (ix3 0 h d)
  m := S.m (ix3 0 h 0)

theorem gC_at (l : Fin 64) (a : Fin 16) : B.gC (ix2 l a) = B.gate l a := by
  pointwise [Blocks.gC]; rfl
theorem gate_real (l : Fin 64) (a : Fin 16) : ∃ r : ℝ, B.gate l a = (r : EReal) := Cert.Math.capped_real _

variable {B}

theorem gR_at (ok : B.Ok) (l : Fin 64) (a : Fin 16) : B.gR (ix2 a l) = B.gate l a := by
  pointwise [Blocks.gR]
  rw [ok.x5, ok.x7]; rfl

/-- A column of the gates' block, and a row of the transposed one. -/
theorem slC_at (x : FVec Ideal S64x16 .f32) (a : Fin 16) (l : Fin 64) (ha) : extractStridedSlice S64x1 ![0, a.val] x ha (ix2 l 0) = x (ix2 l a) :=
  congrArg x (funext fun i => Fin.ext (by match i with | ⟨0, _⟩ => exact Nat.zero_add _ | ⟨1, _⟩ => rfl))
theorem slR_at (x : FVec Ideal S16x64 .f32) (a : Fin 16) (l : Fin 64) (ha) : extractStridedSlice S1x64 ![a.val, 0] x ha (ix2 0 l) = x (ix2 a l) :=
  congrArg x (funext fun i => Fin.ext (by match i with | ⟨0, _⟩ => rfl | ⟨1, _⟩ => exact Nat.zero_add _))

theorem slN_at (x : FVec Ideal S8x256 .f32) (h : Fin 8) (d : Fin 256) (hx) : extractStridedSlice S1x256 ![h.val, 0] x hx (ix2 0 d) = x (ix2 h d) :=
  congrArg x (funext fun i => Fin.ext (by match i with | ⟨0, _⟩ => rfl | ⟨1, _⟩ => exact Nat.zero_add _))
theorem slM_at (x : FVec Ideal S8x1 .f32) (h : Fin 8) (hx) : extractStridedSlice S1x1 ![h.val, 0] x hx (ix2 0 0) = x (ix2 h 0) :=
  congrArg x (funext fun i => Fin.ext (by match i with | ⟨0, _⟩ => rfl | ⟨1, _⟩ => rfl))

theorem heads_gf (h : Fin 8) (l : Fin 64) : (B.heads S h.val h.isLt).gf (ix2 l 0) = B.gate l (fgCol h) :=
  (slC_at B.gC (fgCol h) l (slC (8 + h.val) (by omega))).trans (gC_at B l _)
theorem heads_gi (h : Fin 8) (l : Fin 64) : (B.heads S h.val h.isLt).gi (ix2 l 0) = B.gate l (igCol h) :=
  (slC_at B.gC (igCol h) l (slC h.val (by omega))).trans (gC_at B l _)
theorem heads_rf (ok : B.Ok) (h : Fin 8) (l : Fin 64) : (B.heads S h.val h.isLt).rf (ix2 0 l) = B.gate l (fgCol h) :=
  (slR_at B.gR (fgCol h) l (slR (8 + h.val) (by omega))).trans (gR_at ok l _)
theorem heads_ri (ok : B.Ok) (h : Fin 8) (l : Fin 64) : (B.heads S h.val h.isLt).ri (ix2 0 l) = B.gate l (igCol h) :=
  (slR_at B.gR (igCol h) l (slR h.val (by omega))).trans (gR_at ok l _)

theorem heads_ok (ok : B.Ok) (h : Fin 8) : (B.heads S h.val h.isLt).Ok where
  s0 := ok.s0
  ri l := (heads_ri S ok h l).trans (heads_gi S h l).symm
  rf l := (heads_rf S ok h l).trans (heads_gf S h l).symm
  real l := by rw [heads_gf]; exact gate_real B l _
  C' := rfl

theorem heads_chunk (h : Fin 8) : (B.heads S h.val h.isLt).chunk = B.chunk S h := by
  unfold Head.chunk Blocks.chunk
  congr 1
  · funext l; rw [heads_gf]
  · funext l; rw [heads_gi]
  · funext l d; exact congrArg B.x0 (funext fun i => Fin.ext (by match i with | ⟨0, _⟩ => show 0 + 1 * l.val = l.val; omega | ⟨1, _⟩ => show 256 * h.val + 1 * d.val = 256 * h.val + d.val; omega))
  · funext l d; exact congrArg (· * Ideal.ofBits .f32 0x3D800000#32) (congrArg B.x1 (funext fun i => Fin.ext (by match i with | ⟨0, _⟩ => show 0 + 1 * l.val = l.val; omega | ⟨1, _⟩ => show 256 * h.val + 1 * d.val = 256 * h.val + d.val; omega)))
  · funext l d; exact congrArg B.x2 (funext fun i => Fin.ext (by match i with | ⟨0, _⟩ => show 0 + 1 * l.val = l.val; omega | ⟨1, _⟩ => show 512 * h.val + 1 * d.val = 512 * h.val + d.val; omega))
  · funext l d; exact congrArg B.x3 (funext fun i => Fin.ext (by match i with | ⟨0, _⟩ => show 0 + 1 * l.val = l.val; omega | ⟨1, _⟩ => show 512 * h.val + 1 * d.val = 512 * h.val + d.val; omega))
  · funext d; exact congrArg B.x8 (funext fun i => Fin.ext (by match i with | ⟨0, _⟩ => rfl | ⟨1, _⟩ => rfl | ⟨2, _⟩ => show 512 * h.val + 1 * d.val = 512 * h.val + d.val; omega))
  · funext d e; exact congrArg S.C (funext fun i => Fin.ext (by match i with | ⟨0, _⟩ => rfl | ⟨1, _⟩ => show h.val + 1 * 0 = h.val; omega | ⟨2, _⟩ => show 0 + 1 * d.val = d.val; omega | ⟨3, _⟩ => show 0 + 1 * e.val = e.val; omega))
  · funext d
    refine (slN_at (shapeCast S8x256 S.n shapeCasts_S1x8x256_S8x256) h d (slN h.val h.isLt)).trans ?_
    pointwise []
  · refine (slM_at (shapeCast S8x1 S.m shapeCasts_S1x8x1_S8x1) h (slM h.val h.isLt)).trans ?_
    pointwise []

/-! ## What the stores leave -/

theorem embC (k : ℕ) (hk : k < 8) (d : Fin 256) (e : Fin 512) : (rC k hk).emb (ix4 0 0 d e) = ix4 0 ⟨k, hk⟩ d e :=
  funext fun i => Fin.ext (by match i with | ⟨0, _⟩ => rfl | ⟨1, _⟩ => show k + 1 * 0 = k; omega | ⟨2, _⟩ => show 0 + 1 * d.val = d.val; omega | ⟨3, _⟩ => show 0 + 1 * e.val = e.val; omega)
theorem hitC (k : ℕ) (hk : k < 8) (w : (rC k hk).shape.Idx → Elt Ideal .f32) (L : List (View.Piece (Elt Ideal) S1x8x256x512 .f32)) (x : (rC k hk).shape.Idx) :
    View.canon (⟨rC k hk, w⟩ :: L) ((rC k hk).emb x) = w x := View.canon_cons_emb (rC k hk) w L x
theorem canonC (k : ℕ) (hk : k < 8) (w : FVec Ideal S1x1x256x512 .f32) (L : List (View.Piece (Elt Ideal) S1x8x256x512 .f32)) (h : Fin 8) (d : Fin 256) (e : Fin 512) :
    View.canon (⟨rC k hk, w⟩ :: L) (ix4 0 h d e) = if h.val = k then w (ix4 0 0 d e) else View.canon L (ix4 0 h d e) := by
  by_cases hh : h.val = k
  · subst hh
    rw [if_pos rfl, ← hitC h.val hk w L, embC]
  · rw [if_neg hh]
    refine View.canon_cons_of_not_mem _ _ fun hm => hh ?_
    have h1 : k ≤ h.val ∧ h.val < k + 1 := ((Rect.mem_set_unit (inb := inC k hk)).1 hm) 1
    omega
theorem cL_at (H : ∀ h : ℕ, h < 8 → Head Ideal) (h : Fin 8) (d : Fin 256) (e : Fin 512) :
    View.canon (cL H) (ix4 0 h d e) = (H h.val h.isLt).cNew (ix4 0 0 d e) := by
  unfold cL
  rw [canonC, canonC, canonC, canonC, canonC, canonC, canonC, canonC]
  match h with
  | 0 => rfl
  | 1 => rfl
  | 2 => rfl
  | 3 => rfl
  | 4 => rfl
  | 5 => rfl
  | 6 => rfl
  | 7 => rfl

theorem embO (k : ℕ) (hk : k < 8) (l : Fin 64) (e : Fin 512) : (rOut k hk).emb (ix2 l e) = ix2 l (col512 ⟨k, hk⟩ e) :=
  funext fun i => Fin.ext (by match i with | ⟨0, _⟩ => show 0 + 1 * l.val = l.val; omega | ⟨1, _⟩ => show 512 * k + 1 * e.val = 512 * k + e.val; omega)
theorem hitO (k : ℕ) (hk : k < 8) (w : FVec Ideal S64x512 .bf16) (L : List (View.Piece (Elt Ideal) S64x4096 .bf16)) (x : S64x512.Idx) :
    View.canon (⟨rOut k hk, w⟩ :: L) ((rOut k hk).emb x) = w x := View.canon_cons_emb (rOut k hk) w L x
theorem canonO (k : ℕ) (hk : k < 8) (w : FVec Ideal S64x512 .bf16) (L : List (View.Piece (Elt Ideal) S64x4096 .bf16)) (h : Fin 8) (l : Fin 64) (e : Fin 512) :
    View.canon (⟨rOut k hk, w⟩ :: L) (ix2 l (col512 h e)) = if h.val = k then w (ix2 l e) else View.canon L (ix2 l (col512 h e)) := by
  by_cases hh : h.val = k
  · subst hh
    rw [if_pos rfl, ← hitO h.val hk w L, embO]
  · rw [if_neg hh]
    refine View.canon_cons_of_not_mem _ _ fun hm => hh ?_
    have h1 : 512 * k ≤ 512 * h.val + e.val ∧ 512 * h.val + e.val < 512 * k + 512 := ((Rect.mem_set_unit (inb := in512 k hk)).1 hm) 1
    have h3 := e.isLt
    omega
theorem outL_at (H : ∀ h : ℕ, h < 8 → Head Ideal) (h : Fin 8) (l : Fin 64) (e : Fin 512) :
    View.canon (outL H) (ix2 l (col512 h e)) = (H h.val h.isLt).out (ix2 l e) := by
  unfold outL
  rw [canonO, canonO, canonO, canonO, canonO, canonO, canonO, canonO]
  match h with
  | 0 => rfl
  | 1 => rfl
  | 2 => rfl
  | 3 => rfl
  | 4 => rfl
  | 5 => rfl
  | 6 => rfl
  | 7 => rfl

/-- The normaliser and stabiliser rows are put one by one. -/
theorem row_is : ∀ (k : Fin 8) (h : Fin 8), IntOp.cmpi CmpIPredicate.eq (BitVec.ofNat 32 h.val) (BitVec.ofNat 32 k.val) = if h.val = k.val then 1#1 else 0#1 := by decide +kernel
theorem pick_row (c : Prop) [Decidable c] (a b : EReal) : Scalar.select (if c then 1#1 else 0#1) a b = if c then a else b := by
  by_cases h : c
  · rw [if_pos h, if_pos h]; rfl
  · rw [if_neg h, if_neg h]; rfl
theorem putN_at (w : BitVec 32) (k : Fin 8) (hw : w = BitVec.ofNat 32 k.val) (x : FVec Ideal S1x256 .f32) (p : FVec Ideal S8x256 .f32) (h : Fin 8) (d : Fin 256) :
    putN w x p (ix2 h d) = if h.val = k.val then x (ix2 0 d) else p (ix2 h d) := by
  subst hw
  pointwise [putN]
  rw [row_is, pick_row]
theorem putM_at (w : BitVec 32) (k : Fin 8) (hw : w = BitVec.ofNat 32 k.val) (x : FVec Ideal S1x1 .f32) (p : FVec Ideal S8x1 .f32) (h : Fin 8) :
    putM w x p (ix2 h 0) = if h.val = k.val then x (ix2 0 0) else p (ix2 h 0) := by
  subst hw
  pointwise [putM]
  rw [row_is, pick_row]
theorem nOut_at (H : ∀ h : ℕ, h < 8 → Head Ideal) (n : Vec Ideal S1x8x256 .f32) (h : Fin 8) (d : Fin 256) :
    nOut H n (ix3 0 h d) = (H h.val h.isLt).nNew (ix2 0 d) := by
  pointwise [nOut]
  rw [putN_at 7#32 7 rfl, putN_at 6#32 6 rfl, putN_at 5#32 5 rfl, putN_at 4#32 4 rfl, putN_at 3#32 3 rfl, putN_at 2#32 2 rfl, putN_at 1#32 1 rfl, putN_at 0#32 0 rfl]
  match h with
  | 0 => rfl
  | 1 => rfl
  | 2 => rfl
  | 3 => rfl
  | 4 => rfl
  | 5 => rfl
  | 6 => rfl
  | 7 => rfl
theorem mOut_at (H : ∀ h : ℕ, h < 8 → Head Ideal) (m : Vec Ideal S1x8x1 .f32) (h : Fin 8) :
    mOut H m (ix3 0 h 0) = (H h.val h.isLt).mNew (ix2 0 0) := by
  pointwise [mOut]
  rw [putM_at 7#32 7 rfl, putM_at 6#32 6 rfl, putM_at 5#32 5 rfl, putM_at 4#32 4 rfl, putM_at 3#32 3 rfl, putM_at 2#32 2 rfl, putM_at 1#32 1 rfl, putM_at 0#32 0 rfl]
  match h with
  | 0 => rfl
  | 1 => rfl
  | 2 => rfl
  | 3 => rfl
  | 4 => rfl
  | 5 => rfl
  | 6 => rfl
  | 7 => rfl

attribute [local irreducible] cL outL nOut mOut Head.cNew Head.nNew Head.mNew Head.out

/-! ## The state and the rows after the chunk -/

theorem next_C (ok : B.Ok) (h : Fin 8) (d : Fin 256) (e : Fin 512) : (B.next S).C (ix4 0 h d e) = (B.chunk S h).cN d e :=
  (cL_at (B.heads S) h d e).trans ((Head.cNew_at (heads_ok S ok h) d e).trans (by rw [heads_chunk]))
theorem next_n (ok : B.Ok) (h : Fin 8) (d : Fin 256) : (B.next S).n (ix3 0 h d) = (B.chunk S h).nN d :=
  (nOut_at (B.heads S) S.n h d).trans ((Head.nNew_at (heads_ok S ok h) d).trans (by rw [heads_chunk]))
theorem next_m (ok : B.Ok) (h : Fin 8) : (B.next S).m (ix3 0 h 0) = (B.chunk S h).mN :=
  (mOut_at (B.heads S) S.m h).trans ((Head.mNew_at (heads_ok S ok h)).trans (by rw [heads_chunk]))
theorem rows_at (ok : B.Ok) (l : Fin 64) (h : Fin 8) (e : Fin 512) : B.rows S (ix2 l (col512 h e)) = (B.chunk S h).out l e :=
  (outL_at (B.heads S) h l e).trans ((Head.out_at (heads_ok S ok h) l e).trans (by rw [heads_chunk]))

end Blocks

end Cert.KernelIdeal.Recur

end
-- ==== Proof.Given.lean ====
/- A chunk's numbers in terms of the three arguments: the rows, the gates' bias, and the heads' norm weights. -/
module

public import proofs.«01_k».proof.Proof.Chunk

@[expose] public section

set_option maxRecDepth 16384

noncomputable section

namespace Cert.Math

open Idealize.ShloMosaic

/-- The arguments by their coordinates. -/
structure Given where
  z : Fin 8704 → Fin 12304 → EReal
  b : Fin 16 → EReal
  g : Fin 4096 → EReal

namespace Given

variable (A : Given)

/-- Row `l` of chunk `j` of batch `b`. -/
def row (b : Fin 4) (j : Fin 32) (l : Fin 64) : Fin 8704 := ⟨2048 * b.val + 64 * j.val + l.val, by omega⟩

/-- A capped gate of a row. -/
def gate (r : Fin 8704) (a : Fin 16) : EReal :=
  Ideal.ofBits .f32 0x41700000#32 * Ideal.tanh (Ideal.div (A.z r ⟨12288 + a.val, by omega⟩ + A.b a) (Ideal.ofBits .f32 0x41700000#32))

/-- The chunk that head `h` of batch `b` sees at chunk number `j`, from the state `C`, `n`, `m`. -/
def chunk (b : Fin 4) (j : Fin 32) (h : Fin 8) (C : Fin 256 → Fin 512 → EReal) (n : Fin 256 → EReal) (m : EReal) : Chunk where
  lf l := -Ideal.log1p (Ideal.exp (-A.gate (row b j l) ⟨8 + h.val, by omega⟩))
  ig l := A.gate (row b j l) ⟨h.val, by omega⟩
  q l d := A.z (row b j l) ⟨256 * h.val + d.val, by omega⟩
  k l d := A.z (row b j l) ⟨2048 + (256 * h.val + d.val), by omega⟩ * Ideal.ofBits .f32 0x3D800000#32
  v l e := A.z (row b j l) ⟨4096 + (512 * h.val + e.val), by omega⟩
  o l e := A.z (row b j l) ⟨8192 + (512 * h.val + e.val), by omega⟩
  g e := A.g ⟨512 * h.val + e.val, by omega⟩
  C := C
  n := n
  m := m

/-- The state of one head before chunk `j`. -/
structure Mem where
  C : Fin 256 → Fin 512 → EReal
  n : Fin 256 → EReal
  m : EReal

def Mem.zero : Mem := ⟨fun _ _ => 0, fun _ => 0, 0⟩

/-- The state after the first `j` chunks. -/
def mem (b : Fin 4) (h : Fin 8) : ℕ → Mem
  | 0 => Mem.zero
  | j + 1 => if hj : j < 32 then ⟨(A.chunk b ⟨j, hj⟩ h (mem b h j).C (mem b h j).n (mem b h j).m).cN, (A.chunk b ⟨j, hj⟩ h (mem b h j).C (mem b h j).n (mem b h j).m).nN,
      (A.chunk b ⟨j, hj⟩ h (mem b h j).C (mem b h j).n (mem b h j).m).mN⟩ else mem b h j

/-- The chunk of number `j` from the state the chunks before it left. -/
def nth (b : Fin 4) (h : Fin 8) (j : Fin 32) : Chunk := A.chunk b j h (A.mem b h j.val).C (A.mem b h j.val).n (A.mem b h j.val).m

theorem mem_succ (b : Fin 4) (h : Fin 8) (j : Fin 32) : A.mem b h (j.val + 1) = ⟨(A.nth b h j).cN, (A.nth b h j).nN, (A.nth b h j).mN⟩ := dif_pos j.isLt

end Given
end Cert.Math

end
-- ==== Proof.KernelSetUp.lean ====
/- The blocks of each grid point in terms of the kernel's arguments, and the states the points pass through. -/
module

public import proofs.«01_k».proof.Proof.Frame
public import proofs.«01_k».proof.Proof.BlocksValue
public import proofs.«01_k».proof.Proof.Given
public import Idealize.ShloMosaic.Lib.Pipeline.ValueKit

@[expose] public section

set_option maxRecDepth 16384

noncomputable section

namespace Cert.KernelIdeal.Recur

open Idealize.ShloMosaic Idealize.ShloMosaic.TcCoe Idealize.SL.Sem
open Idealize.ShloMosaic.Pipeline (Dat)
open Cert.KernelIdeal Cert.KernelIdeal.Gen
open Cert.Math (Chunk Given)

variable (m : (ℓ : Loc nD τ sig) → Buf (Elt Ideal) ℓ) (c : Dev nD)

abbrev argX : FVec Ideal S8704x12304 .f32 := m ((c : Thread nD τ).loc main_arg0)
abbrev argB : FVec Ideal S1x16 .f32 := m ((c : Thread nD τ).loc main_arg1)
abbrev argG : FVec Ideal S1x4096 .f32 := m ((c : Thread nD τ).loc main_arg2)

/-- The arguments by their coordinates. -/
def given : Given := ⟨fun r k => argX m c (ix2 r k), fun a => argB m c (ix2 0 a), fun e => argG m c (ix2 0 e)⟩

/-- Where each window's block lies. -/
theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![t.val, 1] := (by decide +kernel : ∀ t : Fin grid0.N, _)
theorem idx3 : ∀ t : Fin cfg0.N, win0_3.index t = ![t.val, 2] := (by decide +kernel : ∀ t : Fin grid0.N, _)
theorem idx4 : ∀ t : Fin cfg0.N, win0_4.index t = ![t.val, 96] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![t.val / 32, 0, 0, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val / 32, 0, 0, 0] := (by decide +kernel : ∀ t : Fin grid0.N, _)
theorem idx14 : ∀ t : Fin cfg0.N, win0_14.index t = ![t.val / 32, 0, 0] := (by decide +kernel : ∀ t : Fin grid0.N, _)
theorem idx15 : ∀ t : Fin cfg0.N, win0_15.index t = ![t.val / 32, 0, 0] := (by decide +kernel : ∀ t : Fin grid0.N, _)
theorem sub_zero : ∀ t : Fin cfg0.N, ((grid0.coords t 2).val : ℕ) = 0 := (by decide +kernel : ∀ t : Fin grid0.N, _)
/-- No part of the first four blocks is cut. -/
theorem full0 : ∀ t : Fin cfg0.N, ∀ a, (cfg0.win 0).xsize (cfg0.grid.coords t) a = S64x2048.size a := (by decide +kernel : ∀ t : Fin grid0.N, _)
theorem full1 : ∀ t : Fin cfg0.N, ∀ a, (cfg0.win 1).xsize (cfg0.grid.coords t) a = S64x2048.size a := (by decide +kernel : ∀ t : Fin grid0.N, _)
theorem full2 : ∀ t : Fin cfg0.N, ∀ a, (cfg0.win 2).xsize (cfg0.grid.coords t) a = S64x4096.size a := (by decide +kernel : ∀ t : Fin grid0.N, _)
theorem full3 : ∀ t : Fin cfg0.N, ∀ a, (cfg0.win 3).xsize (cfg0.grid.coords t) a = S64x4096.size a := (by decide +kernel : ∀ t : Fin grid0.N, _)

variable (t : Fin cfg0.N)

/-- Row `l` of point `t`'s rows. -/
def rowAt (l : Fin 64) : Fin 8704 := ⟨64 * t.val + l.val, by have := lt_of_lt_of_eq t.isLt N_0; omega⟩

theorem x0_at (l : Fin 64) (k : Fin 2048) : (blks m c t).x0 (ix2 l k) = (given m c).z (rowAt t l) ⟨0 + k.val, by omega⟩ := by
  have hm : (cfg0.win 0).moved (cfg0.grid.coords t) (ix2 l k) = true := ((cfg0.win 0).moved_iff _ _).mpr fun a => (ix2 l k a).isLt.trans_eq (full0 t a).symm
  show (cfg0.win 0).fill (cfg0.grid.coords t) dflt0_0 (iblk m c 0 t) (ix2 l k) = _
  unfold Pipeline.Window.fill
  rw [dif_pos hm]
  unfold given rowAt
  blk_ext [iblk, V_main_arg0, idx0 t]
theorem x1_at (l : Fin 64) (k : Fin 2048) : (blks m c t).x1 (ix2 l k) = (given m c).z (rowAt t l) ⟨2048 + k.val, by omega⟩ := by
  have hm : (cfg0.win 1).moved (cfg0.grid.coords t) (ix2 l k) = true := ((cfg0.win 1).moved_iff _ _).mpr fun a => (ix2 l k a).isLt.trans_eq (full1 t a).symm
  show (cfg0.win 1).fill (cfg0.grid.coords t) dflt0_1 (iblk m c 1 t) (ix2 l k) = _
  unfold Pipeline.Window.fill
  rw [dif_pos hm]
  unfold given rowAt
  blk_ext [iblk, V_main_arg0, idx1 t]
theorem x2_at (l : Fin 64) (k : Fin 4096) : (blks m c t).x2 (ix2 l k) = (given m c).z (rowAt t l) ⟨4096 + k.val, by omega⟩ := by
  have hm : (cfg0.win 2).moved (cfg0.grid.coords t) (ix2 l k) = true := ((cfg0.win 2).moved_iff _ _).mpr fun a => (ix2 l k a).isLt.trans_eq (full2 t a).symm
  show (cfg0.win 2).fill (cfg0.grid.coords t) dflt0_2 (iblk m c 2 t) (ix2 l k) = _
  unfold Pipeline.Window.fill
  rw [dif_pos hm]
  unfold given rowAt
  blk_ext [iblk, V_main_arg0, idx2 t]
theorem x3_at (l : Fin 64) (k : Fin 4096) : (blks m c t).x3 (ix2 l k) = (given m c).z (rowAt t l) ⟨8192 + k.val, by omega⟩ := by
  have hm : (cfg0.win 3).moved (cfg0.grid.coords t) (ix2 l k) = true := ((cfg0.win 3).moved_iff _ _).mpr fun a => (ix2 l k a).isLt.trans_eq (full3 t a).symm
  show (cfg0.win 3).fill (cfg0.grid.coords t) dflt0_3 (iblk m c 3 t) (ix2 l k) = _
  unfold Pipeline.Window.fill
  rw [dif_pos hm]
  unfold given rowAt
  blk_ext [iblk, V_main_arg0, idx3 t]
theorem x4_at (l : Fin 64) (a : Fin 16) : (blks m c t).x4 (ix2 l a) = (given m c).z (rowAt t l) ⟨12288 + a.val, by omega⟩ := by
  have he : (Rect.unit (s := S64x128) ![0, 0] S64x16.size inb_S64x128_S64x16_0_0).idx (ix2 l a) = (ix2 l ⟨a.val, by omega⟩ : S64x128.Idx) :=
    funext fun i => Fin.ext (by match i with | ⟨0, _⟩ => show 0 + 1 * l.val = l.val; omega | ⟨1, _⟩ => show 0 + 1 * a.val = a.val; omega)
  have hm : (cfg0.win 4).moved (cfg0.grid.coords t) (ix2 l ⟨a.val, by omega⟩ : S64x128.Idx) = true :=
    ((cfg0.win 4).moved_iff _ _).mpr fun i => by
      match i with
      | ⟨0, _⟩ => exact lt_of_lt_of_eq l.isLt (xsize4 t).1.symm
      | ⟨1, _⟩ => exact lt_of_lt_of_eq a.isLt (xsize4 t).2.symm
  show X4 m c t ((Rect.unit (s := S64x128) ![0, 0] S64x16.size inb_S64x128_S64x16_0_0).idx (ix2 l a)) = _
  rw [he]
  unfold X4 Pipeline.Window.fill
  rw [dif_pos hm]
  unfold given rowAt
  blk_ext [iblk, V_main_arg0, idx4 t]
theorem x5_at (l : Fin 64) (a : Fin 16) : (blks m c t).x5 (ix3 0 a l) = (given m c).z (rowAt t l) ⟨12288 + a.val, by omega⟩ := by
  show iblk m c 5 t (ix3 0 a l) = _
  unfold given rowAt
  blk_simp [iblk, idx5 t]
  entry_read
  pointwise
  blk_ext [idx5 t]
theorem x6_at (a : Fin 16) : (blks m c t).x6 (ix3 0 0 a) = (given m c).b a := by
  show iblk m c 6 t (ix3 0 0 a) = _
  unfold given
  blk_simp [iblk, idx6 t]
  entry_read
  pointwise
  blk_ext [idx6 t]
theorem x7_at (a : Fin 16) : (blks m c t).x7 (ix3 0 a 0) = (given m c).b a := by
  show iblk m c 7 t (ix3 0 a 0) = _
  unfold given
  blk_simp [iblk, idx7 t]
  entry_read
  pointwise
  blk_ext [idx7 t]
theorem x8_at (e : Fin 4096) : (blks m c t).x8 (ix3 0 0 e) = (given m c).g e := by
  show iblk m c 8 t (ix3 0 0 e) = _
  unfold given
  blk_simp [iblk, idx8 t]
  entry_read
  pointwise
  blk_ext [idx8 t]

/-- The zero state the first chunk of each batch starts from. -/
theorem start_C (h : Fin 8) (d : Fin 256) (e : Fin 512) : (start m c t).C (ix4 0 h d e) = (0 : EReal) := by
  show iblk m c 9 t (ix4 0 h d e) = _
  blk_simp [iblk]
  entry_read
  pointwise
theorem start_n (h : Fin 8) (d : Fin 256) : (start m c t).n (ix3 0 h d) = (0 : EReal) := by
  show iblk m c 10 t (ix3 0 h d) = _
  blk_simp [iblk]
  entry_read
  pointwise
theorem start_m (h : Fin 8) : (start m c t).m (ix3 0 h 0) = (0 : EReal) := by
  show iblk m c 11 t (ix3 0 h 0) = _
  blk_simp [iblk]
  entry_read
  pointwise

theorem blks_ok : (blks m c t).Ok where
  s0 := by show BitVec.ofNat 32 (grid0.coords t 2).val = 0#32; rw [sub_zero t]
  x5 a l := (x5_at m c t l a).trans (x4_at m c t l a).symm
  x7 a := (x7_at m c t a).trans (x6_at m c t a).symm

/-- The batch and the chunk of point `t`. -/
def bat : Fin 4 := ⟨t.val / 32, by have := lt_of_lt_of_eq t.isLt N_0; omega⟩
def chn : Fin 32 := ⟨t.val % 32, Nat.mod_lt _ (by decide)⟩
theorem rowAt_eq (l : Fin 64) : rowAt t l = Given.row (bat t) (chn t) l :=
  Fin.ext (by show 64 * t.val + l.val = 2048 * (t.val / 32) + 64 * (t.val % 32) + l.val; omega)

theorem gate_at (l : Fin 64) (a : Fin 16) : (blks m c t).gate l a = (given m c).gate (Given.row (bat t) (chn t) l) a := by
  unfold Blocks.gate Given.gate
  rw [x4_at, x6_at, rowAt_eq]

/-- The state head `h` has. -/
def memOf (S : St Ideal) (h : Fin 8) : Given.Mem := ⟨fun d e => S.C (ix4 0 h d e), fun d => S.n (ix3 0 h d), S.m (ix3 0 h 0)⟩

theorem chunk_eq (S : St Ideal) (h : Fin 8) : (blks m c t).chunk S h = (given m c).chunk (bat t) (chn t) h (memOf S h).C (memOf S h).n (memOf S h).m := by
  unfold Blocks.chunk Given.chunk memOf
  congr 1
  · funext l; rw [gate_at]; rfl
  · funext l; rw [gate_at]; rfl
  · funext l d; rw [x0_at, rowAt_eq]; exact congrArg ((given m c).z _) (Fin.ext (Nat.zero_add _))
  · funext l d; rw [x1_at, rowAt_eq]; rfl
  · funext l e; rw [x2_at, rowAt_eq]; rfl
  · funext l e; rw [x3_at, rowAt_eq]; rfl
  · funext e; exact x8_at m c t (col512 h e)

theorem mem_eq {C C' : Fin 256 → Fin 512 → EReal} {n n' : Fin 256 → EReal} {x x' : EReal} (hC : ∀ d e, C d e = C' d e) (hn : ∀ d, n d = n' d) (hx : x = x') :
    Given.Mem.mk C n x = Given.Mem.mk C' n' x' := by
  rw [funext fun d => funext fun e => hC d e, funext hn, hx]
theorem memOf_next (S : St Ideal) (h : Fin 8) : memOf ((blks m c t).next S) h = ⟨((blks m c t).chunk S h).cN, ((blks m c t).chunk S h).nN, ((blks m c t).chunk S h).mN⟩ :=
  mem_eq (fun d e => Blocks.next_C S (blks_ok m c t) h d e) (fun d => Blocks.next_n S (blks_ok m c t) h d) (Blocks.next_m S (blks_ok m c t) h)

theorem memOf_start (h : Fin 8) : memOf (start m c t) h = Given.Mem.zero := by
  unfold memOf Given.Mem.zero
  congr 1
  · funext d e; exact start_C m c t h d e
  · funext d; exact start_n m c t h d
  · exact start_m m c t h

theorem next_mem (S : St Ideal) (h : Fin 8) (hS : memOf S h = (given m c).mem (bat t) h (chn t).val) :
    (blks m c t).chunk S h = (given m c).nth (bat t) h (chn t) ∧ memOf ((blks m c t).next S) h = (given m c).mem (bat t) h ((chn t).val + 1) := by
  have hc : (blks m c t).chunk S h = (given m c).nth (bat t) h (chn t) := by rw [chunk_eq, hS]; rfl
  exact ⟨hc, by rw [memOf_next, hc, Given.mem_succ]⟩

/-- Each point starts from the state its batch's earlier chunks left. -/
theorem entry_mem (h : Fin 8) : ∀ (n : ℕ) (hn : n < cfg0.N), memOf (entry m c n hn) h = (given m c).mem (bat ⟨n, hn⟩) h (chn ⟨n, hn⟩).val
  | 0, hn => memOf_start m c ⟨0, hn⟩ h
  | n + 1, hn => by
    by_cases h0 : (n + 1) % 32 = 0
    · rw [entry_first m c ⟨n + 1, hn⟩ h0, memOf_start]
      have : (chn ⟨n + 1, hn⟩).val = 0 := h0
      rw [this]; rfl
    · have hp : n < cfg0.N := Nat.lt_of_succ_lt hn
      have he : entry m c (n + 1) hn = (blks m c ⟨n, hp⟩).next (entry m c n hp) := entry_later m c ⟨n + 1, hn⟩ h0 hp
      rw [he, (next_mem m c ⟨n, hp⟩ _ h (entry_mem h n hp)).2]
      have hb : bat ⟨n, hp⟩ = bat ⟨n + 1, hn⟩ := Fin.ext (by show n / 32 = (n + 1) / 32; omega)
      have hj : (chn ⟨n, hp⟩).val + 1 = (chn ⟨n + 1, hn⟩).val := by show n % 32 + 1 = (n + 1) % 32; omega
      rw [hb, hj]

theorem after_mem (h : Fin 8) : memOf (after m c t) h = (given m c).mem (bat t) h ((chn t).val + 1) := (next_mem m c t _ h (entry_mem m c h t.val t.isLt)).2
theorem rows_mem (l : Fin 64) (h : Fin 8) (e : Fin 512) : (blks m c t).rows (entry m c t.val t.isLt) (ix2 l (col512 h e)) = ((given m c).nth (bat t) h (chn t)).out l e := by
  rw [Blocks.rows_at _ (blks_ok m c t) l h e, (next_mem m c t _ h (entry_mem m c h t.val t.isLt)).1]

end Cert.KernelIdeal.Recur

end
-- ==== Proof.CumSum.lean ====
/- The running sum along the positions of a chunk, as the reference's window sum makes it. -/
module

public import proofs.«01_k».proof.Proof.Gen.ReferenceIdeal
public import Idealize.ShloMosaic.Lib.Pointwise

@[expose] public section

set_option maxRecDepth 16384

noncomputable section

namespace Cert.ReferenceIdeal.Recur

open Idealize.ShloMosaic
open Cert.ReferenceIdeal Cert.ReferenceIdeal.Gen

/-- The window's places in turn: 64 of them, along the middle axis. -/
theorem win_one : ∀ n : Fin (⟨3, ![1, 64, 1]⟩ : Shape).numel, ((⟨3, ![1, 64, 1]⟩ : Shape).rowMajor.symm n 1).val = n.val := by decide +kernel
theorem win_zero (n : Fin (⟨3, ![1, 64, 1]⟩ : Shape).numel) : ((⟨3, ![1, 64, 1]⟩ : Shape).rowMajor.symm n 0).val = 0 :=
  Nat.lt_one_iff.1 ((⟨3, ![1, 64, 1]⟩ : Shape).rowMajor.symm n 0).isLt
theorem win_two (n : Fin (⟨3, ![1, 64, 1]⟩ : Shape).numel) : ((⟨3, ![1, 64, 1]⟩ : Shape).rowMajor.symm n 2).val = 0 :=
  Nat.lt_one_iff.1 ((⟨3, ![1, 64, 1]⟩ : Shape).rowMajor.symm n 2).isLt

/-- A left fold of additions is a sum. -/
theorem foldl_list {ι : Type} (f : ι → EReal) (L : List ι) (z : EReal) : L.foldl (fun a i => a + f i) z = z + (L.map f).sum := by
  induction L generalizing z with
  | nil => simp
  | cons i L ih => rw [List.foldl_cons, ih, List.map_cons, List.sum_cons, add_assoc]
theorem foldl_sum {n : ℕ} (f : Fin n → EReal) (z : EReal) : (List.finRange n).foldl (fun a i => a + f i) z = z + ∑ i, f i := by
  rw [foldl_list, ← List.ofFn_eq_map, List.sum_ofFn]

/-- The sum over the window that ends at `l` is the sum over the positions up to `l`. -/
theorem sum_window (f : Fin 64 → EReal) (l : Fin 64) :
    (∑ n : Fin 64, if 63 ≤ l.val + n.val then f ⟨(l.val + n.val - 63) % 64, Nat.mod_lt _ (by decide)⟩ else 0) = ∑ s, if s ≤ l then f s else 0 := by
  rw [← Finset.sum_filter, ← Finset.sum_filter]
  refine Finset.sum_nbij' (fun n => ⟨(l.val + n.val - 63) % 64, Nat.mod_lt _ (by decide)⟩) (fun s => ⟨(s.val + 63 - l.val) % 64, Nat.mod_lt _ (by decide)⟩)
    ?_ ?_ ?_ ?_ (fun _ _ => rfl)
  · intro n hn
    have hn := (Finset.mem_filter.1 hn).2
    refine Finset.mem_filter.2 ⟨Finset.mem_univ _, ?_⟩
    show (l.val + n.val - 63) % 64 ≤ l.val
    omega
  · intro s hs
    have hs : s.val ≤ l.val := (Finset.mem_filter.1 hs).2
    refine Finset.mem_filter.2 ⟨Finset.mem_univ _, ?_⟩
    show 63 ≤ l.val + (s.val + 63 - l.val) % 64
    omega
  · intro n hn
    have hn := (Finset.mem_filter.1 hn).2
    refine Fin.ext ?_
    show ((l.val + n.val - 63) % 64 + 63 - l.val) % 64 = n.val
    omega
  · intro s hs
    have hs : s.val ≤ l.val := (Finset.mem_filter.1 hs).2
    refine Fin.ext ?_
    show (l.val + (s.val + 63 - l.val) % 64 - 63) % 64 = s.val
    omega

/-- The running sum at a position. -/
theorem cumsum_at (x : FVec Ideal S4x64x8 .f32) (z : FVec Ideal S_ .f32) (hz : z (Shape.Idx.first h_S_) = (0 : EReal)) (b : Fin 4) (l : Fin 64) (h : Fin 8) :
    Host.reduceWindowAdd ![1, 64, 1] ![1, 1, 1] ![0, 63, 0] ![0, 0, 0] x z reduceWindows_S4x64x8_S4x64x8_w1s1p0_0_w64s1p63_0_w1s1p0_0 h_S_ (ix3 b l h)
      = ∑ s : Fin 64, if s ≤ l then (x (ix3 b s h) : EReal) else 0 := by
  rw [← sum_window (fun s => (x (ix3 b s h) : EReal)) l]
  unfold Host.reduceWindowAdd
  rw [hz]
  show Ideal.hostReduceWindowAdd _ _ _ _ _ _ _ _ = _
  unfold Ideal.hostReduceWindowAdd Host.reduceWindow
  dsimp only
  rw [foldl_sum, zero_add]
  have hN : (⟨3, ![1, 64, 1]⟩ : Shape).numel = 64 := by decide
  refine Fintype.sum_equiv (finCongr hN) _ _ fun n => ?_
  show _ = if 63 ≤ l.val + n.val then (x (ix3 b ⟨(l.val + n.val - 63) % 64, Nat.mod_lt _ (by decide)⟩ h) : EReal) else 0
  have e1 := win_one n
  have e0 := win_zero n
  have e2 := win_two n
  have hb := b.isLt
  have hl := l.isLt
  have hh := h.isLt
  have hn : n.val < 64 := lt_of_lt_of_eq n.isLt hN
  by_cases hc : 63 ≤ l.val + n.val
  · rw [if_pos hc, dif_pos]
    · refine congrArg x (funext fun a => Fin.ext ?_)
      match a with
      | ⟨0, _⟩ => show b.val * 1 + ((⟨3, ![1, 64, 1]⟩ : Shape).rowMajor.symm n 0).val - 0 = b.val; omega
      | ⟨1, _⟩ => show l.val * 1 + ((⟨3, ![1, 64, 1]⟩ : Shape).rowMajor.symm n 1).val - 63 = (l.val + n.val - 63) % 64; omega
      | ⟨2, _⟩ => show h.val * 1 + ((⟨3, ![1, 64, 1]⟩ : Shape).rowMajor.symm n 2).val - 0 = h.val; omega
    · intro a
      match a with
      | ⟨0, _⟩ => show 0 ≤ b.val * 1 + ((⟨3, ![1, 64, 1]⟩ : Shape).rowMajor.symm n 0).val ∧ b.val * 1 + ((⟨3, ![1, 64, 1]⟩ : Shape).rowMajor.symm n 0).val - 0 < 4; omega
      | ⟨1, _⟩ => show 63 ≤ l.val * 1 + ((⟨3, ![1, 64, 1]⟩ : Shape).rowMajor.symm n 1).val ∧ l.val * 1 + ((⟨3, ![1, 64, 1]⟩ : Shape).rowMajor.symm n 1).val - 63 < 64; omega
      | ⟨2, _⟩ => show 0 ≤ h.val * 1 + ((⟨3, ![1, 64, 1]⟩ : Shape).rowMajor.symm n 2).val ∧ h.val * 1 + ((⟨3, ![1, 64, 1]⟩ : Shape).rowMajor.symm n 2).val - 0 < 8; omega
  · rw [if_neg hc, dif_neg]
    intro hin
    have h1 : 63 ≤ l.val * 1 + ((⟨3, ![1, 64, 1]⟩ : Shape).rowMajor.symm n 1).val := (hin 1).1
    omega

end Cert.ReferenceIdeal.Recur

end
-- ==== Proof.RefValue.lean ====
/- What one trip of the reference's scan computes for each batch and head, as the numbers of `Chunk`. -/
module

public import proofs.«01_k».proof.Proof.Gen.ReferenceIdeal.Step
public import proofs.«01_k».proof.Proof.CumSum
public import proofs.«01_k».proof.Proof.Chunk

@[expose] public section

set_option maxRecDepth 16384

noncomputable section

namespace Cert.ReferenceIdeal.Recur

open Idealize.ShloMosaic
open Cert.ReferenceIdeal Cert.ReferenceIdeal.Gen Cert.ReferenceIdeal.Step
open Cert.Math (Chunk)

theorem pick_le : ∀ (l s : Fin 64), IntOp.cmpi CmpIPredicate.sge (BitVec.ofNat 32 l.val) (BitVec.ofNat 32 s.val) = if s ≤ l then 1#1 else 0#1 := by decide +kernel
theorem first_zero : ∀ l s : Fin 64, Scalar.select (if s ≤ l then 1#1 else 0#1) (1#1) (0#1) = if s ≤ l then 1#1 else 0#1 := by decide +kernel

theorem ix5_eq {a b c d e : ℕ} {i0 i0' : Fin a} {i1 i1' : Fin b} {i2 i2' : Fin c} {i3 i3' : Fin d} {i4 i4' : Fin e} (h0 : i0.val = i0'.val) (h1 : i1.val = i1'.val)
    (h2 : i2.val = i2'.val) (h3 : i3.val = i3'.val) (h4 : i4.val = i4'.val) : ix5 i0 i1 i2 i3 i4 = ix5 i0' i1' i2' i3' i4' := by
  rw [Fin.ext h0, Fin.ext h1, Fin.ext h2, Fin.ext h3, Fin.ext h4]
theorem ix4_eq {a b c d : ℕ} {i0 i0' : Fin a} {i1 i1' : Fin b} {i2 i2' : Fin c} {i3 i3' : Fin d} (h0 : i0.val = i0'.val) (h1 : i1.val = i1'.val)
    (h2 : i2.val = i2'.val) (h3 : i3.val = i3'.val) : ix4 i0 i1 i2 i3 = ix4 i0' i1' i2' i3' := by
  rw [Fin.ext h0, Fin.ext h1, Fin.ext h2, Fin.ext h3]

variable (j : Fin 32) (s : State Ideal) (b : Fin 4) (h : Fin 8)

/-- The chunk that batch `b`'s head `h` sees at trip `j`. -/
def chunk : Chunk where
  lf l := s.main_v46_5 (ix4 j b l h)
  ig l := s.main_v46_4 (ix4 j b l h)
  q l d := s.main_v46_0 (ix5 j b l h d)
  k l d := s.main_v46_1 (ix5 j b l h d)
  v l e := s.main_v46_2 (ix5 j b l h e)
  o l e := s.main_v46_3 (ix5 j b l h e)
  g e := s.main_v46_6 (ix2 h e)
  C d e := s.main_v46_8 (ix4 b h d e)
  n d := s.main_v46_9 (ix3 b h d)
  m := s.main_v46_10 (ix2 b h)

/-- Where the trip's slices start: at the trip's number, and at 0 along the other axes. -/
theorem start256 : ∀ (j : Fin 32) (a : Fin 5), Host.clampedStart S32x4x64x8x256 S1x4x64x8x256 rfl (fun k =>
    BitVec.toInt ((![constantI S_ 32 (BitVec.ofNat 32 j.val), constantI S_ 32 0#32, constantI S_ 32 0#32, constantI S_ 32 0#32, constantI S_ 32 0#32] : Fin 5 → IVec S_ 32)
      k (Shape.Idx.first h_S_))) a = if a = 0 then j.val else 0 := by decide +kernel
theorem start512 : ∀ (j : Fin 32) (a : Fin 5), Host.clampedStart S32x4x64x8x512 S1x4x64x8x512 rfl (fun k =>
    BitVec.toInt ((![constantI S_ 32 (BitVec.ofNat 32 j.val), constantI S_ 32 0#32, constantI S_ 32 0#32, constantI S_ 32 0#32, constantI S_ 32 0#32] : Fin 5 → IVec S_ 32)
      k (Shape.Idx.first h_S_))) a = if a = 0 then j.val else 0 := by decide +kernel
theorem start8 : ∀ (j : Fin 32) (a : Fin 4), Host.clampedStart S32x4x64x8 S1x4x64x8 rfl (fun k =>
    BitVec.toInt ((![constantI S_ 32 (BitVec.ofNat 32 j.val), constantI S_ 32 0#32, constantI S_ 32 0#32, constantI S_ 32 0#32] : Fin 4 → IVec S_ 32)
      k (Shape.Idx.first h_S_))) a = if a = 0 then j.val else 0 := by decide +kernel

theorem q_at (l : Fin 64) (d : Fin 256) : b5 j s (ix4 b l h d) = (chunk j s b h).q l d := by
  pointwise [b5, b4, b0, b1, b2, b3]
  refine congrArg s.main_v46_0 (ix5_eq (start256 j 0) ?_ ?_ ?_ ?_)
  · exact congrArg (· + b.val) (start256 j 1) |>.trans (Nat.zero_add _)
  · exact congrArg (· + l.val) (start256 j 2) |>.trans (Nat.zero_add _)
  · exact congrArg (· + h.val) (start256 j 3) |>.trans (Nat.zero_add _)
  · exact congrArg (· + d.val) (start256 j 4) |>.trans (Nat.zero_add _)
theorem k_at (l : Fin 64) (d : Fin 256) : b11 j s (ix4 b l h d) = (chunk j s b h).k l d := by
  pointwise [b11, b10, b6, b7, b8, b9]
  refine congrArg s.main_v46_1 (ix5_eq (start256 j 0) ?_ ?_ ?_ ?_)
  · exact congrArg (· + b.val) (start256 j 1) |>.trans (Nat.zero_add _)
  · exact congrArg (· + l.val) (start256 j 2) |>.trans (Nat.zero_add _)
  · exact congrArg (· + h.val) (start256 j 3) |>.trans (Nat.zero_add _)
  · exact congrArg (· + d.val) (start256 j 4) |>.trans (Nat.zero_add _)
theorem v_at (l : Fin 64) (d : Fin 512) : b17 j s (ix4 b l h d) = (chunk j s b h).v l d := by
  pointwise [b17, b16, b12, b13, b14, b15]
  refine congrArg s.main_v46_2 (ix5_eq (start512 j 0) ?_ ?_ ?_ ?_)
  · exact congrArg (· + b.val) (start512 j 1) |>.trans (Nat.zero_add _)
  · exact congrArg (· + l.val) (start512 j 2) |>.trans (Nat.zero_add _)
  · exact congrArg (· + h.val) (start512 j 3) |>.trans (Nat.zero_add _)
  · exact congrArg (· + d.val) (start512 j 4) |>.trans (Nat.zero_add _)
theorem o_at (l : Fin 64) (d : Fin 512) : b23 j s (ix4 b l h d) = (chunk j s b h).o l d := by
  pointwise [b23, b22, b18, b19, b20, b21]
  refine congrArg s.main_v46_3 (ix5_eq (start512 j 0) ?_ ?_ ?_ ?_)
  · exact congrArg (· + b.val) (start512 j 1) |>.trans (Nat.zero_add _)
  · exact congrArg (· + l.val) (start512 j 2) |>.trans (Nat.zero_add _)
  · exact congrArg (· + h.val) (start512 j 3) |>.trans (Nat.zero_add _)
  · exact congrArg (· + d.val) (start512 j 4) |>.trans (Nat.zero_add _)
theorem ig_at (l : Fin 64) : b28 j s (ix3 b l h) = (chunk j s b h).ig l := by
  pointwise [b28, b27, b24, b25, b26]
  refine congrArg s.main_v46_4 (ix4_eq (start8 j 0) ?_ ?_ ?_)
  · exact congrArg (· + b.val) (start8 j 1) |>.trans (Nat.zero_add _)
  · exact congrArg (· + l.val) (start8 j 2) |>.trans (Nat.zero_add _)
  · exact congrArg (· + h.val) (start8 j 3) |>.trans (Nat.zero_add _)
theorem lf_at (l : Fin 64) : b33 j s (ix3 b l h) = (chunk j s b h).lf l := by
  pointwise [b33, b32, b29, b30, b31]
  refine congrArg s.main_v46_5 (ix4_eq (start8 j 0) ?_ ?_ ?_)
  · exact congrArg (· + b.val) (start8 j 1) |>.trans (Nat.zero_add _)
  · exact congrArg (· + l.val) (start8 j 2) |>.trans (Nat.zero_add _)
  · exact congrArg (· + h.val) (start8 j 3) |>.trans (Nat.zero_add _)
theorem B_at (l : Fin 64) : b37 j s (ix3 b h l) = (chunk j s b h).B l := by
  pointwise [b37]
  unfold b36
  rw [cumsum_at]
  · exact Finset.sum_congr rfl fun x _ => by rw [lf_at]
  · pointwise [b35, b34]
theorem T_at : b37 j s (ix3 b h 63) = (chunk j s b h).T := by
  rw [B_at]
  exact Finset.sum_congr rfl fun x _ => if_pos (Fin.le_last x)
theorem D_at (l x : Fin 64) : b62 j s (ix4 b h l x) = (chunk j s b h).D l x := by
  pointwise [b62, b60, b49, b46, b44, b45, b41, b43, b42, b40, b39, b48, b47, b57, b54, b52, b53, b50, b51, b56, b55, b61, b59, b58, b38]
  rw [B_at, B_at, ig_at, show IntOp.addi (BitVec.ofNat 32 l.val) 0#32 = BitVec.ofNat 32 l.val from BitVec.add_zero _, pick_le, first_zero]
  unfold Chunk.D
  by_cases hx : x ≤ l
  · rw [if_pos hx, if_pos hx]; rfl
  · rw [if_neg hx, if_neg hx]; rfl
theorem I_at (l : Fin 64) : b65 j s (ix3 b h l) = (chunk j s b h).I l := by
  pointwise [b65, b64, b63]
  rw [B_at]; rfl
theorem M_at (l : Fin 64) : b68 j s (ix3 b h l) = (chunk j s b h).M l := by
  pointwise [b68, b67, b66]
  rw [I_at]; simp only [D_at]; rfl
theorem W_at (l x : Fin 64) : b74 j s (ix4 b h l x) = (chunk j s b h).W l x := by
  pointwise [b74, b73, b72, b71, b70, b69]
  rw [D_at, M_at]; simp only [q_at, k_at]; rfl
theorem A_at (l : Fin 64) : b76 j s (ix3 b h l) = (chunk j s b h).A l := by
  pointwise [b76, b75]
  rw [I_at, M_at]; rfl
theorem num_at (l : Fin 64) (e : Fin 512) : b82 j s (ix4 b h l e) = (chunk j s b h).num l e := by
  pointwise [b82, b81, b80, b79, b78, b77]
  rw [A_at]; simp only [q_at, W_at, v_at]; rfl
theorem nq_at (l : Fin 64) : b87 j s (ix3 b h l) = (chunk j s b h).nq l := by
  pointwise [b87, b86, b85, b84, b83]
  rw [A_at]; simp only [q_at, W_at]; rfl
theorem hs_at (l : Fin 64) (e : Fin 512) : b103 j s (ix4 b l h e) = (chunk j s b h).hs l e := by
  pointwise [b103, b102, b101, b100, b91, b90, b89, b88]
  rw [num_at, nq_at, M_at]; rfl
theorem out_at (l : Fin 64) (e : Fin 512) : b120 j s (ix4 b l h e) = (chunk j s b h).out l e := by
  pointwise [b120, b119, b118, b117, b116, b115, b114, b113, b112, b111, b110, b109, b108, b107, b106, b105, b104, b99, b98, b97, b96, b95, b94, b93, b92]
  simp only [hs_at, o_at]; rfl
theorem G_at (x : Fin 64) : b124 j s (ix3 b h x) = (chunk j s b h).G x := by
  pointwise [b124, b123, b122, b121, b38]
  rw [ig_at, B_at j s b h x]; exact congrArg (fun z => z - (chunk j s b h).B x + (chunk j s b h).ig x) (T_at j s b h)
theorem mN_at : b130 j s (ix2 b h) = (chunk j s b h).mN := by
  pointwise [b130, b129, b128, b127, b126, b125]
  simp only [G_at]; exact congrArg (fun z => max (z + _) _) (T_at j s b h)
theorem dec_at : b135 j s (ix2 b h) = (chunk j s b h).dec := by
  pointwise [b135, b134, b133, b132, b131]
  rw [mN_at]; exact congrArg (fun z => Ideal.exp (z + _ - _)) (T_at j s b h)
theorem kw_at (x : Fin 64) (d : Fin 256) : b143 j s (ix4 b x h d) = (chunk j s b h).kw x d := by
  pointwise [b143, b142, b141, b140, b139, b138, b137, b136]
  rw [G_at, mN_at, k_at]; rfl
theorem cN_at (d : Fin 256) (e : Fin 512) : b148 j s (ix4 b h d e) = (chunk j s b h).cN d e := by
  pointwise [b148, b147, b146, b145, b144]
  rw [dec_at]; simp only [kw_at, v_at]; rfl
theorem nN_at (d : Fin 256) : b154 j s (ix3 b h d) = (chunk j s b h).nN d := by
  pointwise [b154, b153, b152, b151, b150, b149]
  rw [dec_at]; simp only [kw_at]; rfl

/-- The trip's rows are put at its place of the output; the other places keep theirs. -/
theorem rows_at (j' : Fin 32) (l : Fin 64) (e : Fin 512) : b160 j s (ix5 j' b l h e) = if j' = j then (chunk j s b h).out l e else s.main_v46_11 (ix5 j' b l h e) := by
  pointwise [b160, b155, b156, b157, b158, b159]
  have s0 := (start512 j 0).trans (if_pos rfl)
  have s1 := (start512 j 1).trans (if_neg (by decide))
  have s2 := (start512 j 2).trans (if_neg (by decide))
  have s3 := (start512 j 3).trans (if_neg (by decide))
  have s4 := (start512 j 4).trans (if_neg (by decide))
  by_cases hj : j' = j
  · rw [if_pos hj, ← out_at]
    refine (dif_pos ⟨⟨(s0.trans (congrArg Fin.val hj.symm)).le, Nat.lt_succ_of_le (s0.trans (congrArg Fin.val hj.symm)).ge⟩, s1.trans_le (Nat.zero_le _), s2.trans_le (Nat.zero_le _), s3.trans_le (Nat.zero_le _), s4.trans_le (Nat.zero_le _)⟩).trans ?_
    refine congrArg (b120 j s) (ix4_eq ?_ ?_ ?_ ?_)
    · exact congrArg (b.val - ·) s1
    · exact congrArg (l.val - ·) s2
    · exact congrArg (h.val - ·) s3
    · exact congrArg (e.val - ·) s4
  · rw [if_neg hj]
    refine dif_neg fun hc => hj (Fin.ext (Nat.le_antisymm ?_ ?_))
    · exact (Nat.le_of_lt_succ hc.1.2).trans s0.le
    · exact s0.ge.trans hc.1.1

end Cert.ReferenceIdeal.Recur

end
-- ==== Proof.RefSetUp.lean ====
/- The reference's scan in terms of its arguments: the states its trips pass through, and its results. -/
module

public import proofs.«01_k».proof.Proof.RefValue
public import proofs.«01_k».proof.Proof.Given
public import Idealize.ShloMosaic.Lib.Pipeline.ValueKit

@[expose] public section

set_option maxRecDepth 16384

noncomputable section

namespace Cert.ReferenceIdeal.Recur

open Idealize.ShloMosaic
open Cert.ReferenceIdeal Cert.ReferenceIdeal.Gen Cert.ReferenceIdeal.Step
open Cert.Math (Chunk Given)

variable (X : FVec Ideal S8704x12304 .f32) (Bg : FVec Ideal S1x16 .f32) (G : FVec Ideal S1x4096 .f32)

/-- The arguments by their coordinates. -/
def given : Given := ⟨fun r c => X (ix2 r c), fun a => Bg (ix2 0 a), fun e => G (ix2 0 e)⟩

variable (j : Fin 32) (b : Fin 4) (l : Fin 64) (h : Fin 8)

theorem init_q (d : Fin 256) : A_main_v34 (F := Ideal) X Bg G (ix5 j b l h d) = (given X Bg G).z (Given.row b j l) ⟨256 * h.val + d.val, by omega⟩ := by
  pointwise [A_main_v34, A_main_v33, A_main_v5, A_main_v4, A_main_v3, A_main_v2]
  unfold given Given.row
  blk_ext
theorem init_k (d : Fin 256) : A_main_v36 (F := Ideal) X Bg G (ix5 j b l h d) = (given X Bg G).z (Given.row b j l) ⟨2048 + (256 * h.val + d.val), by omega⟩ * Ideal.ofBits .f32 0x3D800000#32 := by
  pointwise [A_main_v36, A_main_v35, A_main_v9, K_main_v8, K_main_cst, A_main_v7, A_main_v6, A_main_v3, A_main_v2]
  refine congrArg (· * _) ?_
  unfold given Given.row
  blk_ext
theorem init_v (e : Fin 512) : A_main_v38 (F := Ideal) X Bg G (ix5 j b l h e) = (given X Bg G).z (Given.row b j l) ⟨4096 + (512 * h.val + e.val), by omega⟩ := by
  pointwise [A_main_v38, A_main_v37, A_main_v11, A_main_v10, A_main_v3, A_main_v2]
  unfold given Given.row
  blk_ext
theorem init_o (e : Fin 512) : A_main_v40 (F := Ideal) X Bg G (ix5 j b l h e) = (given X Bg G).z (Given.row b j l) ⟨8192 + (512 * h.val + e.val), by omega⟩ := by
  pointwise [A_main_v40, A_main_v39, A_main_v13, A_main_v12, A_main_v3, A_main_v2]
  unfold given Given.row
  blk_ext
theorem init_g (e : Fin 512) : A_main_v32 (F := Ideal) X Bg G (ix2 h e) = (given X Bg G).g ⟨512 * h.val + e.val, by omega⟩ := by
  pointwise [A_main_v32, A_main_v1]
  unfold given
  blk_ext
theorem init_gate (i : Fin 2048) (a : Fin 16) : A_main_v22 (F := Ideal) X Bg G (ix3 b i a) = (given X Bg G).gate ⟨2048 * b.val + i.val, by omega⟩ a := by
  pointwise [A_main_v22, K_main_v21, K_main_cst_1, A_main_v20, A_main_v19, K_main_v18, K_main_cst_0, A_main_v17, A_main_v16, A_main_v15, A_main_v14, A_main_v3, A_main_v2, A_main_v0]
  unfold given Given.gate
  refine congrArg (fun z => Ideal.ofBits .f32 0x41700000#32 * Ideal.tanh (Ideal.div z (Ideal.ofBits .f32 0x41700000#32))) ?_
  refine congrArg₂ (· + ·) ?_ ?_
  · blk_ext
  · blk_ext
theorem init_ig : A_main_v42 (F := Ideal) X Bg G (ix4 j b l h) = (given X Bg G).gate (Given.row b j l) ⟨h.val, by omega⟩ := by
  pointwise [A_main_v42, A_main_v41, A_main_v23]
  refine Eq.trans ?_ (init_gate X Bg G b ⟨64 * j.val + l.val, by omega⟩ ⟨h.val, by omega⟩ |>.trans ?_)
  · blk_ext
  · exact congrArg (fun r => (given X Bg G).gate r _) (Fin.ext (by show 2048 * b.val + (64 * j.val + l.val) = 2048 * b.val + 64 * j.val + l.val; omega))
theorem init_lf : A_main_v44 (F := Ideal) X Bg G (ix4 j b l h) = -Ideal.log1p (Ideal.exp (-(given X Bg G).gate (Given.row b j l) ⟨8 + h.val, by omega⟩)) := by
  pointwise [A_main_v44, A_main_v43, A_main_v28, A_main_v27, A_main_v26, A_main_v25, A_main_v24]
  refine congrArg (fun z => -Ideal.log1p (Ideal.exp (-z))) ?_
  refine Eq.trans ?_ (init_gate X Bg G b ⟨64 * j.val + l.val, by omega⟩ ⟨8 + h.val, by omega⟩ |>.trans ?_)
  · blk_ext
  · exact congrArg (fun r => (given X Bg G).gate r _) (Fin.ext (by show 2048 * b.val + (64 * j.val + l.val) = 2048 * b.val + 64 * j.val + l.val; omega))

/-- The states the trips pass through. -/
def it : ℕ → State Ideal
  | 0 => init X Bg G
  | n + 1 => step n (it n)

/-- What no trip changes. -/
structure Same (s : State Ideal) : Prop where
  h0 : s.main_v46_0 = A_main_v34 X Bg G
  h1 : s.main_v46_1 = A_main_v36 X Bg G
  h2 : s.main_v46_2 = A_main_v38 X Bg G
  h3 : s.main_v46_3 = A_main_v40 X Bg G
  h4 : s.main_v46_4 = A_main_v42 X Bg G
  h5 : s.main_v46_5 = A_main_v44 X Bg G
  h6 : s.main_v46_6 = A_main_v32 X Bg G

theorem it_same : ∀ n, Same X Bg G (it X Bg G n)
  | 0 => ⟨rfl, rfl, rfl, rfl, rfl, rfl, rfl⟩
  | n + 1 => let i := it_same n; ⟨i.h0, i.h1, i.h2, i.h3, i.h4, i.h5, i.h6⟩

/-- The state that head `h` of batch `b` has. -/
def memOf (s : State Ideal) : Given.Mem := ⟨fun d e => s.main_v46_8 (ix4 b h d e), fun d => s.main_v46_9 (ix3 b h d), s.main_v46_10 (ix2 b h)⟩

theorem chunk_eq (s : State Ideal) (same : Same X Bg G s) : chunk j s b h = (given X Bg G).chunk b j h (memOf b h s).C (memOf b h s).n (memOf b h s).m := by
  unfold chunk Given.chunk memOf
  congr 1
  · funext l; rw [same.h5]; exact init_lf X Bg G j b l h
  · funext l; rw [same.h4]; exact init_ig X Bg G j b l h
  · funext l d; rw [same.h0]; exact init_q X Bg G j b l h d
  · funext l d; rw [same.h1]; exact init_k X Bg G j b l h d
  · funext l e; rw [same.h2]; exact init_v X Bg G j b l h e
  · funext l e; rw [same.h3]; exact init_o X Bg G j b l h e
  · funext e; rw [same.h6]; exact init_g X Bg G h e

theorem memOf_init : memOf b h (init X Bg G) = Given.Mem.zero := by
  unfold memOf Given.Mem.zero
  congr 1
  · funext d e; show K_main_v29 (F := Ideal) (ix4 b h d e) = 0; pointwise [K_main_v29, K_main_cst_2]
  · funext d; show K_main_v30 (F := Ideal) (ix3 b h d) = 0; pointwise [K_main_v30, K_main_cst_3]
  · show K_main_v31 (F := Ideal) (ix2 b h) = 0; pointwise [K_main_v31, K_main_cst_4]

theorem memOf_step (s : State Ideal) : memOf b h (step j.val s) = ⟨(chunk j s b h).cN, (chunk j s b h).nN, (chunk j s b h).mN⟩ := by
  unfold memOf
  rw [step_main_v46_8, step_main_v46_9, step_main_v46_10]
  congr 1
  · funext d e; exact cN_at j s b h d e
  · funext d; exact nN_at j s b h d
  · exact mN_at j s b h

/-- After `n` trips each head has the state after `n` chunks. -/
theorem mem_it : ∀ n, n ≤ 32 → memOf b h (it X Bg G n) = (given X Bg G).mem b h n
  | 0, _ => memOf_init X Bg G b h
  | n + 1, hn => by
    have ih := mem_it n (Nat.le_of_succ_le hn)
    refine (memOf_step ⟨n, hn⟩ b h (it X Bg G n)).trans ?_
    rw [Given.mem_succ (given X Bg G) b h ⟨n, hn⟩, chunk_eq X Bg G ⟨n, hn⟩ b h _ (it_same X Bg G n), ih]; rfl
theorem chunk_it : chunk j (it X Bg G j.val) b h = (given X Bg G).nth b h j := by
  rw [chunk_eq X Bg G j b h _ (it_same X Bg G j.val), mem_it X Bg G b h j.val (Nat.le_of_lt j.isLt)]; rfl

/-- After `n` trips the first `n` places of the output hold the chunks' rows. -/
theorem rows_it (e : Fin 512) : ∀ n, n ≤ 32 → j.val < n → (it X Bg G n).main_v46_11 (ix5 j b l h e) = ((given X Bg G).nth b h j).out l e
  | 0, _, hj => absurd hj (Nat.not_lt_zero _)
  | n + 1, hn, hj => by
    show (step n (it X Bg G n)).main_v46_11 _ = _
    rw [step_main_v46_11]
    refine (rows_at ⟨n, hn⟩ (it X Bg G n) b h j l e).trans ?_
    by_cases hjn : j = ⟨n, hn⟩
    · rw [if_pos hjn, hjn, ← chunk_it X Bg G ⟨n, hn⟩ b h]
    · rw [if_neg hjn]
      exact rows_it e n (Nat.le_of_succ_le hn) (lt_of_le_of_ne (Nat.le_of_lt_succ hj) fun hc => hjn (Fin.ext hc))

/-! ## The results -/

theorem res_C (d : Fin 256) (e : Fin 512) : (it X Bg G 32).main_v46_8 (ix4 b h d e) = ((given X Bg G).mem b h 32).C d e :=
  congrArg (fun M : Given.Mem => M.C d e) (mem_it X Bg G b h 32 le_rfl)
theorem res_n (d : Fin 256) : (it X Bg G 32).main_v46_9 (ix3 b h d) = ((given X Bg G).mem b h 32).n d :=
  congrArg (fun M : Given.Mem => M.n d) (mem_it X Bg G b h 32 le_rfl)
theorem res_m : R_main_v52 (it X Bg G 32) (ix3 b h 0) = ((given X Bg G).mem b h 32).m := by
  refine Eq.trans ?_ (congrArg (fun M : Given.Mem => M.m) (mem_it X Bg G b h 32 le_rfl))
  pointwise [R_main_v52]; rfl
theorem res_h (e : Fin 512) : R_main_v51 (it X Bg G 32) (ix2 (Given.row b j l) ⟨512 * h.val + e.val, by omega⟩) = ((given X Bg G).nth b h j).out l e := by
  refine Eq.trans ?_ (rows_it X Bg G j b l h e 32 le_rfl j.isLt)
  pointwise [R_main_v51, Given.row]
  exact dif_pos (by omega)
theorem res_rest (r : Fin 8704) (c : Fin 4096) (hr : 8192 ≤ r.val) : R_main_v51 (it X Bg G 32) (ix2 r c) = 0 := by
  pointwise [R_main_v51]
  exact dif_neg (by omega)

end Cert.ReferenceIdeal.Recur

end
-- ==== Proof.RefTrips.lean ====
/- The reference program's run over the step of its scan: at a valuation that holds a state every value of one trip is the step's, what
   comes before the loop holds the initial state, and the results are read off the state after the last trip. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v46_8) = s.main_v46_8
  f_9 : V0 (Proc.devRef .tc main_v46_9) = s.main_v46_9
  f_10 : V0 (Proc.devRef .tc main_v46_10) = s.main_v46_10
  f_11 : V0 (Proc.devRef .tc main_v46_11) = s.main_v46_11
  f_0 : V0 (Proc.devRef .tc main_v46_0) = s.main_v46_0
  f_1 : V0 (Proc.devRef .tc main_v46_1) = s.main_v46_1
  f_2 : V0 (Proc.devRef .tc main_v46_2) = s.main_v46_2
  f_3 : V0 (Proc.devRef .tc main_v46_3) = s.main_v46_3
  f_4 : V0 (Proc.devRef .tc main_v46_4) = s.main_v46_4
  f_5 : V0 (Proc.devRef .tc main_v46_5) = s.main_v46_5
  f_6 : V0 (Proc.devRef .tc main_v46_6) = s.main_v46_6
  n_7 : V0 (Proc.devRef .tc main_v46_7) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call0_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x64x8x256 (V0 (Proc.devRef .tc main_v46_0)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x256_S1x4x64x8x256 : (Proc.devRef .tc main_while0b_call0_v0 : DevRef τ sig).ty.Contents (Elt F)) = Cert.ReferenceIdeal.Step.b4 j s := by
  unfold Cert.ReferenceIdeal.Step.b4
  rw [← al_0 h, ← al_1 h, ← al_2 h, ← al_3 h, h.f_0, h.n_7]
  try rfl
set_option maxRecDepth 8192 in
theorem al_5 (h : Holds V0 s j) : (res_main_while0b_v53 V0 : (Proc.devRef .tc main_while0b_v53 : DevRef τ sig).ty.Contents (Elt F)) = Cert.ReferenceIdeal.Step.b5 j s := by
  unfold res_main_while0b_v53 Cert.ReferenceIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call1_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x64x8x256 (V0 (Proc.devRef .tc main_v46_1)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x256_S1x4x64x8x256 : (Proc.devRef .tc main_while0b_call1_v0 : DevRef τ sig).ty.Contents (Elt F)) = Cert.ReferenceIdeal.Step.b10 j s := by
  unfold Cert.ReferenceIdeal.Step.b10
  rw [← al_6 h, ← al_7 h, ← al_8 h, ← al_9 h, h.f_1, h.n_7]
  try rfl
set_option maxRecDepth 8192 in
theorem al_11 (h : Holds V0 s j) : (res_main_while0b_v54 V0 : (Proc.devRef .tc main_while0b_v54 : DevRef τ sig).ty.Contents (Elt F)) = Cert.ReferenceIdeal.Step.b11 j s := by
  unfold res_main_while0b_v54 Cert.ReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call2_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x64x8x512 (V0 (Proc.devRef .tc main_v46_2)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512 : (Proc.devRef .tc main_while0b_call2_v0 : DevRef τ sig).ty.Contents (Elt F)) = Cert.ReferenceIdeal.Step.b16 j s := by
  unfold Cert.ReferenceIdeal.Step.b16
  rw [← al_12 h, ← al_13 h, ← al_14 h, ← al_15 h, h.f_2, h.n_7]
  try rfl
set_option maxRecDepth 8192 in
theorem al_17 (h : Holds V0 s j) : (res_main_while0b_v55 V0 : (Proc.devRef .tc main_while0b_v55 : DevRef τ sig).ty.Contents (Elt F)) = Cert.ReferenceIdeal.Step.b17 j s := by
  unfold res_main_while0b_v55 Cert.ReferenceIdeal.Step.b17
  rw [← al_16 h]
  try rfl
set_option maxRecDepth 8192 in
theorem al_18 (h : Holds V0 s j) : (constantI S_ 32 0#32 : (Proc.devRef .tc main_while0b_call3_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call3_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x4x64x8x512 (V0 (Proc.devRef .tc main_v46_3)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512 : (Proc.devRef .tc main_while0b_call3_v0 : DevRef τ sig).ty.Contents (Elt F)) = Cert.ReferenceIdeal.Step.b22 j s := by
  unfold Cert.ReferenceIdeal.Step.b22
  rw [← al_18 h, ← al_19 h, ← al_20 h, ← al_21 h, h.f_3, h.n_7]
  try rfl
set_option maxRecDepth 8192 in
theorem al_23 (h : Holds V0 s j) : (shapeCast S4x64x8x512 (Host.dynamicSlice S1x4x64x8x512 (V0 (Proc.devRef .tc main_v46_3)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512) shapeCasts_S1x4x64x8x512_S4x64x8x512 : (Proc.devRef .tc main_while0b_v56 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x4x64x8 (V0 (Proc.devRef .tc main_v46_4)) (fun k => (((![V0 (Proc.devRef .tc main_v46_7), constantI S_ 32 0#32, constantI S_ 32 0#32, constantI S_ 32 0#32] : Fin 4 → (⟨S_, .i32⟩ : BufTy).Contents (Elt F))) k (Shape.Idx.first h_S_)).toInt) sliceFits_S32x4x64x8_S1x4x64x8 : (Proc.devRef .tc main_while0b_call4_v0 : DevRef τ sig).ty.Contents (Elt F)) = Cert.ReferenceIdeal.Step.b27 j s := by
  unfold Cert.ReferenceIdeal.Step.b27
  rw [← al_24 h, ← al_25 h, ← al_26 h, h.f_4, h.n_7]
  try rfl
set_option maxRecDepth 8192 in
theorem al_28 (h : Holds V0 s j) : (shapeCast S4x64x8 (Host.dynamicSlice S1x4x64x8 (V0 (Proc.devRef .tc main_v46_4)) (fun k => (((![V0 (Proc.devRef .tc main_v46_7), constantI S_ 32 0#32, constantI S_ 32 0#32, constantI S_ 32 0#32] : Fin 4 → (⟨S_, .i32⟩ : BufTy).Contents (Elt F))) k (Shape.Idx.first h_S_)).toInt) sliceFits_S32x4x64x8_S1x4x64x8) shapeCasts_S1x4x64x8_S4x64x8 : (Proc.devRef .tc main_while0b_v57 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (constantI S_ 32 0#32 : (Proc.devRef .tc main_while0b_call5_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call5_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_1 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x4x64x8 (V0 (Proc.devRef .tc main_v46_5)) (fun k => (((![V0 (Proc.devRef .tc main_v46_7), constantI S_ 32 0#32, constantI S_ 32 0#32, constantI S_ 32 0#32] : Fin 4 → (⟨S_, .i32⟩ : BufTy).Contents (Elt F))) k (Shape.Idx.first h_S_)).toInt) sliceFits_S32x4x64x8_S1x4x64x8 : (Proc.devRef .tc main_while0b_call5_v0 : DevRef τ sig).ty.Contents (Elt F)) = Cert.ReferenceIdeal.Step.b32 j s := by
  unfold Cert.ReferenceIdeal.Step.b32
  rw [← al_29 h, ← al_30 h, ← al_31 h, h.f_5, h.n_7]
  try rfl
set_option maxRecDepth 8192 in
theorem al_33 (h : Holds V0 s j) : (shapeCast S4x64x8 (Host.dynamicSlice S1x4x64x8 (V0 (Proc.devRef .tc main_v46_5)) (fun k => (((![V0 (Proc.devRef .tc main_v46_7), constantI S_ 32 0#32, constantI S_ 32 0#32, constantI S_ 32 0#32] : Fin 4 → (⟨S_, .i32⟩ : BufTy).Contents (Elt F))) k (Shape.Idx.first h_S_)).toInt) sliceFits_S32x4x64x8_S1x4x64x8) shapeCasts_S1x4x64x8_S4x64x8 : (Proc.devRef .tc main_while0b_v58 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (constant S_ .f32 0x00000000#32 : (Proc.devRef .tc main_while0b_call6_call0_cst : DevRef τ sig).ty.Contents (Elt F)) = Cert.ReferenceIdeal.Step.b34 j s := by
  unfold Cert.ReferenceIdeal.Step.b34
  rfl
set_option maxRecDepth 8192 in
theorem al_35 (h : Holds V0 s j) : (broadcastInDim S_ ![] bcast_S_S_ (constant S_ .f32 0x00000000#32) : (Proc.devRef .tc main_while0b_call6_call0_v0 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (Host.reduceWindowAdd ![1, 64, 1] ![1, 1, 1] ![0, 63, 0] ![0, 0, 0] (shapeCast S4x64x8 (Host.dynamicSlice S1x4x64x8 (V0 (Proc.devRef .tc main_v46_5)) (fun k => (((![V0 (Proc.devRef .tc main_v46_7), constantI S_ 32 0#32, constantI S_ 32 0#32, constantI S_ 32 0#32] : Fin 4 → (⟨S_, .i32⟩ : BufTy).Contents (Elt F))) k (Shape.Idx.first h_S_)).toInt) sliceFits_S32x4x64x8_S1x4x64x8) shapeCasts_S1x4x64x8_S4x64x8) (broadcastInDim S_ ![] bcast_S_S_ (constant S_ .f32 0x00000000#32)) reduceWindows_S4x64x8_S4x64x8_w1s1p0_0_w64s1p63_0_w1s1p0_0 h_S_ : (Proc.devRef .tc main_while0b_v59 : DevRef τ sig).ty.Contents (Elt F)) = Cert.ReferenceIdeal.Step.b36 j s := by
  unfold Cert.ReferenceIdeal.Step.b36
  rw [← al_33 h, ← al_35 h]
  try rfl
set_option maxRecDepth 8192 in
theorem al_37 (h : Holds V0 s j) : (res_main_while0b_v60 V0 : (Proc.devRef .tc main_while0b_v60 : DevRef τ sig).ty.Contents (Elt F)) = Cert.ReferenceIdeal.Step.b37 j s := by
  unfold res_main_while0b_v60 Cert.ReferenceIdeal.Step.b37
  rw [← al_36 h]
  try rfl
set_option maxRecDepth 8192 in
theorem al_38 (h : Holds V0 s j) : (res_main_while0b_v61 V0 : (Proc.devRef .tc main_while0b_v61 : DevRef τ sig).ty.Contents (Elt F)) = Cert.ReferenceIdeal.Step.b38 j s := by
  unfold res_main_while0b_v61 Cert.ReferenceIdeal.Step.b38
  rw [← al_28 h]
  try rfl
set_option maxRecDepth 8192 in
theorem al_39 (h : Holds V0 s j) : (constantI S_ 1 1#1 : (Proc.devRef .tc main_while0b_c_18 : DevRef τ sig).ty.Contents (Elt F)) = Cert.ReferenceIdeal.Step.b39 j s := by
  unfold Cert.ReferenceIdeal.Step.b39
  rfl
set_option maxRecDepth 8192 in
theorem al_40 (h : Holds V0 s j) : (broadcastInDim S64x64 ![] bcast_S_S64x64 (constantI S_ 1 1#1) : (Proc.devRef .tc main_while0b_v62 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (iotaInDim S64x64 32 0 : (Proc.devRef .tc main_while0b_call7_v0 : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call7_c : DevRef τ sig).ty.Contents (Elt F)) = Cert.ReferenceIdeal.Step.b42 j s := by
  unfold Cert.ReferenceIdeal.Step.b42
  rfl
set_option maxRecDepth 8192 in
theorem al_43 (h : Holds V0 s j) : (broadcastInDim S64x64 ![] bcast_S_S64x64 (constantI S_ 32 0#32) : (Proc.devRef .tc main_while0b_call7_v1 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (addi (iotaInDim S64x64 32 0) (broadcastInDim S64x64 ![] bcast_S_S64x64 (constantI S_ 32 0#32)) : (Proc.devRef .tc main_while0b_call7_v2 : DevRef τ sig).ty.Contents (Elt F)) = Cert.ReferenceIdeal.Step.b44 j s := by
  unfold Cert.ReferenceIdeal.Step.b44
  rw [← al_41 h, ← al_43 h]
  try rfl
set_option maxRecDepth 8192 in
theorem al_45 (h : Holds V0 s j) : (iotaInDim S64x64 32 1 : (Proc.devRef .tc main_while0b_call7_v3 : DevRef τ sig).ty.Contents (Elt F)) = Cert.ReferenceIdeal.Step.b45 j s := by
  unfold Cert.ReferenceIdeal.Step.b45
  rfl
set_option maxRecDepth 8192 in
theorem al_46 (h : Holds V0 s j) : (cmpi .sge (addi (iotaInDim S64x64 32 0) (broadcastInDim S64x64 ![] bcast_S_S64x64 (constantI S_ 32 0#32))) (iotaInDim S64x64 32 1) : (Proc.devRef .tc main_while0b_call7_v4 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (constantI S_ 1 0#1 : (Proc.devRef .tc main_while0b_call7_c_0 : DevRef τ sig).ty.Contents (Elt F)) = Cert.ReferenceIdeal.Step.b47 j s := by
  unfold Cert.ReferenceIdeal.Step.b47
  rfl
set_option maxRecDepth 8192 in
theorem al_48 (h : Holds V0 s j) : (broadcastInDim S64x64 ![] bcast_S_S64x64 (constantI S_ 1 0#1) : (Proc.devRef .tc main_while0b_call7_v5 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v63 : DevRef τ sig).ty.Contents (Elt F)) = Cert.ReferenceIdeal.Step.b49 j s := by
  unfold Cert.ReferenceIdeal.Step.b49
  rw [← al_46 h, ← al_40 h, ← al_48 h]
  try rfl
set_option maxRecDepth 8192 in
theorem al_50 (h : Holds V0 s j) : (broadcastInDim S4x8x64x1 ![0, 1, 2] bcast_S4x8x64_S4x8x64x1_0_1_2 (res_main_while0b_v60 V0) : (Proc.devRef .tc main_while0b_v64 : DevRef τ sig).ty.Contents (Elt F)) = Cert.ReferenceIdeal.Step.b50 j s := by
  unfold Cert.ReferenceIdeal.Step.b50
  rw [← al_37 h]
  try rfl
set_option maxRecDepth 8192 in
theorem al_51 (h : Holds V0 s j) : (broadcastInDim S4x8x1x64 ![0, 1, 3] bcast_S4x8x64_S4x8x1x64_0_1_3 (res_main_while0b_v60 V0) : (Proc.devRef .tc main_while0b_v65 : DevRef τ sig).ty.Contents (Elt F)) = Cert.ReferenceIdeal.Step.b51 j s := by
  unfold Cert.ReferenceIdeal.Step.b51
  rw [← al_37 h]
  try rfl
set_option maxRecDepth 8192 in
theorem al_52 (h : Holds V0 s j) : (broadcastInDim S4x8x64x64 ![0, 1, 2, 3] bcast_S4x8x64x1_S4x8x64x64_0_1_2_3 (broadcastInDim S4x8x64x1 ![0, 1, 2] bcast_S4x8x64_S4x8x64x1_0_1_2 (res_main_while0b_v60 V0)) : (Proc.devRef .tc main_while0b_v66 : DevRef τ sig).ty.Contents (Elt F)) = Cert.ReferenceIdeal.Step.b52 j s := by
  unfold Cert.ReferenceIdeal.Step.b52
  rw [← al_50 h]
  try rfl
set_option maxRecDepth 8192 in
theorem al_53 (h : Holds V0 s j) : (broadcastInDim S4x8x64x64 ![0, 1, 2, 3] bcast_S4x8x1x64_S4x8x64x64_0_1_2_3 (broadcastInDim S4x8x1x64 ![0, 1, 3] bcast_S4x8x64_S4x8x1x64_0_1_3 (res_main_while0b_v60 V0)) : (Proc.devRef .tc main_while0b_v67 : DevRef τ sig).ty.Contents (Elt F)) = Cert.ReferenceIdeal.Step.b53 j s := by
  unfold Cert.ReferenceIdeal.Step.b53
  rw [← al_51 h]
  try rfl
set_option maxRecDepth 8192 in
theorem al_54 (h : Holds V0 s j) : (subf (broadcastInDim S4x8x64x64 ![0, 1, 2, 3] bcast_S4x8x64x1_S4x8x64x64_0_1_2_3 (broadcastInDim S4x8x64x1 ![0, 1, 2] bcast_S4x8x64_S4x8x64x1_0_1_2 (res_main_while0b_v60 V0))) (broadcastInDim S4x8x64x64 ![0, 1, 2, 3] bcast_S4x8x1x64_S4x8x64x64_0_1_2_3 (broadcastInDim S4x8x1x64 ![0, 1, 3] bcast_S4x8x64_S4x8x1x64_0_1_3 (res_main_while0b_v60 V0))) : (Proc.devRef .tc main_while0b_v68 : DevRef τ sig).ty.Contents (Elt F)) = Cert.ReferenceIdeal.Step.b54 j s := by
  unfold Cert.ReferenceIdeal.Step.b54
  rw [← al_52 h, ← al_53 h]
  try rfl
set_option maxRecDepth 8192 in
theorem al_55 (h : Holds V0 s j) : (broadcastInDim S4x8x1x64 ![0, 1, 3] bcast_S4x8x64_S4x8x1x64_0_1_3 (res_main_while0b_v61 V0) : (Proc.devRef .tc main_while0b_v69 : DevRef τ sig).ty.Contents (Elt F)) = Cert.ReferenceIdeal.Step.b55 j s := by
  unfold Cert.ReferenceIdeal.Step.b55
  rw [← al_38 h]
  try rfl
set_option maxRecDepth 8192 in
theorem al_56 (h : Holds V0 s j) : (broadcastInDim S4x8x64x64 ![0, 1, 2, 3] bcast_S4x8x1x64_S4x8x64x64_0_1_2_3 (broadcastInDim S4x8x1x64 ![0, 1, 3] bcast_S4x8x64_S4x8x1x64_0_1_3 (res_main_while0b_v61 V0)) : (Proc.devRef .tc main_while0b_v70 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (addf (subf (broadcastInDim S4x8x64x64 ![0, 1, 2, 3] bcast_S4x8x64x1_S4x8x64x64_0_1_2_3 (broadcastInDim S4x8x64x1 ![0, 1, 2] bcast_S4x8x64_S4x8x64x1_0_1_2 (res_main_while0b_v60 V0))) (broadcastInDim S4x8x64x64 ![0, 1, 2, 3] bcast_S4x8x1x64_S4x8x64x64_0_1_2_3 (broadcastInDim S4x8x1x64 ![0, 1, 3] bcast_S4x8x64_S4x8x1x64_0_1_3 (res_main_while0b_v60 V0)))) (broadcastInDim S4x8x64x64 ![0, 1, 2, 3] bcast_S4x8x1x64_S4x8x64x64_0_1_2_3 (broadcastInDim S4x8x1x64 ![0, 1, 3] bcast_S4x8x64_S4x8x1x64_0_1_3 (res_main_while0b_v61 V0))) : (Proc.devRef .tc main_while0b_v71 : DevRef τ sig).ty.Contents (Elt F)) = Cert.ReferenceIdeal.Step.b57 j s := by
  unfold Cert.ReferenceIdeal.Step.b57
  rw [← al_54 h, ← al_56 h]
  try rfl
set_option maxRecDepth 8192 in
theorem al_58 (h : Holds V0 s j) : (constant S_ .f32 0xFF800000#32 : (Proc.devRef .tc main_while0b_cst_19 : DevRef τ sig).ty.Contents (Elt F)) = Cert.ReferenceIdeal.Step.b58 j s := by
  unfold Cert.ReferenceIdeal.Step.b58
  rfl
set_option maxRecDepth 8192 in
theorem al_59 (h : Holds V0 s j) : (id (constant S_ .f32 0xFF800000#32) : (Proc.devRef .tc main_while0b_call8_v0 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (broadcastInDim S4x8x64x64 ![2, 3] bcast_S64x64_S4x8x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) : (Proc.devRef .tc main_while0b_call8_v1 : DevRef τ sig).ty.Contents (Elt F)) = Cert.ReferenceIdeal.Step.b60 j s := by
  unfold Cert.ReferenceIdeal.Step.b60
  rw [← al_49 h]
  try rfl
set_option maxRecDepth 8192 in
theorem al_61 (h : Holds V0 s j) : (broadcastInDim S4x8x64x64 ![] bcast_S_S4x8x64x64 (id (constant S_ .f32 0xFF800000#32)) : (Proc.devRef .tc main_while0b_call8_v2 : DevRef τ sig).ty.Contents (Elt F)) = Cert.ReferenceIdeal.Step.b61 j s := by
  unfold Cert.ReferenceIdeal.Step.b61
  rw [← al_59 h]
  try rfl
set_option maxRecDepth 8192 in
theorem al_62 (h : Holds V0 s j) : (res_main_while0b_v72 V0 : (Proc.devRef .tc main_while0b_v72 : DevRef τ sig).ty.Contents (Elt F)) = Cert.ReferenceIdeal.Step.b62 j s := by
  unfold res_main_while0b_v72 Cert.ReferenceIdeal.Step.b62
  rw [← al_60 h, ← al_57 h, ← al_61 h]
  try rfl
set_option maxRecDepth 8192 in
theorem al_63 (h : Holds V0 s j) : (broadcastInDim S4x8x1 ![0, 1] bcast_S4x8_S4x8x1_0_1 (V0 (Proc.devRef .tc main_v46_10)) : (Proc.devRef .tc main_while0b_v73 : DevRef τ sig).ty.Contents (Elt F)) = Cert.ReferenceIdeal.Step.b63 j s := by
  unfold Cert.ReferenceIdeal.Step.b63
  rw [h.f_10]
  try rfl
set_option maxRecDepth 8192 in
theorem al_64 (h : Holds V0 s j) : (broadcastInDim S4x8x64 ![0, 1, 2] bcast_S4x8x1_S4x8x64_0_1_2 (broadcastInDim S4x8x1 ![0, 1] bcast_S4x8_S4x8x1_0_1 (V0 (Proc.devRef .tc main_v46_10))) : (Proc.devRef .tc main_while0b_v74 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (res_main_while0b_v75 V0 : (Proc.devRef .tc main_while0b_v75 : DevRef τ sig).ty.Contents (Elt F)) = Cert.ReferenceIdeal.Step.b65 j s := by
  unfold res_main_while0b_v75 Cert.ReferenceIdeal.Step.b65
  rw [← al_37 h, ← al_64 h]
  try rfl
set_option maxRecDepth 8192 in
theorem al_66 (h : Holds V0 s j) : (constant S_ .f32 0xFF800000#32 : (Proc.devRef .tc main_while0b_cst_20 : DevRef τ sig).ty.Contents (Elt F)) = Cert.ReferenceIdeal.Step.b66 j s := by
  unfold Cert.ReferenceIdeal.Step.b66
  rfl
set_option maxRecDepth 8192 in
theorem al_67 (h : Holds V0 s j) : (Host.reduce FloatOps.maximumf (res_main_while0b_v72 V0) (constant S_ .f32 0xFF800000#32) reducesTo_S4x8x64x64_S4x8x64_d3 h_S_ : (Proc.devRef .tc main_while0b_v76 : DevRef τ sig).ty.Contents (Elt F)) = Cert.ReferenceIdeal.Step.b67 j s := by
  unfold Cert.ReferenceIdeal.Step.b67
  rw [← al_62 h, ← al_66 h]
  try rfl
set_option maxRecDepth 8192 in
theorem al_68 (h : Holds V0 s j) : (res_main_while0b_v77 V0 : (Proc.devRef .tc main_while0b_v77 : DevRef τ sig).ty.Contents (Elt F)) = Cert.ReferenceIdeal.Step.b68 j s := by
  unfold res_main_while0b_v77 Cert.ReferenceIdeal.Step.b68
  rw [← al_65 h, ← al_67 h]
  try rfl
set_option maxRecDepth 8192 in
theorem al_69 (h : Holds V0 s j) : (broadcastInDim S4x8x64x1 ![0, 1, 2] bcast_S4x8x64_S4x8x64x1_0_1_2 (res_main_while0b_v77 V0) : (Proc.devRef .tc main_while0b_v78 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (broadcastInDim S4x8x64x64 ![0, 1, 2, 3] bcast_S4x8x64x1_S4x8x64x64_0_1_2_3 (broadcastInDim S4x8x64x1 ![0, 1, 2] bcast_S4x8x64_S4x8x64x1_0_1_2 (res_main_while0b_v77 V0)) : (Proc.devRef .tc main_while0b_v79 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (subf (res_main_while0b_v72 V0) (broadcastInDim S4x8x64x64 ![0, 1, 2, 3] bcast_S4x8x64x1_S4x8x64x64_0_1_2_3 (broadcastInDim S4x8x64x1 ![0, 1, 2] bcast_S4x8x64_S4x8x64x1_0_1_2 (res_main_while0b_v77 V0))) : (Proc.devRef .tc main_while0b_v80 : DevRef τ sig).ty.Contents (Elt F)) = Cert.ReferenceIdeal.Step.b71 j s := by
  unfold Cert.ReferenceIdeal.Step.b71
  rw [← al_62 h, ← al_70 h]
  try rfl
set_option maxRecDepth 8192 in
theorem al_72 (h : Holds V0 s j) : (Host.exp (subf (res_main_while0b_v72 V0) (broadcastInDim S4x8x64x64 ![0, 1, 2, 3] bcast_S4x8x64x1_S4x8x64x64_0_1_2_3 (broadcastInDim S4x8x64x1 ![0, 1, 2] bcast_S4x8x64_S4x8x64x1_0_1_2 (res_main_while0b_v77 V0)))) : (Proc.devRef .tc main_while0b_v81 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (Host.dotGeneral dot_S4x64x8x256_S4x64x8x256_S4x8x64x64_3_3_1_1_02_02 none (res_main_while0b_v53 V0) (res_main_while0b_v54 V0) : (Proc.devRef .tc main_while0b_v82 : DevRef τ sig).ty.Contents (Elt F)) = Cert.ReferenceIdeal.Step.b73 j s := by
  unfold Cert.ReferenceIdeal.Step.b73
  rw [← al_5 h, ← al_11 h]
  try rfl
set_option maxRecDepth 8192 in
theorem al_74 (h : Holds V0 s j) : (res_main_while0b_v83 V0 : (Proc.devRef .tc main_while0b_v83 : DevRef τ sig).ty.Contents (Elt F)) = Cert.ReferenceIdeal.Step.b74 j s := by
  unfold res_main_while0b_v83 Cert.ReferenceIdeal.Step.b74
  rw [← al_72 h, ← al_73 h]
  try rfl
set_option maxRecDepth 8192 in
theorem al_75 (h : Holds V0 s j) : (subf (res_main_while0b_v75 V0) (res_main_while0b_v77 V0) : (Proc.devRef .tc main_while0b_v84 : DevRef τ sig).ty.Contents (Elt F)) = Cert.ReferenceIdeal.Step.b75 j s := by
  unfold Cert.ReferenceIdeal.Step.b75
  rw [← al_65 h, ← al_68 h]
  try rfl
set_option maxRecDepth 8192 in
theorem al_76 (h : Holds V0 s j) : (res_main_while0b_v85 V0 : (Proc.devRef .tc main_while0b_v85 : DevRef τ sig).ty.Contents (Elt F)) = Cert.ReferenceIdeal.Step.b76 j s := by
  unfold res_main_while0b_v85 Cert.ReferenceIdeal.Step.b76
  rw [← al_75 h]
  try rfl
set_option maxRecDepth 8192 in
theorem al_77 (h : Holds V0 s j) : (broadcastInDim S4x8x64x1 ![0, 1, 2] bcast_S4x8x64_S4x8x64x1_0_1_2 (res_main_while0b_v85 V0) : (Proc.devRef .tc main_while0b_v86 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (Host.dotGeneral dot_S4x64x8x256_S4x8x256x512_S4x8x64x512_3_2_1_3_02_01 none (res_main_while0b_v53 V0) (V0 (Proc.devRef .tc main_v46_8)) : (Proc.devRef .tc main_while0b_v87 : DevRef τ sig).ty.Contents (Elt F)) = Cert.ReferenceIdeal.Step.b78 j s := by
  unfold Cert.ReferenceIdeal.Step.b78
  rw [← al_5 h, h.f_8]
  try rfl
set_option maxRecDepth 8192 in
theorem al_79 (h : Holds V0 s j) : (broadcastInDim S4x8x64x512 ![0, 1, 2, 3] bcast_S4x8x64x1_S4x8x64x512_0_1_2_3 (broadcastInDim S4x8x64x1 ![0, 1, 2] bcast_S4x8x64_S4x8x64x1_0_1_2 (res_main_while0b_v85 V0)) : (Proc.devRef .tc main_while0b_v88 : DevRef τ sig).ty.Contents (Elt F)) = Cert.ReferenceIdeal.Step.b79 j s := by
  unfold Cert.ReferenceIdeal.Step.b79
  rw [← al_77 h]
  try rfl
set_option maxRecDepth 8192 in
theorem al_80 (h : Holds V0 s j) : (mulf (broadcastInDim S4x8x64x512 ![0, 1, 2, 3] bcast_S4x8x64x1_S4x8x64x512_0_1_2_3 (broadcastInDim S4x8x64x1 ![0, 1, 2] bcast_S4x8x64_S4x8x64x1_0_1_2 (res_main_while0b_v85 V0))) (Host.dotGeneral dot_S4x64x8x256_S4x8x256x512_S4x8x64x512_3_2_1_3_02_01 none (res_main_while0b_v53 V0) (V0 (Proc.devRef .tc main_v46_8))) : (Proc.devRef .tc main_while0b_v89 : DevRef τ sig).ty.Contents (Elt F)) = Cert.ReferenceIdeal.Step.b80 j s := by
  unfold Cert.ReferenceIdeal.Step.b80
  rw [← al_79 h, ← al_78 h]
  try rfl
set_option maxRecDepth 8192 in
theorem al_81 (h : Holds V0 s j) : (Host.dotGeneral dot_S4x8x64x64_S4x64x8x512_S4x8x64x512_3_1_2_3_01_02 none (res_main_while0b_v83 V0) (res_main_while0b_v55 V0) : (Proc.devRef .tc main_while0b_v90 : DevRef τ sig).ty.Contents (Elt F)) = Cert.ReferenceIdeal.Step.b81 j s := by
  unfold Cert.ReferenceIdeal.Step.b81
  rw [← al_74 h, ← al_17 h]
  try rfl
set_option maxRecDepth 8192 in
theorem al_82 (h : Holds V0 s j) : (addf (mulf (broadcastInDim S4x8x64x512 ![0, 1, 2, 3] bcast_S4x8x64x1_S4x8x64x512_0_1_2_3 (broadcastInDim S4x8x64x1 ![0, 1, 2] bcast_S4x8x64_S4x8x64x1_0_1_2 (res_main_while0b_v85 V0))) (Host.dotGeneral dot_S4x64x8x256_S4x8x256x512_S4x8x64x512_3_2_1_3_02_01 none (res_main_while0b_v53 V0) (V0 (Proc.devRef .tc main_v46_8)))) (Host.dotGeneral dot_S4x8x64x64_S4x64x8x512_S4x8x64x512_3_1_2_3_01_02 none (res_main_while0b_v83 V0) (res_main_while0b_v55 V0)) : (Proc.devRef .tc main_while0b_v91 : DevRef τ sig).ty.Contents (Elt F)) = Cert.ReferenceIdeal.Step.b82 j s := by
  unfold Cert.ReferenceIdeal.Step.b82
  rw [← al_80 h, ← al_81 h]
  try rfl
set_option maxRecDepth 8192 in
theorem al_83 (h : Holds V0 s j) : (Host.dotGeneral dot_S4x64x8x256_S4x8x256_S4x8x64_3_2_1_n_02_01 none (res_main_while0b_v53 V0) (V0 (Proc.devRef .tc main_v46_9)) : (Proc.devRef .tc main_while0b_v92 : DevRef τ sig).ty.Contents (Elt F)) = Cert.ReferenceIdeal.Step.b83 j s := by
  unfold Cert.ReferenceIdeal.Step.b83
  rw [← al_5 h, h.f_9]
  try rfl
set_option maxRecDepth 8192 in
theorem al_84 (h : Holds V0 s j) : (mulf (res_main_while0b_v85 V0) (Host.dotGeneral dot_S4x64x8x256_S4x8x256_S4x8x64_3_2_1_n_02_01 none (res_main_while0b_v53 V0) (V0 (Proc.devRef .tc main_v46_9))) : (Proc.devRef .tc main_while0b_v93 : DevRef τ sig).ty.Contents (Elt F)) = Cert.ReferenceIdeal.Step.b84 j s := by
  unfold Cert.ReferenceIdeal.Step.b84
  rw [← al_76 h, ← al_83 h]
  try rfl
set_option maxRecDepth 8192 in
theorem al_85 (h : Holds V0 s j) : (constant S_ .f32 0x00000000#32 : (Proc.devRef .tc main_while0b_cst_21 : DevRef τ sig).ty.Contents (Elt F)) = Cert.ReferenceIdeal.Step.b85 j s := by
  unfold Cert.ReferenceIdeal.Step.b85
  rfl
set_option maxRecDepth 8192 in
theorem al_86 (h : Holds V0 s j) : (Host.reduceAdd (res_main_while0b_v83 V0) (constant S_ .f32 0x00000000#32) reducesTo_S4x8x64x64_S4x8x64_d3 h_S_ : (Proc.devRef .tc main_while0b_v94 : DevRef τ sig).ty.Contents (Elt F)) = Cert.ReferenceIdeal.Step.b86 j s := by
  unfold Cert.ReferenceIdeal.Step.b86
  rw [← al_74 h, ← al_85 h]
  try rfl
set_option maxRecDepth 8192 in
theorem al_87 (h : Holds V0 s j) : (addf (mulf (res_main_while0b_v85 V0) (Host.dotGeneral dot_S4x64x8x256_S4x8x256_S4x8x64_3_2_1_n_02_01 none (res_main_while0b_v53 V0) (V0 (Proc.devRef .tc main_v46_9)))) (Host.reduceAdd (res_main_while0b_v83 V0) (constant S_ .f32 0x00000000#32) reducesTo_S4x8x64x64_S4x8x64_d3 h_S_) : (Proc.devRef .tc main_while0b_v95 : DevRef τ sig).ty.Contents (Elt F)) = Cert.ReferenceIdeal.Step.b87 j s := by
  unfold Cert.ReferenceIdeal.Step.b87
  rw [← al_84 h, ← al_86 h]
  try rfl
set_option maxRecDepth 8192 in
theorem al_88 (h : Holds V0 s j) : (Host.absf (addf (mulf (res_main_while0b_v85 V0) (Host.dotGeneral dot_S4x64x8x256_S4x8x256_S4x8x64_3_2_1_n_02_01 none (res_main_while0b_v53 V0) (V0 (Proc.devRef .tc main_v46_9)))) (Host.reduceAdd (res_main_while0b_v83 V0) (constant S_ .f32 0x00000000#32) reducesTo_S4x8x64x64_S4x8x64_d3 h_S_)) : (Proc.devRef .tc main_while0b_v96 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (Host.negf (res_main_while0b_v77 V0) : (Proc.devRef .tc main_while0b_v97 : DevRef τ sig).ty.Contents (Elt F)) = Cert.ReferenceIdeal.Step.b89 j s := by
  unfold Cert.ReferenceIdeal.Step.b89
  rw [← al_68 h]
  try rfl
set_option maxRecDepth 8192 in
theorem al_90 (h : Holds V0 s j) : (Host.exp (Host.negf (res_main_while0b_v77 V0)) : (Proc.devRef .tc main_while0b_v98 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (maximumf (Host.absf (addf (mulf (res_main_while0b_v85 V0) (Host.dotGeneral dot_S4x64x8x256_S4x8x256_S4x8x64_3_2_1_n_02_01 none (res_main_while0b_v53 V0) (V0 (Proc.devRef .tc main_v46_9)))) (Host.reduceAdd (res_main_while0b_v83 V0) (constant S_ .f32 0x00000000#32) reducesTo_S4x8x64x64_S4x8x64_d3 h_S_))) (Host.exp (Host.negf (res_main_while0b_v77 V0))) : (Proc.devRef .tc main_while0b_v99 : DevRef τ sig).ty.Contents (Elt F)) = Cert.ReferenceIdeal.Step.b91 j s := by
  unfold Cert.ReferenceIdeal.Step.b91
  rw [← al_88 h, ← al_90 h]
  try rfl
set_option maxRecDepth 8192 in
theorem al_92 (h : Holds V0 s j) : (Host.negf (shapeCast S4x64x8x512 (Host.dynamicSlice S1x4x64x8x512 (V0 (Proc.devRef .tc main_v46_3)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512) shapeCasts_S1x4x64x8x512_S4x64x8x512) : (Proc.devRef .tc main_while0b_v100 : DevRef τ sig).ty.Contents (Elt F)) = Cert.ReferenceIdeal.Step.b92 j s := by
  unfold Cert.ReferenceIdeal.Step.b92
  rw [← al_23 h]
  try rfl
set_option maxRecDepth 8192 in
theorem al_93 (h : Holds V0 s j) : (Host.exp (Host.negf (shapeCast S4x64x8x512 (Host.dynamicSlice S1x4x64x8x512 (V0 (Proc.devRef .tc main_v46_3)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512) shapeCasts_S1x4x64x8x512_S4x64x8x512)) : (Proc.devRef .tc main_while0b_v101 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (constant S_ .f32 0x3F800000#32 : (Proc.devRef .tc main_while0b_cst_22 : DevRef τ sig).ty.Contents (Elt F)) = Cert.ReferenceIdeal.Step.b94 j s := by
  unfold Cert.ReferenceIdeal.Step.b94
  rfl
set_option maxRecDepth 8192 in
theorem al_95 (h : Holds V0 s j) : (broadcastInDim S4x64x8x512 ![] bcast_S_S4x64x8x512 (constant S_ .f32 0x3F800000#32) : (Proc.devRef .tc main_while0b_v102 : DevRef τ sig).ty.Contents (Elt F)) = Cert.ReferenceIdeal.Step.b95 j s := by
  unfold Cert.ReferenceIdeal.Step.b95
  rw [← al_94 h]
  try rfl
set_option maxRecDepth 8192 in
theorem al_96 (h : Holds V0 s j) : (addf (broadcastInDim S4x64x8x512 ![] bcast_S_S4x64x8x512 (constant S_ .f32 0x3F800000#32)) (Host.exp (Host.negf (shapeCast S4x64x8x512 (Host.dynamicSlice S1x4x64x8x512 (V0 (Proc.devRef .tc main_v46_3)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512) shapeCasts_S1x4x64x8x512_S4x64x8x512))) : (Proc.devRef .tc main_while0b_v103 : DevRef τ sig).ty.Contents (Elt F)) = Cert.ReferenceIdeal.Step.b96 j s := by
  unfold Cert.ReferenceIdeal.Step.b96
  rw [← al_95 h, ← al_93 h]
  try rfl
set_option maxRecDepth 8192 in
theorem al_97 (h : Holds V0 s j) : (constant S_ .f32 0x3F800000#32 : (Proc.devRef .tc main_while0b_cst_23 : DevRef τ sig).ty.Contents (Elt F)) = Cert.ReferenceIdeal.Step.b97 j s := by
  unfold Cert.ReferenceIdeal.Step.b97
  rfl
set_option maxRecDepth 8192 in
theorem al_98 (h : Holds V0 s j) : (broadcastInDim S4x64x8x512 ![] bcast_S_S4x64x8x512 (constant S_ .f32 0x3F800000#32) : (Proc.devRef .tc main_while0b_v104 : DevRef τ sig).ty.Contents (Elt F)) = Cert.ReferenceIdeal.Step.b98 j s := by
  unfold Cert.ReferenceIdeal.Step.b98
  rw [← al_97 h]
  try rfl
set_option maxRecDepth 8192 in
theorem al_99 (h : Holds V0 s j) : (Host.divf (broadcastInDim S4x64x8x512 ![] bcast_S_S4x64x8x512 (constant S_ .f32 0x3F800000#32)) (addf (broadcastInDim S4x64x8x512 ![] bcast_S_S4x64x8x512 (constant S_ .f32 0x3F800000#32)) (Host.exp (Host.negf (shapeCast S4x64x8x512 (Host.dynamicSlice S1x4x64x8x512 (V0 (Proc.devRef .tc main_v46_3)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512) shapeCasts_S1x4x64x8x512_S4x64x8x512)))) : (Proc.devRef .tc main_while0b_v105 : DevRef τ sig).ty.Contents (Elt F)) = Cert.ReferenceIdeal.Step.b99 j s := by
  unfold Cert.ReferenceIdeal.Step.b99
  rw [← al_98 h, ← al_96 h]
  try rfl
set_option maxRecDepth 8192 in
theorem al_100 (h : Holds V0 s j) : (broadcastInDim S4x8x64x1 ![0, 1, 2] bcast_S4x8x64_S4x8x64x1_0_1_2 (maximumf (Host.absf (addf (mulf (res_main_while0b_v85 V0) (Host.dotGeneral dot_S4x64x8x256_S4x8x256_S4x8x64_3_2_1_n_02_01 none (res_main_while0b_v53 V0) (V0 (Proc.devRef .tc main_v46_9)))) (Host.reduceAdd (res_main_while0b_v83 V0) (constant S_ .f32 0x00000000#32) reducesTo_S4x8x64x64_S4x8x64_d3 h_S_))) (Host.exp (Host.negf (res_main_while0b_v77 V0)))) : (Proc.devRef .tc main_while0b_v106 : DevRef τ sig).ty.Contents (Elt F)) = Cert.ReferenceIdeal.Step.b100 j s := by
  unfold Cert.ReferenceIdeal.Step.b100
  rw [← al_91 h]
  try rfl
set_option maxRecDepth 8192 in
theorem al_101 (h : Holds V0 s j) : (broadcastInDim S4x8x64x512 ![0, 1, 2, 3] bcast_S4x8x64x1_S4x8x64x512_0_1_2_3 (broadcastInDim S4x8x64x1 ![0, 1, 2] bcast_S4x8x64_S4x8x64x1_0_1_2 (maximumf (Host.absf (addf (mulf (res_main_while0b_v85 V0) (Host.dotGeneral dot_S4x64x8x256_S4x8x256_S4x8x64_3_2_1_n_02_01 none (res_main_while0b_v53 V0) (V0 (Proc.devRef .tc main_v46_9)))) (Host.reduceAdd (res_main_while0b_v83 V0) (constant S_ .f32 0x00000000#32) reducesTo_S4x8x64x64_S4x8x64_d3 h_S_))) (Host.exp (Host.negf (res_main_while0b_v77 V0))))) : (Proc.devRef .tc main_while0b_v107 : DevRef τ sig).ty.Contents (Elt F)) = Cert.ReferenceIdeal.Step.b101 j s := by
  unfold Cert.ReferenceIdeal.Step.b101
  rw [← al_100 h]
  try rfl
set_option maxRecDepth 8192 in
theorem al_102 (h : Holds V0 s j) : (Host.divf (addf (mulf (broadcastInDim S4x8x64x512 ![0, 1, 2, 3] bcast_S4x8x64x1_S4x8x64x512_0_1_2_3 (broadcastInDim S4x8x64x1 ![0, 1, 2] bcast_S4x8x64_S4x8x64x1_0_1_2 (res_main_while0b_v85 V0))) (Host.dotGeneral dot_S4x64x8x256_S4x8x256x512_S4x8x64x512_3_2_1_3_02_01 none (res_main_while0b_v53 V0) (V0 (Proc.devRef .tc main_v46_8)))) (Host.dotGeneral dot_S4x8x64x64_S4x64x8x512_S4x8x64x512_3_1_2_3_01_02 none (res_main_while0b_v83 V0) (res_main_while0b_v55 V0))) (broadcastInDim S4x8x64x512 ![0, 1, 2, 3] bcast_S4x8x64x1_S4x8x64x512_0_1_2_3 (broadcastInDim S4x8x64x1 ![0, 1, 2] bcast_S4x8x64_S4x8x64x1_0_1_2 (maximumf (Host.absf (addf (mulf (res_main_while0b_v85 V0) (Host.dotGeneral dot_S4x64x8x256_S4x8x256_S4x8x64_3_2_1_n_02_01 none (res_main_while0b_v53 V0) (V0 (Proc.devRef .tc main_v46_9)))) (Host.reduceAdd (res_main_while0b_v83 V0) (constant S_ .f32 0x00000000#32) reducesTo_S4x8x64x64_S4x8x64_d3 h_S_))) (Host.exp (Host.negf (res_main_while0b_v77 V0)))))) : (Proc.devRef .tc main_while0b_v108 : DevRef τ sig).ty.Contents (Elt F)) = Cert.ReferenceIdeal.Step.b102 j s := by
  unfold Cert.ReferenceIdeal.Step.b102
  rw [← al_82 h, ← al_101 h]
  try rfl
set_option maxRecDepth 8192 in
theorem al_103 (h : Holds V0 s j) : (res_main_while0b_v109 V0 : (Proc.devRef .tc main_while0b_v109 : DevRef τ sig).ty.Contents (Elt F)) = Cert.ReferenceIdeal.Step.b103 j s := by
  unfold res_main_while0b_v109 Cert.ReferenceIdeal.Step.b103
  rw [← al_102 h]
  try rfl
set_option maxRecDepth 8192 in
theorem al_104 (h : Holds V0 s j) : (mulf (res_main_while0b_v109 V0) (res_main_while0b_v109 V0) : (Proc.devRef .tc main_while0b_v110 : DevRef τ sig).ty.Contents (Elt F)) = Cert.ReferenceIdeal.Step.b104 j s := by
  unfold Cert.ReferenceIdeal.Step.b104
  rw [← al_103 h]
  try rfl
set_option maxRecDepth 8192 in
theorem al_105 (h : Holds V0 s j) : (constant S_ .f32 0x00000000#32 : (Proc.devRef .tc main_while0b_cst_24 : DevRef τ sig).ty.Contents (Elt F)) = Cert.ReferenceIdeal.Step.b105 j s := by
  unfold Cert.ReferenceIdeal.Step.b105
  rfl
set_option maxRecDepth 8192 in
theorem al_106 (h : Holds V0 s j) : (Host.reduceAdd (mulf (res_main_while0b_v109 V0) (res_main_while0b_v109 V0)) (constant S_ .f32 0x00000000#32) reducesTo_S4x64x8x512_S4x64x8_d3 h_S_ : (Proc.devRef .tc main_while0b_v111 : DevRef τ sig).ty.Contents (Elt F)) = Cert.ReferenceIdeal.Step.b106 j s := by
  unfold Cert.ReferenceIdeal.Step.b106
  rw [← al_104 h, ← al_105 h]
  try rfl
set_option maxRecDepth 8192 in
theorem al_107 (h : Holds V0 s j) : (broadcastInDim S4x64x8x1 ![0, 1, 2] bcast_S4x64x8_S4x64x8x1_0_1_2 (Host.reduceAdd (mulf (res_main_while0b_v109 V0) (res_main_while0b_v109 V0)) (constant S_ .f32 0x00000000#32) reducesTo_S4x64x8x512_S4x64x8_d3 h_S_) : (Proc.devRef .tc main_while0b_v112 : DevRef τ sig).ty.Contents (Elt F)) = Cert.ReferenceIdeal.Step.b107 j s := by
  unfold Cert.ReferenceIdeal.Step.b107
  rw [← al_106 h]
  try rfl
set_option maxRecDepth 8192 in
theorem al_108 (h : Holds V0 s j) : (constant S_ .f32 0x44000000#32 : (Proc.devRef .tc main_while0b_cst_25 : DevRef τ sig).ty.Contents (Elt F)) = Cert.ReferenceIdeal.Step.b108 j s := by
  unfold Cert.ReferenceIdeal.Step.b108
  rfl
set_option maxRecDepth 8192 in
theorem al_109 (h : Holds V0 s j) : (broadcastInDim S4x64x8x1 ![] bcast_S_S4x64x8x1 (constant S_ .f32 0x44000000#32) : (Proc.devRef .tc main_while0b_v113 : DevRef τ sig).ty.Contents (Elt F)) = Cert.ReferenceIdeal.Step.b109 j s := by
  unfold Cert.ReferenceIdeal.Step.b109
  rw [← al_108 h]
  try rfl
set_option maxRecDepth 8192 in
theorem al_110 (h : Holds V0 s j) : (Host.divf (broadcastInDim S4x64x8x1 ![0, 1, 2] bcast_S4x64x8_S4x64x8x1_0_1_2 (Host.reduceAdd (mulf (res_main_while0b_v109 V0) (res_main_while0b_v109 V0)) (constant S_ .f32 0x00000000#32) reducesTo_S4x64x8x512_S4x64x8_d3 h_S_)) (broadcastInDim S4x64x8x1 ![] bcast_S_S4x64x8x1 (constant S_ .f32 0x44000000#32)) : (Proc.devRef .tc main_while0b_v114 : DevRef τ sig).ty.Contents (Elt F)) = Cert.ReferenceIdeal.Step.b110 j s := by
  unfold Cert.ReferenceIdeal.Step.b110
  rw [← al_107 h, ← al_109 h]
  try rfl
set_option maxRecDepth 8192 in
theorem al_111 (h : Holds V0 s j) : (constant S_ .f32 0x358637BD#32 : (Proc.devRef .tc main_while0b_cst_26 : DevRef τ sig).ty.Contents (Elt F)) = Cert.ReferenceIdeal.Step.b111 j s := by
  unfold Cert.ReferenceIdeal.Step.b111
  rfl
set_option maxRecDepth 8192 in
theorem al_112 (h : Holds V0 s j) : (broadcastInDim S4x64x8x1 ![] bcast_S_S4x64x8x1 (constant S_ .f32 0x358637BD#32) : (Proc.devRef .tc main_while0b_v115 : DevRef τ sig).ty.Contents (Elt F)) = Cert.ReferenceIdeal.Step.b112 j s := by
  unfold Cert.ReferenceIdeal.Step.b112
  rw [← al_111 h]
  try rfl
set_option maxRecDepth 8192 in
theorem al_113 (h : Holds V0 s j) : (addf (Host.divf (broadcastInDim S4x64x8x1 ![0, 1, 2] bcast_S4x64x8_S4x64x8x1_0_1_2 (Host.reduceAdd (mulf (res_main_while0b_v109 V0) (res_main_while0b_v109 V0)) (constant S_ .f32 0x00000000#32) reducesTo_S4x64x8x512_S4x64x8_d3 h_S_)) (broadcastInDim S4x64x8x1 ![] bcast_S_S4x64x8x1 (constant S_ .f32 0x44000000#32))) (broadcastInDim S4x64x8x1 ![] bcast_S_S4x64x8x1 (constant S_ .f32 0x358637BD#32)) : (Proc.devRef .tc main_while0b_v116 : DevRef τ sig).ty.Contents (Elt F)) = Cert.ReferenceIdeal.Step.b113 j s := by
  unfold Cert.ReferenceIdeal.Step.b113
  rw [← al_110 h, ← al_112 h]
  try rfl
set_option maxRecDepth 8192 in
theorem al_114 (h : Holds V0 s j) : (Host.rsqrt (addf (Host.divf (broadcastInDim S4x64x8x1 ![0, 1, 2] bcast_S4x64x8_S4x64x8x1_0_1_2 (Host.reduceAdd (mulf (res_main_while0b_v109 V0) (res_main_while0b_v109 V0)) (constant S_ .f32 0x00000000#32) reducesTo_S4x64x8x512_S4x64x8_d3 h_S_)) (broadcastInDim S4x64x8x1 ![] bcast_S_S4x64x8x1 (constant S_ .f32 0x44000000#32))) (broadcastInDim S4x64x8x1 ![] bcast_S_S4x64x8x1 (constant S_ .f32 0x358637BD#32))) : (Proc.devRef .tc main_while0b_v117 : DevRef τ sig).ty.Contents (Elt F)) = Cert.ReferenceIdeal.Step.b114 j s := by
  unfold Cert.ReferenceIdeal.Step.b114
  rw [← al_113 h]
  try rfl
set_option maxRecDepth 8192 in
theorem al_115 (h : Holds V0 s j) : (broadcastInDim S4x64x8x512 ![0, 1, 2, 3] bcast_S4x64x8x1_S4x64x8x512_0_1_2_3 (Host.rsqrt (addf (Host.divf (broadcastInDim S4x64x8x1 ![0, 1, 2] bcast_S4x64x8_S4x64x8x1_0_1_2 (Host.reduceAdd (mulf (res_main_while0b_v109 V0) (res_main_while0b_v109 V0)) (constant S_ .f32 0x00000000#32) reducesTo_S4x64x8x512_S4x64x8_d3 h_S_)) (broadcastInDim S4x64x8x1 ![] bcast_S_S4x64x8x1 (constant S_ .f32 0x44000000#32))) (broadcastInDim S4x64x8x1 ![] bcast_S_S4x64x8x1 (constant S_ .f32 0x358637BD#32)))) : (Proc.devRef .tc main_while0b_v118 : DevRef τ sig).ty.Contents (Elt F)) = Cert.ReferenceIdeal.Step.b115 j s := by
  unfold Cert.ReferenceIdeal.Step.b115
  rw [← al_114 h]
  try rfl
set_option maxRecDepth 8192 in
theorem al_116 (h : Holds V0 s j) : (mulf (res_main_while0b_v109 V0) (broadcastInDim S4x64x8x512 ![0, 1, 2, 3] bcast_S4x64x8x1_S4x64x8x512_0_1_2_3 (Host.rsqrt (addf (Host.divf (broadcastInDim S4x64x8x1 ![0, 1, 2] bcast_S4x64x8_S4x64x8x1_0_1_2 (Host.reduceAdd (mulf (res_main_while0b_v109 V0) (res_main_while0b_v109 V0)) (constant S_ .f32 0x00000000#32) reducesTo_S4x64x8x512_S4x64x8_d3 h_S_)) (broadcastInDim S4x64x8x1 ![] bcast_S_S4x64x8x1 (constant S_ .f32 0x44000000#32))) (broadcastInDim S4x64x8x1 ![] bcast_S_S4x64x8x1 (constant S_ .f32 0x358637BD#32))))) : (Proc.devRef .tc main_while0b_v119 : DevRef τ sig).ty.Contents (Elt F)) = Cert.ReferenceIdeal.Step.b116 j s := by
  unfold Cert.ReferenceIdeal.Step.b116
  rw [← al_103 h, ← al_115 h]
  try rfl
set_option maxRecDepth 8192 in
theorem al_117 (h : Holds V0 s j) : (broadcastInDim S1x1x8x512 ![2, 3] bcast_S8x512_S1x1x8x512_2_3 (V0 (Proc.devRef .tc main_v46_6)) : (Proc.devRef .tc main_while0b_v120 : DevRef τ sig).ty.Contents (Elt F)) = Cert.ReferenceIdeal.Step.b117 j s := by
  unfold Cert.ReferenceIdeal.Step.b117
  rw [h.f_6]
  try rfl
set_option maxRecDepth 8192 in
theorem al_118 (h : Holds V0 s j) : (broadcastInDim S4x64x8x512 ![0, 1, 2, 3] bcast_S1x1x8x512_S4x64x8x512_0_1_2_3 (broadcastInDim S1x1x8x512 ![2, 3] bcast_S8x512_S1x1x8x512_2_3 (V0 (Proc.devRef .tc main_v46_6))) : (Proc.devRef .tc main_while0b_v121 : DevRef τ sig).ty.Contents (Elt F)) = Cert.ReferenceIdeal.Step.b118 j s := by
  unfold Cert.ReferenceIdeal.Step.b118
  rw [← al_117 h]
  try rfl
set_option maxRecDepth 8192 in
theorem al_119 (h : Holds V0 s j) : (mulf (mulf (res_main_while0b_v109 V0) (broadcastInDim S4x64x8x512 ![0, 1, 2, 3] bcast_S4x64x8x1_S4x64x8x512_0_1_2_3 (Host.rsqrt (addf (Host.divf (broadcastInDim S4x64x8x1 ![0, 1, 2] bcast_S4x64x8_S4x64x8x1_0_1_2 (Host.reduceAdd (mulf (res_main_while0b_v109 V0) (res_main_while0b_v109 V0)) (constant S_ .f32 0x00000000#32) reducesTo_S4x64x8x512_S4x64x8_d3 h_S_)) (broadcastInDim S4x64x8x1 ![] bcast_S_S4x64x8x1 (constant S_ .f32 0x44000000#32))) (broadcastInDim S4x64x8x1 ![] bcast_S_S4x64x8x1 (constant S_ .f32 0x358637BD#32)))))) (broadcastInDim S4x64x8x512 ![0, 1, 2, 3] bcast_S1x1x8x512_S4x64x8x512_0_1_2_3 (broadcastInDim S1x1x8x512 ![2, 3] bcast_S8x512_S1x1x8x512_2_3 (V0 (Proc.devRef .tc main_v46_6)))) : (Proc.devRef .tc main_while0b_v122 : DevRef τ sig).ty.Contents (Elt F)) = Cert.ReferenceIdeal.Step.b119 j s := by
  unfold Cert.ReferenceIdeal.Step.b119
  rw [← al_116 h, ← al_118 h]
  try rfl
set_option maxRecDepth 8192 in
theorem al_120 (h : Holds V0 s j) : (mulf (Host.divf (broadcastInDim S4x64x8x512 ![] bcast_S_S4x64x8x512 (constant S_ .f32 0x3F800000#32)) (addf (broadcastInDim S4x64x8x512 ![] bcast_S_S4x64x8x512 (constant S_ .f32 0x3F800000#32)) (Host.exp (Host.negf (shapeCast S4x64x8x512 (Host.dynamicSlice S1x4x64x8x512 (V0 (Proc.devRef .tc main_v46_3)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512) shapeCasts_S1x4x64x8x512_S4x64x8x512))))) (mulf (mulf (res_main_while0b_v109 V0) (broadcastInDim S4x64x8x512 ![0, 1, 2, 3] bcast_S4x64x8x1_S4x64x8x512_0_1_2_3 (Host.rsqrt (addf (Host.divf (broadcastInDim S4x64x8x1 ![0, 1, 2] bcast_S4x64x8_S4x64x8x1_0_1_2 (Host.reduceAdd (mulf (res_main_while0b_v109 V0) (res_main_while0b_v109 V0)) (constant S_ .f32 0x00000000#32) reducesTo_S4x64x8x512_S4x64x8_d3 h_S_)) (broadcastInDim S4x64x8x1 ![] bcast_S_S4x64x8x1 (constant S_ .f32 0x44000000#32))) (broadcastInDim S4x64x8x1 ![] bcast_S_S4x64x8x1 (constant S_ .f32 0x358637BD#32)))))) (broadcastInDim S4x64x8x512 ![0, 1, 2, 3] bcast_S1x1x8x512_S4x64x8x512_0_1_2_3 (broadcastInDim S1x1x8x512 ![2, 3] bcast_S8x512_S1x1x8x512_2_3 (V0 (Proc.devRef .tc main_v46_6))))) : (Proc.devRef .tc main_while0b_v123 : DevRef τ sig).ty.Contents (Elt F)) = Cert.ReferenceIdeal.Step.b120 j s := by
  unfold Cert.ReferenceIdeal.Step.b120
  rw [← al_99 h, ← al_119 h]
  try rfl
set_option maxRecDepth 8192 in
theorem al_121 (h : Holds V0 s j) : (extractStridedSlice S4x8x1 ![0, 0, 63] (res_main_while0b_v60 V0) slices_S4x8x64_S4x8x1_0_0_63 : (Proc.devRef .tc main_while0b_v124 : DevRef τ sig).ty.Contents (Elt F)) = Cert.ReferenceIdeal.Step.b121 j s := by
  unfold Cert.ReferenceIdeal.Step.b121
  rw [← al_37 h]
  try rfl
set_option maxRecDepth 8192 in
theorem al_122 (h : Holds V0 s j) : (broadcastInDim S4x8x64 ![0, 1, 2] bcast_S4x8x1_S4x8x64_0_1_2 (extractStridedSlice S4x8x1 ![0, 0, 63] (res_main_while0b_v60 V0) slices_S4x8x64_S4x8x1_0_0_63) : (Proc.devRef .tc main_while0b_v125 : DevRef τ sig).ty.Contents (Elt F)) = Cert.ReferenceIdeal.Step.b122 j s := by
  unfold Cert.ReferenceIdeal.Step.b122
  rw [← al_121 h]
  try rfl
set_option maxRecDepth 8192 in
theorem al_123 (h : Holds V0 s j) : (subf (broadcastInDim S4x8x64 ![0, 1, 2] bcast_S4x8x1_S4x8x64_0_1_2 (extractStridedSlice S4x8x1 ![0, 0, 63] (res_main_while0b_v60 V0) slices_S4x8x64_S4x8x1_0_0_63)) (res_main_while0b_v60 V0) : (Proc.devRef .tc main_while0b_v126 : DevRef τ sig).ty.Contents (Elt F)) = Cert.ReferenceIdeal.Step.b123 j s := by
  unfold Cert.ReferenceIdeal.Step.b123
  rw [← al_122 h, ← al_37 h]
  try rfl
set_option maxRecDepth 8192 in
theorem al_124 (h : Holds V0 s j) : (res_main_while0b_v127 V0 : (Proc.devRef .tc main_while0b_v127 : DevRef τ sig).ty.Contents (Elt F)) = Cert.ReferenceIdeal.Step.b124 j s := by
  unfold res_main_while0b_v127 Cert.ReferenceIdeal.Step.b124
  rw [← al_123 h, ← al_38 h]
  try rfl
set_option maxRecDepth 8192 in
theorem al_125 (h : Holds V0 s j) : (extractStridedSlice S4x8x1 ![0, 0, 63] (res_main_while0b_v60 V0) slices_S4x8x64_S4x8x1_0_0_63 : (Proc.devRef .tc main_while0b_v128 : DevRef τ sig).ty.Contents (Elt F)) = Cert.ReferenceIdeal.Step.b125 j s := by
  unfold Cert.ReferenceIdeal.Step.b125
  rw [← al_37 h]
  try rfl
set_option maxRecDepth 8192 in
theorem al_126 (h : Holds V0 s j) : (shapeCast S4x8 (extractStridedSlice S4x8x1 ![0, 0, 63] (res_main_while0b_v60 V0) slices_S4x8x64_S4x8x1_0_0_63) shapeCasts_S4x8x1_S4x8 : (Proc.devRef .tc main_while0b_v129 : DevRef τ sig).ty.Contents (Elt F)) = Cert.ReferenceIdeal.Step.b126 j s := by
  unfold Cert.ReferenceIdeal.Step.b126
  rw [← al_125 h]
  try rfl
set_option maxRecDepth 8192 in
theorem al_127 (h : Holds V0 s j) : (addf (shapeCast S4x8 (extractStridedSlice S4x8x1 ![0, 0, 63] (res_main_while0b_v60 V0) slices_S4x8x64_S4x8x1_0_0_63) shapeCasts_S4x8x1_S4x8) (V0 (Proc.devRef .tc main_v46_10)) : (Proc.devRef .tc main_while0b_v130 : DevRef τ sig).ty.Contents (Elt F)) = Cert.ReferenceIdeal.Step.b127 j s := by
  unfold Cert.ReferenceIdeal.Step.b127
  rw [← al_126 h, h.f_10]
  try rfl
set_option maxRecDepth 8192 in
theorem al_128 (h : Holds V0 s j) : (constant S_ .f32 0xFF800000#32 : (Proc.devRef .tc main_while0b_cst_27 : DevRef τ sig).ty.Contents (Elt F)) = Cert.ReferenceIdeal.Step.b128 j s := by
  unfold Cert.ReferenceIdeal.Step.b128
  rfl
set_option maxRecDepth 8192 in
theorem al_129 (h : Holds V0 s j) : (Host.reduce FloatOps.maximumf (res_main_while0b_v127 V0) (constant S_ .f32 0xFF800000#32) reducesTo_S4x8x64_S4x8_d2 h_S_ : (Proc.devRef .tc main_while0b_v131 : DevRef τ sig).ty.Contents (Elt F)) = Cert.ReferenceIdeal.Step.b129 j s := by
  unfold Cert.ReferenceIdeal.Step.b129
  rw [← al_124 h, ← al_128 h]
  try rfl
set_option maxRecDepth 8192 in
theorem al_130 (h : Holds V0 s j) : (res_main_while0b_v132 V0 : (Proc.devRef .tc main_while0b_v132 : DevRef τ sig).ty.Contents (Elt F)) = Cert.ReferenceIdeal.Step.b130 j s := by
  unfold res_main_while0b_v132 Cert.ReferenceIdeal.Step.b130
  rw [← al_127 h, ← al_129 h]
  try rfl
set_option maxRecDepth 8192 in
theorem al_131 (h : Holds V0 s j) : (extractStridedSlice S4x8x1 ![0, 0, 63] (res_main_while0b_v60 V0) slices_S4x8x64_S4x8x1_0_0_63 : (Proc.devRef .tc main_while0b_v133 : DevRef τ sig).ty.Contents (Elt F)) = Cert.ReferenceIdeal.Step.b131 j s := by
  unfold Cert.ReferenceIdeal.Step.b131
  rw [← al_37 h]
  try rfl
set_option maxRecDepth 8192 in
theorem al_132 (h : Holds V0 s j) : (shapeCast S4x8 (extractStridedSlice S4x8x1 ![0, 0, 63] (res_main_while0b_v60 V0) slices_S4x8x64_S4x8x1_0_0_63) shapeCasts_S4x8x1_S4x8 : (Proc.devRef .tc main_while0b_v134 : DevRef τ sig).ty.Contents (Elt F)) = Cert.ReferenceIdeal.Step.b132 j s := by
  unfold Cert.ReferenceIdeal.Step.b132
  rw [← al_131 h]
  try rfl
set_option maxRecDepth 8192 in
theorem al_133 (h : Holds V0 s j) : (addf (shapeCast S4x8 (extractStridedSlice S4x8x1 ![0, 0, 63] (res_main_while0b_v60 V0) slices_S4x8x64_S4x8x1_0_0_63) shapeCasts_S4x8x1_S4x8) (V0 (Proc.devRef .tc main_v46_10)) : (Proc.devRef .tc main_while0b_v135 : DevRef τ sig).ty.Contents (Elt F)) = Cert.ReferenceIdeal.Step.b133 j s := by
  unfold Cert.ReferenceIdeal.Step.b133
  rw [← al_132 h, h.f_10]
  try rfl
set_option maxRecDepth 8192 in
theorem al_134 (h : Holds V0 s j) : (subf (addf (shapeCast S4x8 (extractStridedSlice S4x8x1 ![0, 0, 63] (res_main_while0b_v60 V0) slices_S4x8x64_S4x8x1_0_0_63) shapeCasts_S4x8x1_S4x8) (V0 (Proc.devRef .tc main_v46_10))) (res_main_while0b_v132 V0) : (Proc.devRef .tc main_while0b_v136 : DevRef τ sig).ty.Contents (Elt F)) = Cert.ReferenceIdeal.Step.b134 j s := by
  unfold Cert.ReferenceIdeal.Step.b134
  rw [← al_133 h, ← al_130 h]
  try rfl
set_option maxRecDepth 8192 in
theorem al_135 (h : Holds V0 s j) : (res_main_while0b_v137 V0 : (Proc.devRef .tc main_while0b_v137 : DevRef τ sig).ty.Contents (Elt F)) = Cert.ReferenceIdeal.Step.b135 j s := by
  unfold res_main_while0b_v137 Cert.ReferenceIdeal.Step.b135
  rw [← al_134 h]
  try rfl
set_option maxRecDepth 8192 in
theorem al_136 (h : Holds V0 s j) : (broadcastInDim S4x8x1 ![0, 1] bcast_S4x8_S4x8x1_0_1 (res_main_while0b_v132 V0) : (Proc.devRef .tc main_while0b_v138 : DevRef τ sig).ty.Contents (Elt F)) = Cert.ReferenceIdeal.Step.b136 j s := by
  unfold Cert.ReferenceIdeal.Step.b136
  rw [← al_130 h]
  try rfl
set_option maxRecDepth 8192 in
theorem al_137 (h : Holds V0 s j) : (broadcastInDim S4x8x64 ![0, 1, 2] bcast_S4x8x1_S4x8x64_0_1_2 (broadcastInDim S4x8x1 ![0, 1] bcast_S4x8_S4x8x1_0_1 (res_main_while0b_v132 V0)) : (Proc.devRef .tc main_while0b_v139 : DevRef τ sig).ty.Contents (Elt F)) = Cert.ReferenceIdeal.Step.b137 j s := by
  unfold Cert.ReferenceIdeal.Step.b137
  rw [← al_136 h]
  try rfl
set_option maxRecDepth 8192 in
theorem al_138 (h : Holds V0 s j) : (subf (res_main_while0b_v127 V0) (broadcastInDim S4x8x64 ![0, 1, 2] bcast_S4x8x1_S4x8x64_0_1_2 (broadcastInDim S4x8x1 ![0, 1] bcast_S4x8_S4x8x1_0_1 (res_main_while0b_v132 V0))) : (Proc.devRef .tc main_while0b_v140 : DevRef τ sig).ty.Contents (Elt F)) = Cert.ReferenceIdeal.Step.b138 j s := by
  unfold Cert.ReferenceIdeal.Step.b138
  rw [← al_124 h, ← al_137 h]
  try rfl
set_option maxRecDepth 8192 in
theorem al_139 (h : Holds V0 s j) : (Host.exp (subf (res_main_while0b_v127 V0) (broadcastInDim S4x8x64 ![0, 1, 2] bcast_S4x8x1_S4x8x64_0_1_2 (broadcastInDim S4x8x1 ![0, 1] bcast_S4x8_S4x8x1_0_1 (res_main_while0b_v132 V0)))) : (Proc.devRef .tc main_while0b_v141 : DevRef τ sig).ty.Contents (Elt F)) = Cert.ReferenceIdeal.Step.b139 j s := by
  unfold Cert.ReferenceIdeal.Step.b139
  rw [← al_138 h]
  try rfl
set_option maxRecDepth 8192 in
theorem al_140 (h : Holds V0 s j) : (transpose S4x64x8 [0, 2, 1] (Host.exp (subf (res_main_while0b_v127 V0) (broadcastInDim S4x8x64 ![0, 1, 2] bcast_S4x8x1_S4x8x64_0_1_2 (broadcastInDim S4x8x1 ![0, 1] bcast_S4x8_S4x8x1_0_1 (res_main_while0b_v132 V0))))) transposes_S4x8x64_S4x64x8_0_2_1 : (Proc.devRef .tc main_while0b_v142 : DevRef τ sig).ty.Contents (Elt F)) = Cert.ReferenceIdeal.Step.b140 j s := by
  unfold Cert.ReferenceIdeal.Step.b140
  rw [← al_139 h]
  try rfl
set_option maxRecDepth 8192 in
theorem al_141 (h : Holds V0 s j) : (broadcastInDim S4x64x8x1 ![0, 1, 2] bcast_S4x64x8_S4x64x8x1_0_1_2 (transpose S4x64x8 [0, 2, 1] (Host.exp (subf (res_main_while0b_v127 V0) (broadcastInDim S4x8x64 ![0, 1, 2] bcast_S4x8x1_S4x8x64_0_1_2 (broadcastInDim S4x8x1 ![0, 1] bcast_S4x8_S4x8x1_0_1 (res_main_while0b_v132 V0))))) transposes_S4x8x64_S4x64x8_0_2_1) : (Proc.devRef .tc main_while0b_v143 : DevRef τ sig).ty.Contents (Elt F)) = Cert.ReferenceIdeal.Step.b141 j s := by
  unfold Cert.ReferenceIdeal.Step.b141
  rw [← al_140 h]
  try rfl
set_option maxRecDepth 8192 in
theorem al_142 (h : Holds V0 s j) : (broadcastInDim S4x64x8x256 ![0, 1, 2, 3] bcast_S4x64x8x1_S4x64x8x256_0_1_2_3 (broadcastInDim S4x64x8x1 ![0, 1, 2] bcast_S4x64x8_S4x64x8x1_0_1_2 (transpose S4x64x8 [0, 2, 1] (Host.exp (subf (res_main_while0b_v127 V0) (broadcastInDim S4x8x64 ![0, 1, 2] bcast_S4x8x1_S4x8x64_0_1_2 (broadcastInDim S4x8x1 ![0, 1] bcast_S4x8_S4x8x1_0_1 (res_main_while0b_v132 V0))))) transposes_S4x8x64_S4x64x8_0_2_1)) : (Proc.devRef .tc main_while0b_v144 : DevRef τ sig).ty.Contents (Elt F)) = Cert.ReferenceIdeal.Step.b142 j s := by
  unfold Cert.ReferenceIdeal.Step.b142
  rw [← al_141 h]
  try rfl
set_option maxRecDepth 8192 in
theorem al_143 (h : Holds V0 s j) : (res_main_while0b_v145 V0 : (Proc.devRef .tc main_while0b_v145 : DevRef τ sig).ty.Contents (Elt F)) = Cert.ReferenceIdeal.Step.b143 j s := by
  unfold res_main_while0b_v145 Cert.ReferenceIdeal.Step.b143
  rw [← al_142 h, ← al_11 h]
  try rfl
set_option maxRecDepth 8192 in
theorem al_144 (h : Holds V0 s j) : (broadcastInDim S4x8x1x1 ![0, 1] bcast_S4x8_S4x8x1x1_0_1 (res_main_while0b_v137 V0) : (Proc.devRef .tc main_while0b_v146 : DevRef τ sig).ty.Contents (Elt F)) = Cert.ReferenceIdeal.Step.b144 j s := by
  unfold Cert.ReferenceIdeal.Step.b144
  rw [← al_135 h]
  try rfl
set_option maxRecDepth 8192 in
theorem al_145 (h : Holds V0 s j) : (broadcastInDim S4x8x256x512 ![0, 1, 2, 3] bcast_S4x8x1x1_S4x8x256x512_0_1_2_3 (broadcastInDim S4x8x1x1 ![0, 1] bcast_S4x8_S4x8x1x1_0_1 (res_main_while0b_v137 V0)) : (Proc.devRef .tc main_while0b_v147 : DevRef τ sig).ty.Contents (Elt F)) = Cert.ReferenceIdeal.Step.b145 j s := by
  unfold Cert.ReferenceIdeal.Step.b145
  rw [← al_144 h]
  try rfl
set_option maxRecDepth 8192 in
theorem al_146 (h : Holds V0 s j) : (mulf (broadcastInDim S4x8x256x512 ![0, 1, 2, 3] bcast_S4x8x1x1_S4x8x256x512_0_1_2_3 (broadcastInDim S4x8x1x1 ![0, 1] bcast_S4x8_S4x8x1x1_0_1 (res_main_while0b_v137 V0))) (V0 (Proc.devRef .tc main_v46_8)) : (Proc.devRef .tc main_while0b_v148 : DevRef τ sig).ty.Contents (Elt F)) = Cert.ReferenceIdeal.Step.b146 j s := by
  unfold Cert.ReferenceIdeal.Step.b146
  rw [← al_145 h, h.f_8]
  try rfl
set_option maxRecDepth 8192 in
theorem al_147 (h : Holds V0 s j) : (Host.dotGeneral dot_S4x64x8x256_S4x64x8x512_S4x8x256x512_1_1_3_3_02_02 none (res_main_while0b_v145 V0) (res_main_while0b_v55 V0) : (Proc.devRef .tc main_while0b_v149 : DevRef τ sig).ty.Contents (Elt F)) = Cert.ReferenceIdeal.Step.b147 j s := by
  unfold Cert.ReferenceIdeal.Step.b147
  rw [← al_143 h, ← al_17 h]
  try rfl
set_option maxRecDepth 8192 in
theorem al_148 (h : Holds V0 s j) : (addf (mulf (broadcastInDim S4x8x256x512 ![0, 1, 2, 3] bcast_S4x8x1x1_S4x8x256x512_0_1_2_3 (broadcastInDim S4x8x1x1 ![0, 1] bcast_S4x8_S4x8x1x1_0_1 (res_main_while0b_v137 V0))) (V0 (Proc.devRef .tc main_v46_8))) (Host.dotGeneral dot_S4x64x8x256_S4x64x8x512_S4x8x256x512_1_1_3_3_02_02 none (res_main_while0b_v145 V0) (res_main_while0b_v55 V0)) : (Proc.devRef .tc main_while0b_v150 : DevRef τ sig).ty.Contents (Elt F)) = Cert.ReferenceIdeal.Step.b148 j s := by
  unfold Cert.ReferenceIdeal.Step.b148
  rw [← al_146 h, ← al_147 h]
  try rfl
set_option maxRecDepth 8192 in
theorem al_149 (h : Holds V0 s j) : (broadcastInDim S4x8x1 ![0, 1] bcast_S4x8_S4x8x1_0_1 (res_main_while0b_v137 V0) : (Proc.devRef .tc main_while0b_v151 : DevRef τ sig).ty.Contents (Elt F)) = Cert.ReferenceIdeal.Step.b149 j s := by
  unfold Cert.ReferenceIdeal.Step.b149
  rw [← al_135 h]
  try rfl
set_option maxRecDepth 8192 in
theorem al_150 (h : Holds V0 s j) : (broadcastInDim S4x8x256 ![0, 1, 2] bcast_S4x8x1_S4x8x256_0_1_2 (broadcastInDim S4x8x1 ![0, 1] bcast_S4x8_S4x8x1_0_1 (res_main_while0b_v137 V0)) : (Proc.devRef .tc main_while0b_v152 : DevRef τ sig).ty.Contents (Elt F)) = Cert.ReferenceIdeal.Step.b150 j s := by
  unfold Cert.ReferenceIdeal.Step.b150
  rw [← al_149 h]
  try rfl
set_option maxRecDepth 8192 in
theorem al_151 (h : Holds V0 s j) : (mulf (broadcastInDim S4x8x256 ![0, 1, 2] bcast_S4x8x1_S4x8x256_0_1_2 (broadcastInDim S4x8x1 ![0, 1] bcast_S4x8_S4x8x1_0_1 (res_main_while0b_v137 V0))) (V0 (Proc.devRef .tc main_v46_9)) : (Proc.devRef .tc main_while0b_v153 : DevRef τ sig).ty.Contents (Elt F)) = Cert.ReferenceIdeal.Step.b151 j s := by
  unfold Cert.ReferenceIdeal.Step.b151
  rw [← al_150 h, h.f_9]
  try rfl
set_option maxRecDepth 8192 in
theorem al_152 (h : Holds V0 s j) : (constant S_ .f32 0x00000000#32 : (Proc.devRef .tc main_while0b_cst_28 : DevRef τ sig).ty.Contents (Elt F)) = Cert.ReferenceIdeal.Step.b152 j s := by
  unfold Cert.ReferenceIdeal.Step.b152
  rfl
set_option maxRecDepth 8192 in
theorem al_153 (h : Holds V0 s j) : (Host.reduceAdd (res_main_while0b_v145 V0) (constant S_ .f32 0x00000000#32) reducesTo_S4x64x8x256_S4x8x256_d1 h_S_ : (Proc.devRef .tc main_while0b_v154 : DevRef τ sig).ty.Contents (Elt F)) = Cert.ReferenceIdeal.Step.b153 j s := by
  unfold Cert.ReferenceIdeal.Step.b153
  rw [← al_143 h, ← al_152 h]
  try rfl
set_option maxRecDepth 8192 in
theorem al_154 (h : Holds V0 s j) : (addf (mulf (broadcastInDim S4x8x256 ![0, 1, 2] bcast_S4x8x1_S4x8x256_0_1_2 (broadcastInDim S4x8x1 ![0, 1] bcast_S4x8_S4x8x1_0_1 (res_main_while0b_v137 V0))) (V0 (Proc.devRef .tc main_v46_9))) (Host.reduceAdd (res_main_while0b_v145 V0) (constant S_ .f32 0x00000000#32) reducesTo_S4x64x8x256_S4x8x256_d1 h_S_) : (Proc.devRef .tc main_while0b_v155 : DevRef τ sig).ty.Contents (Elt F)) = Cert.ReferenceIdeal.Step.b154 j s := by
  unfold Cert.ReferenceIdeal.Step.b154
  rw [← al_151 h, ← al_153 h]
  try rfl
set_option maxRecDepth 8192 in
theorem al_155 (h : Holds V0 s j) : (broadcastInDim S1x4x64x8x512 ![1, 2, 3, 4] bcast_S4x64x8x512_S1x4x64x8x512_1_2_3_4 (mulf (Host.divf (broadcastInDim S4x64x8x512 ![] bcast_S_S4x64x8x512 (constant S_ .f32 0x3F800000#32)) (addf (broadcastInDim S4x64x8x512 ![] bcast_S_S4x64x8x512 (constant S_ .f32 0x3F800000#32)) (Host.exp (Host.negf (shapeCast S4x64x8x512 (Host.dynamicSlice S1x4x64x8x512 (V0 (Proc.devRef .tc main_v46_3)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512) shapeCasts_S1x4x64x8x512_S4x64x8x512))))) (mulf (mulf (res_main_while0b_v109 V0) (broadcastInDim S4x64x8x512 ![0, 1, 2, 3] bcast_S4x64x8x1_S4x64x8x512_0_1_2_3 (Host.rsqrt (addf (Host.divf (broadcastInDim S4x64x8x1 ![0, 1, 2] bcast_S4x64x8_S4x64x8x1_0_1_2 (Host.reduceAdd (mulf (res_main_while0b_v109 V0) (res_main_while0b_v109 V0)) (constant S_ .f32 0x00000000#32) reducesTo_S4x64x8x512_S4x64x8_d3 h_S_)) (broadcastInDim S4x64x8x1 ![] bcast_S_S4x64x8x1 (constant S_ .f32 0x44000000#32))) (broadcastInDim S4x64x8x1 ![] bcast_S_S4x64x8x1 (constant S_ .f32 0x358637BD#32)))))) (broadcastInDim S4x64x8x512 ![0, 1, 2, 3] bcast_S1x1x8x512_S4x64x8x512_0_1_2_3 (broadcastInDim S1x1x8x512 ![2, 3] bcast_S8x512_S1x1x8x512_2_3 (V0 (Proc.devRef .tc main_v46_6)))))) : (Proc.devRef .tc main_while0b_call9_v0 : DevRef τ sig).ty.Contents (Elt F)) = Cert.ReferenceIdeal.Step.b155 j s := by
  unfold Cert.ReferenceIdeal.Step.b155
  rw [← al_120 h]
  try rfl
set_option maxRecDepth 8192 in
theorem al_156 (h : Holds V0 s j) : (constantI S_ 32 0#32 : (Proc.devRef .tc main_while0b_call9_c : DevRef τ sig).ty.Contents (Elt F)) = Cert.ReferenceIdeal.Step.b156 j s := by
  unfold Cert.ReferenceIdeal.Step.b156
  rfl
set_option maxRecDepth 8192 in
theorem al_157 (h : Holds V0 s j) : (constantI S_ 32 0#32 : (Proc.devRef .tc main_while0b_call9_c_0 : DevRef τ sig).ty.Contents (Elt F)) = Cert.ReferenceIdeal.Step.b157 j s := by
  unfold Cert.ReferenceIdeal.Step.b157
  rfl
set_option maxRecDepth 8192 in
theorem al_158 (h : Holds V0 s j) : (constantI S_ 32 0#32 : (Proc.devRef .tc main_while0b_call9_c_1 : DevRef τ sig).ty.Contents (Elt F)) = Cert.ReferenceIdeal.Step.b158 j s := by
  unfold Cert.ReferenceIdeal.Step.b158
  rfl
set_option maxRecDepth 8192 in
theorem al_159 (h : Holds V0 s j) : (constantI S_ 32 0#32 : (Proc.devRef .tc main_while0b_call9_c_2 : DevRef τ sig).ty.Contents (Elt F)) = Cert.ReferenceIdeal.Step.b159 j s := by
  unfold Cert.ReferenceIdeal.Step.b159
  rfl
set_option maxRecDepth 8192 in
theorem al_160 (h : Holds V0 s j) : (Host.dynamicUpdateSlice (V0 (Proc.devRef .tc main_v46_11)) (broadcastInDim S1x4x64x8x512 ![1, 2, 3, 4] bcast_S4x64x8x512_S1x4x64x8x512_1_2_3_4 (mulf (Host.divf (broadcastInDim S4x64x8x512 ![] bcast_S_S4x64x8x512 (constant S_ .f32 0x3F800000#32)) (addf (broadcastInDim S4x64x8x512 ![] bcast_S_S4x64x8x512 (constant S_ .f32 0x3F800000#32)) (Host.exp (Host.negf (shapeCast S4x64x8x512 (Host.dynamicSlice S1x4x64x8x512 (V0 (Proc.devRef .tc main_v46_3)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512) shapeCasts_S1x4x64x8x512_S4x64x8x512))))) (mulf (mulf (res_main_while0b_v109 V0) (broadcastInDim S4x64x8x512 ![0, 1, 2, 3] bcast_S4x64x8x1_S4x64x8x512_0_1_2_3 (Host.rsqrt (addf (Host.divf (broadcastInDim S4x64x8x1 ![0, 1, 2] bcast_S4x64x8_S4x64x8x1_0_1_2 (Host.reduceAdd (mulf (res_main_while0b_v109 V0) (res_main_while0b_v109 V0)) (constant S_ .f32 0x00000000#32) reducesTo_S4x64x8x512_S4x64x8_d3 h_S_)) (broadcastInDim S4x64x8x1 ![] bcast_S_S4x64x8x1 (constant S_ .f32 0x44000000#32))) (broadcastInDim S4x64x8x1 ![] bcast_S_S4x64x8x1 (constant S_ .f32 0x358637BD#32)))))) (broadcastInDim S4x64x8x512 ![0, 1, 2, 3] bcast_S1x1x8x512_S4x64x8x512_0_1_2_3 (broadcastInDim S1x1x8x512 ![2, 3] bcast_S8x512_S1x1x8x512_2_3 (V0 (Proc.devRef .tc main_v46_6))))))) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) updateFits_S32x4x64x8x512_S1x4x64x8x512 : (Proc.devRef .tc main_while0b_v156 : DevRef τ sig).ty.Contents (Elt F)) = Cert.ReferenceIdeal.Step.b160 j s := by
  unfold Cert.ReferenceIdeal.Step.b160
  rw [← al_155 h, ← al_156 h, ← al_157 h, ← al_158 h, ← al_159 h, h.f_11, h.n_7]
  try rfl

/-! One trip's step of the carried values is `step`, field by field; a counter steps to the next number. -/

theorem step_8 (h : Holds V0 s j) : step_main_v46_8 V0 = (step j s).main_v46_8 := by
  unfold step_main_v46_8 Cert.ReferenceIdeal.Step.step
  show id (addf (mulf (broadcastInDim S4x8x256x512 ![0, 1, 2, 3] bcast_S4x8x1x1_S4x8x256x512_0_1_2_3 (broadcastInDim S4x8x1x1 ![0, 1] bcast_S4x8_S4x8x1x1_0_1 (res_main_while0b_v137 V0))) (V0 (Proc.devRef .tc main_v46_8))) (Host.dotGeneral dot_S4x64x8x256_S4x64x8x512_S4x8x256x512_1_1_3_3_02_02 none (res_main_while0b_v145 V0) (res_main_while0b_v55 V0))) = _
  rw [al_148 h]
  try rfl
theorem step_9 (h : Holds V0 s j) : step_main_v46_9 V0 = (step j s).main_v46_9 := by
  unfold step_main_v46_9 Cert.ReferenceIdeal.Step.step
  show id (addf (mulf (broadcastInDim S4x8x256 ![0, 1, 2] bcast_S4x8x1_S4x8x256_0_1_2 (broadcastInDim S4x8x1 ![0, 1] bcast_S4x8_S4x8x1_0_1 (res_main_while0b_v137 V0))) (V0 (Proc.devRef .tc main_v46_9))) (Host.reduceAdd (res_main_while0b_v145 V0) (constant S_ .f32 0x00000000#32) reducesTo_S4x64x8x256_S4x8x256_d1 h_S_)) = _
  rw [al_154 h]
  try rfl
theorem step_10 (h : Holds V0 s j) : step_main_v46_10 V0 = (step j s).main_v46_10 := by
  unfold step_main_v46_10 Cert.ReferenceIdeal.Step.step
  show id (res_main_while0b_v132 V0) = _
  rw [al_130 h]
  try rfl
theorem step_11 (h : Holds V0 s j) : step_main_v46_11 V0 = (step j s).main_v46_11 := by
  unfold step_main_v46_11 Cert.ReferenceIdeal.Step.step
  show id (Host.dynamicUpdateSlice (V0 (Proc.devRef .tc main_v46_11)) (broadcastInDim S1x4x64x8x512 ![1, 2, 3, 4] bcast_S4x64x8x512_S1x4x64x8x512_1_2_3_4 (mulf (Host.divf (broadcastInDim S4x64x8x512 ![] bcast_S_S4x64x8x512 (constant S_ .f32 0x3F800000#32)) (addf (broadcastInDim S4x64x8x512 ![] bcast_S_S4x64x8x512 (constant S_ .f32 0x3F800000#32)) (Host.exp (Host.negf (shapeCast S4x64x8x512 (Host.dynamicSlice S1x4x64x8x512 (V0 (Proc.devRef .tc main_v46_3)) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512) shapeCasts_S1x4x64x8x512_S4x64x8x512))))) (mulf (mulf (res_main_while0b_v109 V0) (broadcastInDim S4x64x8x512 ![0, 1, 2, 3] bcast_S4x64x8x1_S4x64x8x512_0_1_2_3 (Host.rsqrt (addf (Host.divf (broadcastInDim S4x64x8x1 ![0, 1, 2] bcast_S4x64x8_S4x64x8x1_0_1_2 (Host.reduceAdd (mulf (res_main_while0b_v109 V0) (res_main_while0b_v109 V0)) (constant S_ .f32 0x00000000#32) reducesTo_S4x64x8x512_S4x64x8_d3 h_S_)) (broadcastInDim S4x64x8x1 ![] bcast_S_S4x64x8x1 (constant S_ .f32 0x44000000#32))) (broadcastInDim S4x64x8x1 ![] bcast_S_S4x64x8x1 (constant S_ .f32 0x358637BD#32)))))) (broadcastInDim S4x64x8x512 ![0, 1, 2, 3] bcast_S1x1x8x512_S4x64x8x512_0_1_2_3 (broadcastInDim S1x1x8x512 ![2, 3] bcast_S8x512_S1x1x8x512_2_3 (V0 (Proc.devRef .tc main_v46_6))))))) (fun k => (((![V0 (Proc.devRef .tc main_v46_7), constantI S_ 32 0#32, constantI S_ 32 0#32, constantI S_ 32 0#32, constantI S_ 32 0#32] : Fin 5 → (⟨S_, .i32⟩ : BufTy).Contents (Elt F))) k (Shape.Idx.first h_S_)).toInt) updateFits_S32x4x64x8x512_S1x4x64x8x512) = _
  refine Eq.trans (al_160 h) ?_
  try rfl
theorem step_7 (h : Holds V0 s j) : step_main_v46_7 V0 = constantI S_ 32 (BitVec.ofNat 32 (j + 1)) := by
  unfold step_main_v46_7
  rw [h.n_7]
  funext i
  show BitVec.ofNat 32 j + 1#32 = BitVec.ofNat 32 (j + 1)
  simp only [BitVec.ofNat_add]

set_option maxRecDepth 8192 in
theorem out_main_v51_holds (h : Holds V0 s j) : out_main_v51 V0 = Cert.ReferenceIdeal.Step.R_main_v51 s := by
  unfold out_main_v51 Cert.ReferenceIdeal.Step.R_main_v51
  rw [h.f_11]
  try rfl

set_option maxRecDepth 8192 in
theorem out_main_v52_holds (h : Holds V0 s j) : out_main_v52 V0 = Cert.ReferenceIdeal.Step.R_main_v52 s := by
  unfold out_main_v52 Cert.ReferenceIdeal.Step.R_main_v52
  rw [h.f_10]
  try rfl

/-- One trip keeps the valuation holding: `step` of the state, the same set-up values, the next number. -/
theorem holds_step (h : Holds V0 s j) : Holds (STEP V0) (step j s) (j + 1) where
  f_8 := (STEP_main_v46_8 V0).trans (step_8 h)
  f_9 := (STEP_main_v46_9 V0).trans (step_9 h)
  f_10 := (STEP_main_v46_10 V0).trans (step_10 h)
  f_11 := (STEP_main_v46_11 V0).trans (step_11 h)
  n_7 := (STEP_main_v46_7 V0).trans (step_7 h)
  f_0 := (STEP_main_v46_0 V0).trans h.f_0
  f_1 := (STEP_main_v46_1 V0).trans h.f_1
  f_2 := (STEP_main_v46_2 V0).trans h.f_2
  f_3 := (STEP_main_v46_3 V0).trans h.f_3
  f_4 := (STEP_main_v46_4 V0).trans h.f_4
  f_5 := (STEP_main_v46_5 V0).trans h.f_5
  f_6 := (STEP_main_v46_6 V0).trans h.f_6

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v51) = Cert.ReferenceIdeal.Step.R_main_v51 (it c 32)
      ∧ r.2.mem ((c.tc : Thread nD τ).loc main_v46_8) = (it c 32).main_v46_8
      ∧ r.2.mem ((c.tc : Thread nD τ).loc main_v46_9) = (it c 32).main_v46_9
      ∧ r.2.mem ((c.tc : Thread nD τ).loc main_v52) = Cert.ReferenceIdeal.Step.R_main_v52 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 32
    ⟨(h c).1.trans (out_main_v51_holds hk), (h c).2.1.trans hk.f_8, (h c).2.2.1.trans hk.f_9, (h c).2.2.2.1.trans (out_main_v52_holds hk), (h c).2.2.2.2.1, (h c).2.2.2.2.2.1, (h c).2.2.2.2.2.2⟩) (Value.run m ρ)

end Cert.ReferenceIdeal.StepRun

end
-- ==== Proof.Value.lean ====
/- The arrays the kernel leaves are the reference's results. -/
module

public import proofs.«01_k».proof.Proof.KernelSetUp
public import proofs.«01_k».proof.Proof.RefSetUp
public import proofs.«01_k».proof.Proof.RefTrips

@[expose] public section

set_option maxRecDepth 16384

noncomputable section

namespace Cert.KernelIdeal.Recur

open Idealize.ShloMosaic Idealize.ShloMosaic.TcCoe Idealize.SL.Sem
open Idealize.ShloMosaic.Pipeline (Dat)
open Cert.KernelIdeal Cert.KernelIdeal.Gen
open Cert.Math (Chunk Given)

variable (m : (ℓ : Loc nD τ sig) → Buf (Elt Ideal) ℓ) (c : Dev nD)

/-- The results as functions of the arguments. -/
def resC : FVec Ideal S4x8x256x512 .f32 := (Cert.ReferenceIdeal.Recur.it (argX m c) (argB m c) (argG m c) 32).main_v46_8
def resN : FVec Ideal S4x8x256 .f32 := (Cert.ReferenceIdeal.Recur.it (argX m c) (argB m c) (argG m c) 32).main_v46_9
def resM : FVec Ideal S4x8x1 .f32 := Cert.ReferenceIdeal.Step.R_main_v52 (Cert.ReferenceIdeal.Recur.it (argX m c) (argB m c) (argG m c) 32)
def resH : FVec Ideal S8704x4096 .bf16 := Cert.ReferenceIdeal.Step.R_main_v51 (Cert.ReferenceIdeal.Recur.it (argX m c) (argB m c) (argG m c) 32)

theorem resC_at (b : Fin 4) (h : Fin 8) (d : Fin 256) (e : Fin 512) : resC m c (ix4 b h d e) = ((given m c).mem b h 32).C d e :=
  Cert.ReferenceIdeal.Recur.res_C (argX m c) (argB m c) (argG m c) b h d e
theorem resN_at (b : Fin 4) (h : Fin 8) (d : Fin 256) : resN m c (ix3 b h d) = ((given m c).mem b h 32).n d :=
  Cert.ReferenceIdeal.Recur.res_n (argX m c) (argB m c) (argG m c) b h d
theorem resM_at (b : Fin 4) (h : Fin 8) : resM m c (ix3 b h 0) = ((given m c).mem b h 32).m :=
  Cert.ReferenceIdeal.Recur.res_m (argX m c) (argB m c) (argG m c) b h
theorem resH_at (b : Fin 4) (j : Fin 32) (l : Fin 64) (h : Fin 8) (e : Fin 512) :
    resH m c (ix2 (Given.row b j l) (col512 h e)) = ((given m c).nth b h j).out l e :=
  Cert.ReferenceIdeal.Recur.res_h (argX m c) (argB m c) (argG m c) j b l h e
theorem resH_rest (r : Fin 8704) (k : Fin 4096) (hr : 8192 ≤ r.val) : resH m c (ix2 r k) = (0 : EReal) :=
  Cert.ReferenceIdeal.Recur.res_rest (argX m c) (argB m c) (argG m c) r k hr

attribute [local irreducible] resC resN resM resH after Blocks.rows entry

theorem after_last (t : Fin cfg0.N) (h : Fin 8) (ht : t.val % 32 = 31) : memOf (after m c t) h = (given m c).mem (bat t) h 32 := by
  rw [after_mem]
  have : (chn t).val + 1 = 32 := by show t.val % 32 + 1 = 32; omega
  rw [this]

theorem final_C : (dats m 0 c).arrAt 13 (cfgs 0).N = resC m c := by
  refine (dats m 0 c).arrAt_eq_of_covers 13 _ (by decide +kernel) fun t hf y => ?_
  blk_simp
  rw [after_13]
  idx_vars y
  obtain rfl : y0 = 0 := Subsingleton.elim _ _
  refine Eq.trans (b := resC m c (ix4 (bat t) y1 y2 y3)) ?_ ?_
  · exact (congrArg (fun M : Given.Mem => M.C y2 y3) (after_last m c t y1 ((flush0_13 t).mp hf))).trans (resC_at m c (bat t) y1 y2 y3).symm
  · unfold bat
    blk_ext [idx13 t]
theorem final_n : (dats m 0 c).arrAt 14 (cfgs 0).N = resN m c := by
  refine (dats m 0 c).arrAt_eq_of_covers 14 _ (by decide +kernel) fun t hf y => ?_
  blk_simp
  rw [after_14]
  idx_vars y
  obtain rfl : y0 = 0 := Subsingleton.elim _ _
  refine Eq.trans (b := resN m c (ix3 (bat t) y1 y2)) ?_ ?_
  · exact (congrArg (fun M : Given.Mem => M.n y2) (after_last m c t y1 ((flush0_14 t).mp hf))).trans (resN_at m c (bat t) y1 y2).symm
  · unfold bat
    blk_ext [idx14 t]
theorem final_m : (dats m 0 c).arrAt 15 (cfgs 0).N = resM m c := by
  refine (dats m 0 c).arrAt_eq_of_covers 15 _ (by decide +kernel) fun t hf y => ?_
  blk_simp
  rw [after_15]
  idx_vars y
  obtain rfl : y0 = 0 := Subsingleton.elim _ _
  obtain rfl : y2 = 0 := Subsingleton.elim _ _
  refine Eq.trans (b := resM m c (ix3 (bat t) y1 0)) ?_ ?_
  · exact (congrArg (fun M : Given.Mem => M.m) (after_last m c t y1 ((flush0_15 t).mp hf))).trans (resM_at m c (bat t) y1).symm
  · unfold bat
    blk_ext [idx15 t]
/-- A column of the rows as a head's. -/
theorem col_split (k : Fin 4096) : ∃ (h : Fin 8) (e : Fin 512), k = col512 h e :=
  ⟨⟨k.val / 512, by omega⟩, ⟨k.val % 512, by omega⟩, Fin.ext (by show k.val = 512 * (k.val / 512) + k.val % 512; omega)⟩
/-- The rows no point writes stay zero. -/
theorem rest_h (i : S8704x4096.Idx) : V m c main_v11_0 i = (0 : EReal) := by
  entry_read
  pointwise
theorem final_h : (dats m 0 c).arrAt 12 (cfgs 0).N = resH m c := by
  have hw : (dats m 0 c).arrAt 12 (cfgs 0).N = fun i => if (i 0 : ℕ) < 8192 then resH m c i else V m c main_v11_0 i := by
    refine (dats m 0 c).arrAt_eq_of_coversWhere 12 _ (fun β => β 0 < 128) (by decide +kernel) (fun t hf y => ?_)
      (fun j => by blk_simp [Pipeline.Window.cell_apply]; omega)
    blk_simp
    rw [after_12]
    idx_vars y
    obtain ⟨h, e, rfl⟩ := col_split y1
    refine Eq.trans (b := resH m c (ix2 (Given.row (bat t) (chn t) y0) (col512 h e))) ?_ ?_
    · exact (rows_mem m c t y0 h e).trans (resH_at m c (bat t) (chn t) y0 h e).symm
    · rw [← rowAt_eq]
      unfold rowAt
      blk_ext [idx12 t]
  rw [hw]
  funext i
  by_cases hi : (i 0 : ℕ) < 8192
  · exact if_pos hi
  · refine (if_neg hi).trans ((rest_h m c i).trans ?_)
    idx_vars i
    exact (resH_rest m c i0 i1 (Nat.le_of_not_lt hi)).symm

end Cert.KernelIdeal.Recur

end
-- ==== Proof.Algebraic.lean ====
/- The kernel's results equal the reference's on every input. -/
module

public import proofs.«01_k».proof.Defs
public import proofs.«01_k».proof.Proof.Quiet
public import proofs.«01_k».proof.Proof.Value

@[expose] public section

set_option maxRecDepth 16384

noncomputable section

namespace Cert.KernelIdeal.Recur

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem run_values : θ_run (defs (F := Ideal)) (onTc (τ := τ) (main (F := Ideal))) ⟨m, fun _ => 0, ρ⟩ (fun r => ∀ c : Dev nD,
      r.2.mem ((c.tc : Thread nD τ).loc main_v11_0) = resH m c
      ∧ r.2.mem ((c.tc : Thread nD τ).loc main_v11_1) = resC m c
      ∧ r.2.mem ((c.tc : Thread nD τ).loc main_v11_2) = resN m c
      ∧ r.2.mem ((c.tc : Thread nD τ).loc main_v11_3) = resM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r hr c => ?_) (θ_run_and (run_main (F := Ideal) m ρ) (frame (F := Ideal) m ρ))
  obtain ⟨h1, h2, _⟩ := hr
  exact ⟨((h1 c).1 12).trans (final_h m c), ((h1 c).1 13).trans (final_C m c), ((h1 c).1 14).trans (final_n m c), ((h1 c).1 15).trans (final_m m c), h2 c⟩

end Cert.KernelIdeal.Recur

namespace Cert.Proof

open Idealize.ShloMosaic Idealize.ShloMosaic.TcCoe Idealize.SL.Sem

theorem algebraic : algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Recur.resH m c, fun c => Cert.KernelIdeal.Recur.resC m c, fun c => Cert.KernelIdeal.Recur.resN m c,
    fun c => Cert.KernelIdeal.Recur.resM m c, Cert.KernelIdeal.Recur.run_values m g, ?_⟩
  refine (θ_run Cert.ReferenceIdeal.defs _ _).mono (fun r hr c => ?_)
    (Cert.ReferenceIdeal.StepRun.run_iter (F := Ideal) m' g'
      (fun c => Cert.ReferenceIdeal.Recur.it (Cert.KernelIdeal.Recur.argX m c) (Cert.KernelIdeal.Recur.argB m c) (Cert.KernelIdeal.Recur.argG m c))
      (fun c => ?_) (fun c n => rfl))
  · exact hr c
  · show Cert.ReferenceIdeal.Step.init _ _ _ = Cert.ReferenceIdeal.Step.init _ _ _
    rw [(hagree c).1, (hagree c).2.1, (hagree c).2.2]

end Cert.Proof

end
-- ==== Proof.Swiglu.lean ====
/- The feed-forward's first half: what the two accumulators hold after each grid point. -/
module

public import proofs.«01_k».proof.Defs
public import proofs.«01_k».proof.Proof.Gen.SwigluIdeal.Frame
public import proofs.«01_k».proof.Proof.Gen.SwigluReferenceIdeal
public import proofs.«01_k».proof.Proof.Chunk
public import Idealize.ShloMosaic.Lib.Pipeline.ReadBack
public import Idealize.ShloMosaic.Lib.Pipeline.ValueKit

@[expose] public section

set_option maxRecDepth 16384

noncomputable section

namespace Cert.Proof.Swi

open Idealize.ShloMosaic Idealize.ShloMosaic.TcCoe Idealize.SL.Sem
open Idealize.ShloMosaic.Pipeline (Dat)
open Cert.SwigluIdeal Cert.SwigluIdeal.Gen

variable (m : (ℓ : Loc nD τ sig) → Buf (Elt Ideal) ℓ)

/-- Where each window's block sits at grid point `t`. -/
theorem idx : ∀ t : Fin cfg0.N, win0_0.index t = ![t.val / 176, t.val % 8]
    ∧ win0_1.index t = ![0, t.val % 8, t.val / 8 % 22 * 2] ∧ win0_2.index t = ![0, t.val % 8, t.val / 8 % 22 * 2 + 1]
    ∧ win0_3.index t = ![0, t.val % 8, min (43 + t.val / 8 % 22 * 2) 85] ∧ win0_4.index t = ![0, t.val % 8, min (43 + t.val / 8 % 22 * 2 + 1) 85]
    ∧ win0_5.index t = ![t.val / 176, t.val / 8 % 22] :=
  (by decide +kernel : ∀ t : Fin grid0.N, _)

/-- The 352 grid points. -/
theorem lt_N (t : Fin cfg0.N) : t.val < 352 := lt_of_lt_of_eq t.isLt N_0

/-- One point's contribution to the gate accumulator. -/
def gateTerm (c : Dev nD) (t : Fin cfg0.N) (y : S4352x512.Idx) : EReal :=
  let X : FVec Ideal S8704x4096 .bf16 := m ((c : Thread nD τ).loc main_arg0)
  let W : FVec Ideal S2x4096x22016 .f32 := m ((c : Thread nD τ).loc main_arg1)
  ∑ k : Fin 512, X (ix2 ⟨t.val / 176 * 4352 + (y 0 : ℕ), by have := lt_N t; have : (y 0 : ℕ) < 4352 := (y 0).isLt; show _ < 8704; omega⟩ ⟨t.val % 8 * 512 + k, by show _ < 4096; omega⟩)
    * W (ix3 ⟨0, by show _ < 2; omega⟩ ⟨t.val % 8 * 512 + k, by show _ < 4096; omega⟩ ⟨t.val / 8 % 22 * 512 + (y 1 : ℕ), by have : (y 1 : ℕ) < 512 := (y 1).isLt; show _ < 22016; omega⟩)

/-- One point's contribution to the other accumulator; a block that would start past the last column stays on the last block. -/
def upTerm (c : Dev nD) (t : Fin cfg0.N) (y : S4352x512.Idx) : EReal :=
  let X : FVec Ideal S8704x4096 .bf16 := m ((c : Thread nD τ).loc main_arg0)
  let W : FVec Ideal S2x4096x22016 .f32 := m ((c : Thread nD τ).loc main_arg1)
  ∑ k : Fin 512, X (ix2 ⟨t.val / 176 * 4352 + (y 0 : ℕ), by have := lt_N t; have : (y 0 : ℕ) < 4352 := (y 0).isLt; show _ < 8704; omega⟩ ⟨t.val % 8 * 512 + k, by show _ < 4096; omega⟩)
    * W (ix3 ⟨0, by show _ < 2; omega⟩ ⟨t.val % 8 * 512 + k, by show _ < 4096; omega⟩ ⟨min (43 + t.val / 8 % 22 * 2 + (y 1 : ℕ) / 256) 85 * 256 + (y 1 : ℕ) % 256, by show _ < 22016; omega⟩)

/-- At a run's first block of the contracted axis the gate accumulator is stored afresh. -/
theorem gate_first (c : Dev nD) (t : Fin cfg0.N) (h0 : t.val % 8 = 0) (y : S4352x512.Idx) :
    (outsAt0 m c t.val t.isLt).2.1 y = 0 + gateTerm m c t y := by
  rw [outsAt0_A m c t h0 (by omega) (by omega)]
  frame_out
  rw [zero_add]
  canon_tiles x h
  all_goals (open_payloads; pointwise [gateTerm])
  all_goals blk_point [iblk, V, idx t]

/-- The same of the other accumulator. -/
theorem up_first (c : Dev nD) (t : Fin cfg0.N) (h0 : t.val % 8 = 0) (y : S4352x512.Idx) :
    (outsAt0 m c t.val t.isLt).2.2 y = 0 + upTerm m c t y := by
  rw [outsAt0_A m c t h0 (by omega) (by omega)]
  frame_out
  rw [zero_add]
  canon_tiles x h
  all_goals (open_payloads; pointwise [upTerm])
  all_goals blk_point [iblk, V, idx t]

/-- At every later block the gate accumulator takes the point's contribution on top of what it held. -/
theorem gate_next (c : Dev nD) (t : Fin cfg0.N) (h0 : ¬ t.val % 8 = 0) (y : S4352x512.Idx) :
    (outsAt0 m c t.val t.isLt).2.1 y
      = (outsAt0 m c (t.val - 1) (Nat.lt_of_le_of_lt (Nat.sub_le _ _) t.isLt)).2.1 y + gateTerm m c t y := by
  by_cases h7 : t.val % 8 = 7
  · rw [outsAt0_C m c t h0 (by omega) h7]
    generalize outsAt0 m c (t.val - 1) _ = B
    frame_out
    simp only [read_unread_whole]
    canon_tiles x h
    all_goals (open_payloads; pointwise [gateTerm])
    all_goals blk_point [iblk, V, idx t]
  · rw [outsAt0_B m c t h0 (by omega) h7]
    generalize outsAt0 m c (t.val - 1) _ = B
    frame_out
    simp only [read_unread_whole]
    canon_tiles x h
    all_goals (open_payloads; pointwise [gateTerm])
    all_goals blk_point [iblk, V, idx t]

/-- The same of the other accumulator. -/
theorem up_next (c : Dev nD) (t : Fin cfg0.N) (h0 : ¬ t.val % 8 = 0) (y : S4352x512.Idx) :
    (outsAt0 m c t.val t.isLt).2.2 y
      = (outsAt0 m c (t.val - 1) (Nat.lt_of_le_of_lt (Nat.sub_le _ _) t.isLt)).2.2 y + upTerm m c t y := by
  by_cases h7 : t.val % 8 = 7
  · rw [outsAt0_C m c t h0 (by omega) h7]
    generalize outsAt0 m c (t.val - 1) _ = B
    frame_out
    simp only [read_unread_whole]
    canon_tiles x h
    all_goals (open_payloads; pointwise [upTerm])
    all_goals blk_point [iblk, V, idx t]
  · rw [outsAt0_B m c t h0 (by omega) h7]
    generalize outsAt0 m c (t.val - 1) _ = B
    frame_out
    simp only [read_unread_whole]
    canon_tiles x h
    all_goals (open_payloads; pointwise [upTerm])
    all_goals blk_point [iblk, V, idx t]

/-- A load of a whole accumulator reads what the stores left there. -/
theorem load_all {κ : Kind} {sp : Space} (v : View sig κ sp S4352x512 .f32) (L : List (View.Piece (Elt Ideal) S4352x512 .f32)) (inb) :
    v.readCov L (Rect.unit (s := S4352x512) ![0, 0] ![4352, 512] inb).toLoadRect = View.canon L := by
  rw [View.readCov_eq_canon']
  funext j
  congr 1
  refine funext fun a => Fin.ext ((Rect.idx_unit_val (s := S4352x512) ![0, 0] ![4352, 512] inb j a).trans ?_)
  match a with
  | ⟨0, _⟩ => exact Nat.zero_add _
  | ⟨1, _⟩ => exact Nat.zero_add _
  | ⟨_ + 2, h⟩ => exact absurd h (Nat.not_lt.2 (Nat.le_add_left _ _))

/-- At a run's last block the output block is the accumulators' combination. -/
theorem out_last (c : Dev nD) (t : Fin cfg0.N) (h7 : t.val % 8 = 7) (y : S4352x512.Idx) :
    (outsAt0 m c t.val t.isLt).1 y
      = k0_pay7 (F := Ideal) (outsAt0 m c t.val t.isLt).2.1 (outsAt0 m c t.val t.isLt).2.2 y := by
  rw [outsAt0_C m c t (by omega) (by omega) h7]
  generalize outsAt0 m c (t.val - 1) _ = B
  frame_out
  simp only [read_unread_whole]
  rw [load_all, load_all]

/-- The gate accumulator at a run's last block: the whole product. -/
theorem gate_sum (c : Dev nD) (t : Fin cfg0.N) (h7 : t.val % 8 = 7) (e : S4352x512.Idx) (r : Fin 8704) (q : Fin 22016)
    (hr : (r : ℕ) = t.val / 176 * 4352 + (e 0 : ℕ)) (hq : (q : ℕ) = t.val / 8 % 22 * 512 + (e 1 : ℕ)) :
    (outsAt0 m c t.val t.isLt).2.1 e
      = ∑ l : Fin 4096, (show FVec Ideal S8704x4096 .bf16 from m ((c : Thread nD τ).loc main_arg0)) (ix2 r l)
          * (show FVec Ideal S2x4096x22016 .f32 from m ((c : Thread nD τ).loc main_arg1)) (ix3 0 l q) := by
  have := Pipeline.eq_sum_fin_of_reset_step_apply_of_flush (fun n h => (outsAt0 m c n h).2.1) 8 (fun _ => (0 : EReal)) (gateTerm m c)
    (fun t h j => gate_first m c t h j) (fun t h j => gate_next m c t h j) t h7 e
  refine this.trans ?_
  rw [zero_add]
  have ht := lt_N t
  unfold gateTerm
  refine Fin.sum_mul_add_congr fun s k hl => ?_
  blk_point []

/-- The other accumulator, under a column the array has. -/
theorem up_sum (c : Dev nD) (t : Fin cfg0.N) (h7 : t.val % 8 = 7) (e : S4352x512.Idx) (r : Fin 8704) (q : Fin 22016)
    (hr : (r : ℕ) = t.val / 176 * 4352 + (e 0 : ℕ)) (hq : (q : ℕ) = 11008 + (t.val / 8 % 22 * 512 + (e 1 : ℕ))) :
    (outsAt0 m c t.val t.isLt).2.2 e
      = ∑ l : Fin 4096, (show FVec Ideal S8704x4096 .bf16 from m ((c : Thread nD τ).loc main_arg0)) (ix2 r l)
          * (show FVec Ideal S2x4096x22016 .f32 from m ((c : Thread nD τ).loc main_arg1)) (ix3 0 l q) := by
  have := Pipeline.eq_sum_fin_of_reset_step_apply_of_flush (fun n h => (outsAt0 m c n h).2.2) 8 (fun _ => (0 : EReal)) (upTerm m c)
    (fun t h j => up_first m c t h j) (fun t h j => up_next m c t h j) t h7 e
  refine this.trans ?_
  rw [zero_add]
  have ht := lt_N t
  have hqlt := q.isLt
  unfold upTerm
  refine Fin.sum_mul_add_congr fun s k hl => ?_
  blk_point []

/-- The kernel's combination of the two products is the reference's. -/
theorem comb (g g' u u' : EReal) (hg : g = g') (hu : u = u') :
    g * (Ideal.ofBits .f32 0x3F000000#32 * (Ideal.tanh (Ideal.ofBits .f32 0x3F000000#32 * g) + 1)) * u
      = g' * Ideal.div 1 (1 + Ideal.exp (-g')) * u' := by
  rw [hg, hu, Cert.Math.sigmoid]

/-- What the launch computes, of the two argument arrays: the reference's own term. -/
abbrev target (X : FVec Ideal S8704x4096 .bf16) (W : FVec Ideal S2x4096x22016 .f32) : FVec Ideal S8704x11008 .bf16 :=
  truncf .bf16 (mulf (mulf (extractStridedSlice Cert.SwigluReferenceIdeal.S8704x11008 ![0, 0] (Host.dotGeneral Cert.SwigluReferenceIdeal.dot_S8704x4096_S4096x22016_S8704x22016_1_0_0_1_n_n none (extf .f32 X Cert.SwigluReferenceIdeal.Gen.bitsLt_bf16_f32) (shapeCast _ (extractStridedSlice Cert.SwigluReferenceIdeal.S1x4096x22016 ![0, 0, 0] W Cert.SwigluReferenceIdeal.Gen.slices_S2x4096x22016_S1x4096x22016_0_0_0) Cert.SwigluReferenceIdeal.Gen.shapeCasts_S1x4096x22016_S4096x22016)) Cert.SwigluReferenceIdeal.Gen.slices_S8704x22016_S8704x11008_0_0) (Host.divf (broadcastInDim Cert.SwigluReferenceIdeal.S8704x11008 ![] Cert.SwigluReferenceIdeal.Gen.bcast_S_S8704x11008 (constant Cert.SwigluReferenceIdeal.S_ .f32 0x3F800000#32)) (addf (broadcastInDim Cert.SwigluReferenceIdeal.S8704x11008 ![] Cert.SwigluReferenceIdeal.Gen.bcast_S_S8704x11008 (constant Cert.SwigluReferenceIdeal.S_ .f32 0x3F800000#32)) (Host.exp (Host.negf (extractStridedSlice Cert.SwigluReferenceIdeal.S8704x11008 ![0, 0] (Host.dotGeneral Cert.SwigluReferenceIdeal.dot_S8704x4096_S4096x22016_S8704x22016_1_0_0_1_n_n none (extf .f32 X Cert.SwigluReferenceIdeal.Gen.bitsLt_bf16_f32) (shapeCast _ (extractStridedSlice Cert.SwigluReferenceIdeal.S1x4096x22016 ![0, 0, 0] W Cert.SwigluReferenceIdeal.Gen.slices_S2x4096x22016_S1x4096x22016_0_0_0) Cert.SwigluReferenceIdeal.Gen.shapeCasts_S1x4096x22016_S4096x22016)) Cert.SwigluReferenceIdeal.Gen.slices_S8704x22016_S8704x11008_0_0)))))) (extractStridedSlice Cert.SwigluReferenceIdeal.S8704x11008 ![0, 11008] (Host.dotGeneral Cert.SwigluReferenceIdeal.dot_S8704x4096_S4096x22016_S8704x22016_1_0_0_1_n_n none (extf .f32 X Cert.SwigluReferenceIdeal.Gen.bitsLt_bf16_f32) (shapeCast _ (extractStridedSlice Cert.SwigluReferenceIdeal.S1x4096x22016 ![0, 0, 0] W Cert.SwigluReferenceIdeal.Gen.slices_S2x4096x22016_S1x4096x22016_0_0_0) Cert.SwigluReferenceIdeal.Gen.shapeCasts_S1x4096x22016_S4096x22016)) Cert.SwigluReferenceIdeal.Gen.slices_S8704x22016_S8704x11008_0_11008)) Cert.SwigluReferenceIdeal.Gen.bitsLt_bf16_f32

/-- The output array after the launch. -/
theorem final (c : Dev nD) : (dats m 0 c).arrAt 5 (cfgs 0).N
    = target (m ((c : Thread nD τ).loc main_arg0)) (m ((c : Thread nD τ).loc main_arg1)) := by
  refine (dats m 0 c).arrAt_eq_of_covers 5 _ (by decide +kernel) fun t hf y => ?_
  have h7 := (flush0_5 t).mp hf
  blk_simp
  rw [after0_5, out_last m c t h7]
  pointwise [k0_pay7, target]
  refine comb _ _ _ _ ?_ ?_
  · refine gate_sum m c t h7 _ _ _ ?_ ?_ <;> blk_simp [idx t]
  · refine up_sum m c t h7 _ _ _ ?_ ?_ <;> blk_simp [idx t]

end Cert.Proof.Swi

end
-- ==== Proof.SwigluClaims.lean ====
/- The feed-forward's first half: its frame claims and its value claim. -/
module

public import proofs.«01_k».proof.Defs
public import proofs.«01_k».proof.Proof.Swiglu
public import proofs.«01_k».proof.Proof.Gen.Swiglu
public import proofs.«01_k».proof.Proof.Gen.SwigluIdeal
public import proofs.«01_k».proof.Proof.Gen.SwigluReferenceIdeal
public import proofs.«01_k».proof.Proof.Gen.SwigluIdeal.Value
public import proofs.«01_k».proof.Proof.Gen.SwigluReferenceIdeal.Run
public import Idealize.ShloMosaic.Adequacy
public import Idealize.ShloMosaic.Init
public import Idealize.ShloMosaic.Lib.Quiescent

@[expose] public section

noncomputable section

namespace Cert.Proof.Swi

open Idealize.ShloMosaic Idealize.ShloMosaic.TcCoe Idealize.SL.Sem

attribute [local instance] Cert.Swiglu.Gen.facts Cert.SwigluIdeal.Gen.facts Cert.SwigluReferenceIdeal.Gen.facts

/-- What the frame says of the kernel's text read at the bit patterns. -/
def QuietBits : Prop :=
  ∀ (m : (ℓ : Loc Cert.SwigluIdeal.nD Cert.SwigluIdeal.τ Cert.SwigluIdeal.sig) → Buf (Elt Bits) ℓ) (ρ : Dev Cert.SwigluIdeal.nD → PrngReg), True →
    θ_run (Cert.SwigluIdeal.defs (F := Bits)) (onTc (τ := Cert.SwigluIdeal.τ) (Cert.SwigluIdeal.main (F := Bits))) ⟨m, fun _ => 0, ρ⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

/-- The two programs have the same text, so the two statements are the same. -/
theorem quiet_same : QuietBits = Cert.quiescent_Swiglu (hSwiglu := Cert.Swiglu.Gen.facts) := by sl_kernel_rfl

/-- The kernel read at the bit patterns: the same run. -/
theorem frame_kernel : Cert.quiescent_Swiglu (hSwiglu := Cert.Swiglu.Gen.facts) :=
  Eq.mp quiet_same fun m ρ _ => Cert.SwigluIdeal.Gen.frame (F := Bits) m ρ

/-- The kernel read at the extended reals. -/
theorem frame_ideal : Cert.quiescent_SwigluIdeal (hSwigluIdeal := Cert.SwigluIdeal.Gen.facts) := fun m ρ _ =>
  Cert.SwigluIdeal.Gen.frame (F := Ideal) m ρ

/-- The reference: its run, and it has no counters. -/
theorem frame_reference : Cert.quiescent_SwigluReferenceIdeal (hSwigluReferenceIdeal := Cert.SwigluReferenceIdeal.Gen.facts) := fun m ρ _ =>
  (θ_run Cert.SwigluReferenceIdeal.defs _ _).mono
    (fun r h => ⟨fun c => (h c).2, sem_eq_zero_of_no_sems rfl r.2⟩) (Cert.SwigluReferenceIdeal.Value.run (F := Ideal) m ρ)

/-- The kernel's output is the reference's, element by element. -/
theorem algebraic : Cert.algebraic_SwigluIdeal_SwigluReferenceIdeal (hSwigluIdeal := Cert.SwigluIdeal.Gen.facts)
    (hSwigluReferenceIdeal := Cert.SwigluReferenceIdeal.Gen.facts) := fun m ρ m' ρ' _ hm =>
  ⟨fun c => target (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)),
    (θ_run Cert.SwigluIdeal.defs _ _).mono (fun r h c => ⟨(h c).1.trans (final m c), (h c).2⟩) (Cert.SwigluIdeal.Value.run_blocks (F := Ideal) m ρ),
    (θ_run Cert.SwigluReferenceIdeal.defs _ _).mono
      (fun r h c => ⟨by rw [(h c).1, (hm c).1, (hm c).2], (h c).2⟩) (Cert.SwigluReferenceIdeal.Value.run (F := Ideal) m' ρ')⟩

end Cert.Proof.Swi

end
-- ==== Proof.SwigluLast.lean ====
/- The feed-forward's first half in layer 1: what the two accumulators hold after each grid point. -/
module

public import proofs.«01_k».proof.Defs
public import proofs.«01_k».proof.Proof.Gen.SwigluLastIdeal.Frame
public import proofs.«01_k».proof.Proof.Gen.SwigluLastReferenceIdeal
public import proofs.«01_k».proof.Proof.Chunk
public import Idealize.ShloMosaic.Lib.Pipeline.ReadBack
public import Idealize.ShloMosaic.Lib.Pipeline.ValueKit

@[expose] public section

set_option maxRecDepth 16384

noncomputable section

namespace Cert.Proof.SwiL

open Idealize.ShloMosaic Idealize.ShloMosaic.TcCoe Idealize.SL.Sem
open Idealize.ShloMosaic.Pipeline (Dat)
open Cert.SwigluLastIdeal Cert.SwigluLastIdeal.Gen

variable (m : (ℓ : Loc nD τ sig) → Buf (Elt Ideal) ℓ)

/-- Where each window's block sits at grid point `t`. -/
theorem idx : ∀ t : Fin cfg0.N, win0_0.index t = ![t.val / 176, t.val % 8]
    ∧ win0_1.index t = ![1, t.val % 8, t.val / 8 % 22 * 2] ∧ win0_2.index t = ![1, t.val % 8, t.val / 8 % 22 * 2 + 1]
    ∧ win0_3.index t = ![1, t.val % 8, min (43 + t.val / 8 % 22 * 2) 85] ∧ win0_4.index t = ![1, t.val % 8, min (43 + t.val / 8 % 22 * 2 + 1) 85]
    ∧ win0_5.index t = ![t.val / 176, t.val / 8 % 22] :=
  (by decide +kernel : ∀ t : Fin grid0.N, _)

/-- The 352 grid points. -/
theorem lt_N (t : Fin cfg0.N) : t.val < 352 := lt_of_lt_of_eq t.isLt N_0

/-- One point's contribution to the gate accumulator. -/
def gateTerm (c : Dev nD) (t : Fin cfg0.N) (y : S4352x512.Idx) : EReal :=
  let X : FVec Ideal S8704x4096 .bf16 := m ((c : Thread nD τ).loc main_arg0)
  let W : FVec Ideal S2x4096x22016 .f32 := m ((c : Thread nD τ).loc main_arg1)
  ∑ k : Fin 512, X (ix2 ⟨t.val / 176 * 4352 + (y 0 : ℕ), by have := lt_N t; have : (y 0 : ℕ) < 4352 := (y 0).isLt; show _ < 8704; omega⟩ ⟨t.val % 8 * 512 + k, by show _ < 4096; omega⟩)
    * W (ix3 ⟨1, by show _ < 2; omega⟩ ⟨t.val % 8 * 512 + k, by show _ < 4096; omega⟩ ⟨t.val / 8 % 22 * 512 + (y 1 : ℕ), by have : (y 1 : ℕ) < 512 := (y 1).isLt; show _ < 22016; omega⟩)

/-- One point's contribution to the other accumulator; a block that would start past the last column stays on the last block. -/
def upTerm (c : Dev nD) (t : Fin cfg0.N) (y : S4352x512.Idx) : EReal :=
  let X : FVec Ideal S8704x4096 .bf16 := m ((c : Thread nD τ).loc main_arg0)
  let W : FVec Ideal S2x4096x22016 .f32 := m ((c : Thread nD τ).loc main_arg1)
  ∑ k : Fin 512, X (ix2 ⟨t.val / 176 * 4352 + (y 0 : ℕ), by have := lt_N t; have : (y 0 : ℕ) < 4352 := (y 0).isLt; show _ < 8704; omega⟩ ⟨t.val % 8 * 512 + k, by show _ < 4096; omega⟩)
    * W (ix3 ⟨1, by show _ < 2; omega⟩ ⟨t.val % 8 * 512 + k, by show _ < 4096; omega⟩ ⟨min (43 + t.val / 8 % 22 * 2 + (y 1 : ℕ) / 256) 85 * 256 + (y 1 : ℕ) % 256, by show _ < 22016; omega⟩)

/-- At a run's first block of the contracted axis the gate accumulator is stored afresh. -/
theorem gate_first (c : Dev nD) (t : Fin cfg0.N) (h0 : t.val % 8 = 0) (y : S4352x512.Idx) :
    (outsAt0 m c t.val t.isLt).2.1 y = 0 + gateTerm m c t y := by
  rw [outsAt0_A m c t h0 (by omega) (by omega)]
  frame_out
  rw [zero_add]
  canon_tiles x h
  all_goals (open_payloads; pointwise [gateTerm])
  all_goals blk_point [iblk, V, idx t]

/-- The same of the other accumulator. -/
theorem up_first (c : Dev nD) (t : Fin cfg0.N) (h0 : t.val % 8 = 0) (y : S4352x512.Idx) :
    (outsAt0 m c t.val t.isLt).2.2 y = 0 + upTerm m c t y := by
  rw [outsAt0_A m c t h0 (by omega) (by omega)]
  frame_out
  rw [zero_add]
  canon_tiles x h
  all_goals (open_payloads; pointwise [upTerm])
  all_goals blk_point [iblk, V, idx t]

/-- At every later block the gate accumulator takes the point's contribution on top of what it held. -/
theorem gate_next (c : Dev nD) (t : Fin cfg0.N) (h0 : ¬ t.val % 8 = 0) (y : S4352x512.Idx) :
    (outsAt0 m c t.val t.isLt).2.1 y
      = (outsAt0 m c (t.val - 1) (Nat.lt_of_le_of_lt (Nat.sub_le _ _) t.isLt)).2.1 y + gateTerm m c t y := by
  by_cases h7 : t.val % 8 = 7
  · rw [outsAt0_C m c t h0 (by omega) h7]
    generalize outsAt0 m c (t.val - 1) _ = B
    frame_out
    simp only [read_unread_whole]
    canon_tiles x h
    all_goals (open_payloads; pointwise [gateTerm])
    all_goals blk_point [iblk, V, idx t]
  · rw [outsAt0_B m c t h0 (by omega) h7]
    generalize outsAt0 m c (t.val - 1) _ = B
    frame_out
    simp only [read_unread_whole]
    canon_tiles x h
    all_goals (open_payloads; pointwise [gateTerm])
    all_goals blk_point [iblk, V, idx t]

/-- The same of the other accumulator. -/
theorem up_next (c : Dev nD) (t : Fin cfg0.N) (h0 : ¬ t.val % 8 = 0) (y : S4352x512.Idx) :
    (outsAt0 m c t.val t.isLt).2.2 y
      = (outsAt0 m c (t.val - 1) (Nat.lt_of_le_of_lt (Nat.sub_le _ _) t.isLt)).2.2 y + upTerm m c t y := by
  by_cases h7 : t.val % 8 = 7
  · rw [outsAt0_C m c t h0 (by omega) h7]
    generalize outsAt0 m c (t.val - 1) _ = B
    frame_out
    simp only [read_unread_whole]
    canon_tiles x h
    all_goals (open_payloads; pointwise [upTerm])
    all_goals blk_point [iblk, V, idx t]
  · rw [outsAt0_B m c t h0 (by omega) h7]
    generalize outsAt0 m c (t.val - 1) _ = B
    frame_out
    simp only [read_unread_whole]
    canon_tiles x h
    all_goals (open_payloads; pointwise [upTerm])
    all_goals blk_point [iblk, V, idx t]

/-- A load of a whole accumulator reads what the stores left there. -/
theorem load_all {κ : Kind} {sp : Space} (v : View sig κ sp S4352x512 .f32) (L : List (View.Piece (Elt Ideal) S4352x512 .f32)) (inb) :
    v.readCov L (Rect.unit (s := S4352x512) ![0, 0] ![4352, 512] inb).toLoadRect = View.canon L := by
  rw [View.readCov_eq_canon']
  funext j
  congr 1
  refine funext fun a => Fin.ext ((Rect.idx_unit_val (s := S4352x512) ![0, 0] ![4352, 512] inb j a).trans ?_)
  match a with
  | ⟨0, _⟩ => exact Nat.zero_add _
  | ⟨1, _⟩ => exact Nat.zero_add _
  | ⟨_ + 2, h⟩ => exact absurd h (Nat.not_lt.2 (Nat.le_add_left _ _))

/-- At a run's last block the output block is the accumulators' combination. -/
theorem out_last (c : Dev nD) (t : Fin cfg0.N) (h7 : t.val % 8 = 7) (y : S4352x512.Idx) :
    (outsAt0 m c t.val t.isLt).1 y
      = k0_pay7 (F := Ideal) (outsAt0 m c t.val t.isLt).2.1 (outsAt0 m c t.val t.isLt).2.2 y := by
  rw [outsAt0_C m c t (by omega) (by omega) h7]
  generalize outsAt0 m c (t.val - 1) _ = B
  frame_out
  simp only [read_unread_whole]
  rw [load_all, load_all]

/-- The gate accumulator at a run's last block: the whole product. -/
theorem gate_sum (c : Dev nD) (t : Fin cfg0.N) (h7 : t.val % 8 = 7) (e : S4352x512.Idx) (r : Fin 8704) (q : Fin 22016)
    (hr : (r : ℕ) = t.val / 176 * 4352 + (e 0 : ℕ)) (hq : (q : ℕ) = t.val / 8 % 22 * 512 + (e 1 : ℕ)) :
    (outsAt0 m c t.val t.isLt).2.1 e
      = ∑ l : Fin 4096, (show FVec Ideal S8704x4096 .bf16 from m ((c : Thread nD τ).loc main_arg0)) (ix2 r l)
          * (show FVec Ideal S2x4096x22016 .f32 from m ((c : Thread nD τ).loc main_arg1)) (ix3 1 l q) := by
  have := Pipeline.eq_sum_fin_of_reset_step_apply_of_flush (fun n h => (outsAt0 m c n h).2.1) 8 (fun _ => (0 : EReal)) (gateTerm m c)
    (fun t h j => gate_first m c t h j) (fun t h j => gate_next m c t h j) t h7 e
  refine this.trans ?_
  rw [zero_add]
  have ht := lt_N t
  unfold gateTerm
  refine Fin.sum_mul_add_congr fun s k hl => ?_
  blk_point []

/-- The other accumulator, under a column the array has. -/
theorem up_sum (c : Dev nD) (t : Fin cfg0.N) (h7 : t.val % 8 = 7) (e : S4352x512.Idx) (r : Fin 8704) (q : Fin 22016)
    (hr : (r : ℕ) = t.val / 176 * 4352 + (e 0 : ℕ)) (hq : (q : ℕ) = 11008 + (t.val / 8 % 22 * 512 + (e 1 : ℕ))) :
    (outsAt0 m c t.val t.isLt).2.2 e
      = ∑ l : Fin 4096, (show FVec Ideal S8704x4096 .bf16 from m ((c : Thread nD τ).loc main_arg0)) (ix2 r l)
          * (show FVec Ideal S2x4096x22016 .f32 from m ((c : Thread nD τ).loc main_arg1)) (ix3 1 l q) := by
  have := Pipeline.eq_sum_fin_of_reset_step_apply_of_flush (fun n h => (outsAt0 m c n h).2.2) 8 (fun _ => (0 : EReal)) (upTerm m c)
    (fun t h j => up_first m c t h j) (fun t h j => up_next m c t h j) t h7 e
  refine this.trans ?_
  rw [zero_add]
  have ht := lt_N t
  have hqlt := q.isLt
  unfold upTerm
  refine Fin.sum_mul_add_congr fun s k hl => ?_
  blk_point []

/-- The kernel's combination of the two products is the reference's. -/
theorem comb (g g' u u' : EReal) (hg : g = g') (hu : u = u') :
    g * (Ideal.ofBits .f32 0x3F000000#32 * (Ideal.tanh (Ideal.ofBits .f32 0x3F000000#32 * g) + 1)) * u
      = g' * Ideal.div 1 (1 + Ideal.exp (-g')) * u' := by
  rw [hg, hu, Cert.Math.sigmoid]

/-- What the launch computes, of the two argument arrays: the reference's own term. -/
abbrev target (X : FVec Ideal S8704x4096 .bf16) (W : FVec Ideal S2x4096x22016 .f32) : FVec Ideal S8704x11008 .bf16 :=
  truncf .bf16 (mulf (mulf (extractStridedSlice Cert.SwigluLastReferenceIdeal.S8704x11008 ![0, 0] (Host.dotGeneral Cert.SwigluLastReferenceIdeal.dot_S8704x4096_S4096x22016_S8704x22016_1_0_0_1_n_n none (extf .f32 X Cert.SwigluLastReferenceIdeal.Gen.bitsLt_bf16_f32) (shapeCast _ (extractStridedSlice Cert.SwigluLastReferenceIdeal.S1x4096x22016 ![1, 0, 0] W Cert.SwigluLastReferenceIdeal.Gen.slices_S2x4096x22016_S1x4096x22016_1_0_0) Cert.SwigluLastReferenceIdeal.Gen.shapeCasts_S1x4096x22016_S4096x22016)) Cert.SwigluLastReferenceIdeal.Gen.slices_S8704x22016_S8704x11008_0_0) (Host.divf (broadcastInDim Cert.SwigluLastReferenceIdeal.S8704x11008 ![] Cert.SwigluLastReferenceIdeal.Gen.bcast_S_S8704x11008 (constant Cert.SwigluLastReferenceIdeal.S_ .f32 0x3F800000#32)) (addf (broadcastInDim Cert.SwigluLastReferenceIdeal.S8704x11008 ![] Cert.SwigluLastReferenceIdeal.Gen.bcast_S_S8704x11008 (constant Cert.SwigluLastReferenceIdeal.S_ .f32 0x3F800000#32)) (Host.exp (Host.negf (extractStridedSlice Cert.SwigluLastReferenceIdeal.S8704x11008 ![0, 0] (Host.dotGeneral Cert.SwigluLastReferenceIdeal.dot_S8704x4096_S4096x22016_S8704x22016_1_0_0_1_n_n none (extf .f32 X Cert.SwigluLastReferenceIdeal.Gen.bitsLt_bf16_f32) (shapeCast _ (extractStridedSlice Cert.SwigluLastReferenceIdeal.S1x4096x22016 ![1, 0, 0] W Cert.SwigluLastReferenceIdeal.Gen.slices_S2x4096x22016_S1x4096x22016_1_0_0) Cert.SwigluLastReferenceIdeal.Gen.shapeCasts_S1x4096x22016_S4096x22016)) Cert.SwigluLastReferenceIdeal.Gen.slices_S8704x22016_S8704x11008_0_0)))))) (extractStridedSlice Cert.SwigluLastReferenceIdeal.S8704x11008 ![0, 11008] (Host.dotGeneral Cert.SwigluLastReferenceIdeal.dot_S8704x4096_S4096x22016_S8704x22016_1_0_0_1_n_n none (extf .f32 X Cert.SwigluLastReferenceIdeal.Gen.bitsLt_bf16_f32) (shapeCast _ (extractStridedSlice Cert.SwigluLastReferenceIdeal.S1x4096x22016 ![1, 0, 0] W Cert.SwigluLastReferenceIdeal.Gen.slices_S2x4096x22016_S1x4096x22016_1_0_0) Cert.SwigluLastReferenceIdeal.Gen.shapeCasts_S1x4096x22016_S4096x22016)) Cert.SwigluLastReferenceIdeal.Gen.slices_S8704x22016_S8704x11008_0_11008)) Cert.SwigluLastReferenceIdeal.Gen.bitsLt_bf16_f32

/-- The output array after the launch. -/
theorem final (c : Dev nD) : (dats m 0 c).arrAt 5 (cfgs 0).N
    = target (m ((c : Thread nD τ).loc main_arg0)) (m ((c : Thread nD τ).loc main_arg1)) := by
  refine (dats m 0 c).arrAt_eq_of_covers 5 _ (by decide +kernel) fun t hf y => ?_
  have h7 := (flush0_5 t).mp hf
  blk_simp
  rw [after0_5, out_last m c t h7]
  pointwise [k0_pay7, target]
  refine comb _ _ _ _ ?_ ?_
  · refine gate_sum m c t h7 _ _ _ ?_ ?_ <;> blk_simp [idx t]
  · refine up_sum m c t h7 _ _ _ ?_ ?_ <;> blk_simp [idx t]

end Cert.Proof.SwiL

end
-- ==== Proof.SwigluLastClaims.lean ====
/- The feed-forward's first half in layer 1: its frame claims and its value claim. -/
module

public import proofs.«01_k».proof.Defs
public import proofs.«01_k».proof.Proof.SwigluLast
public import proofs.«01_k».proof.Proof.Gen.SwigluLast
public import proofs.«01_k».proof.Proof.Gen.SwigluLastIdeal
public import proofs.«01_k».proof.Proof.Gen.SwigluLastReferenceIdeal
public import proofs.«01_k».proof.Proof.Gen.SwigluLastIdeal.Value
public import proofs.«01_k».proof.Proof.Gen.SwigluLastReferenceIdeal.Run
public import Idealize.ShloMosaic.Adequacy
public import Idealize.ShloMosaic.Init
public import Idealize.ShloMosaic.Lib.Quiescent

@[expose] public section

noncomputable section

namespace Cert.Proof.SwiL

open Idealize.ShloMosaic Idealize.ShloMosaic.TcCoe Idealize.SL.Sem

attribute [local instance] Cert.SwigluLast.Gen.facts Cert.SwigluLastIdeal.Gen.facts Cert.SwigluLastReferenceIdeal.Gen.facts

/-- What the frame says of the kernel's text read at the bit patterns. -/
def QuietBits : Prop :=
  ∀ (m : (ℓ : Loc Cert.SwigluLastIdeal.nD Cert.SwigluLastIdeal.τ Cert.SwigluLastIdeal.sig) → Buf (Elt Bits) ℓ) (ρ : Dev Cert.SwigluLastIdeal.nD → PrngReg), True →
    θ_run (Cert.SwigluLastIdeal.defs (F := Bits)) (onTc (τ := Cert.SwigluLastIdeal.τ) (Cert.SwigluLastIdeal.main (F := Bits))) ⟨m, fun _ => 0, ρ⟩ (fun r => (∀ c : Dev Cert.SwigluLastIdeal.nD,
      r.2.mem ((c.tc : Thread Cert.SwigluLastIdeal.nD Cert.SwigluLastIdeal.τ).loc Cert.SwigluLastIdeal.main_arg0) = m ((c.tc : Thread Cert.SwigluLastIdeal.nD Cert.SwigluLastIdeal.τ).loc Cert.SwigluLastIdeal.main_arg0)
      ∧ r.2.mem ((c.tc : Thread Cert.SwigluLastIdeal.nD Cert.SwigluLastIdeal.τ).loc Cert.SwigluLastIdeal.main_arg1) = m ((c.tc : Thread Cert.SwigluLastIdeal.nD Cert.SwigluLastIdeal.τ).loc Cert.SwigluLastIdeal.main_arg1))
      ∧ r.2.sem = fun _ => 0)

/-- The two programs have the same text, so the two statements are the same. -/
theorem quiet_same : QuietBits = Cert.quiescent_SwigluLast (hSwigluLast := Cert.SwigluLast.Gen.facts) := by sl_kernel_rfl

/-- The kernel read at the bit patterns: the same run. -/
theorem frame_kernel : Cert.quiescent_SwigluLast (hSwigluLast := Cert.SwigluLast.Gen.facts) :=
  Eq.mp quiet_same fun m ρ _ => Cert.SwigluLastIdeal.Gen.frame (F := Bits) m ρ

/-- The kernel read at the extended reals. -/
theorem frame_ideal : Cert.quiescent_SwigluLastIdeal (hSwigluLastIdeal := Cert.SwigluLastIdeal.Gen.facts) := fun m ρ _ =>
  Cert.SwigluLastIdeal.Gen.frame (F := Ideal) m ρ

/-- The reference: its run, and it has no counters. -/
theorem frame_reference : Cert.quiescent_SwigluLastReferenceIdeal (hSwigluLastReferenceIdeal := Cert.SwigluLastReferenceIdeal.Gen.facts) := fun m ρ _ =>
  (θ_run Cert.SwigluLastReferenceIdeal.defs _ _).mono
    (fun r h => ⟨fun c => (h c).2, sem_eq_zero_of_no_sems rfl r.2⟩) (Cert.SwigluLastReferenceIdeal.Value.run (F := Ideal) m ρ)

/-- The kernel's output is the reference's, element by element. -/
theorem algebraic : Cert.algebraic_SwigluLastIdeal_SwigluLastReferenceIdeal (hSwigluLastIdeal := Cert.SwigluLastIdeal.Gen.facts)
    (hSwigluLastReferenceIdeal := Cert.SwigluLastReferenceIdeal.Gen.facts) := fun m ρ m' ρ' _ hm =>
  ⟨fun c => target (m ((c.tc : Thread Cert.SwigluLastIdeal.nD Cert.SwigluLastIdeal.τ).loc Cert.SwigluLastIdeal.main_arg0)) (m ((c.tc : Thread Cert.SwigluLastIdeal.nD Cert.SwigluLastIdeal.τ).loc Cert.SwigluLastIdeal.main_arg1)),
    (θ_run Cert.SwigluLastIdeal.defs _ _).mono (fun r h c => ⟨(h c).1.trans (final m c), (h c).2⟩) (Cert.SwigluLastIdeal.Value.run_blocks (F := Ideal) m ρ),
    (θ_run Cert.SwigluLastReferenceIdeal.defs _ _).mono
      (fun r h c => ⟨by rw [(h c).1, (hm c).1, (hm c).2], (h c).2⟩) (Cert.SwigluLastReferenceIdeal.Value.run (F := Ideal) m' ρ')⟩

end Cert.Proof.SwiL

end
-- ==== Proof.Ffn.lean ====
/- The feed-forward's second half in layer 0: what the accumulator and the output block hold after each grid point. -/
module

public import proofs.«01_k».proof.Defs
public import proofs.«01_k».proof.Proof.Gen.FfnIdeal.Frame
public import proofs.«01_k».proof.Proof.Gen.FfnReferenceIdeal
public import Idealize.ShloMosaic.Lib.Pipeline.ReadBack
public import Idealize.ShloMosaic.Lib.Pipeline.ValueKit

@[expose] public section

set_option maxRecDepth 16384

noncomputable section

namespace Cert.Proof.Ffn

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- Where each window's block sits at grid point `t`. -/
theorem idx : ∀ t : Fin cfg0.N, win0_0.index t = ![t.val / 7 % 4, t.val % 7]
    ∧ win0_1.index t = ![0, t.val % 7, t.val / 28] ∧ win0_2.index t = ![t.val / 7 % 4, 42]
    ∧ win0_3.index t = ![0, 42, t.val / 28] ∧ win0_4.index t = ![t.val / 7 % 4, t.val / 28]
    ∧ win0_5.index t = ![16, t.val / 28] ∧ win0_6.index t = ![64, 16 + t.val / 28]
    ∧ win0_7.index t = ![0, 16 + t.val / 28] ∧ win0_8.index t = ![t.val / 7 % 4, t.val / 28] :=
  (by decide +kernel : ∀ t : Fin grid0.N, _)

/-- The 224 grid points. -/
theorem lt_N (t : Fin cfg0.N) : t.val < 224 := lt_of_lt_of_eq t.isLt N_0

/-- The first operand's block, read at an index. -/
theorem X_at (c : Dev nD) (t : Fin cfg0.N) (a : Fin 2176) (b : Fin 1536) :
    (show Vec Ideal S2176x1536 .bf16 from X0_0 m c t) (ix2 a b)
      = (show FVec Ideal S8704x11008 .bf16 from m ((c : Thread nD τ).loc main_arg0)) (ix2 ⟨t.val / 7 % 4 * 2176 + (a : ℕ), by have := a.isLt; omega⟩ ⟨t.val % 7 * 1536 + b, by omega⟩) := by
  show X0_0 m c t (ix2 a b) = _
  unfold X0_0 Pipeline.Window.fill
  rw [dif_pos (moved0_0 t _)]
  blk_point [iblk, V, idx t]

/-- The weights' block, read at an index. -/
theorem W_at (c : Dev nD) (t : Fin cfg0.N) (a : Fin 1536) (b : Fin 512) :
    (show Vec Ideal S1x1536x512 .f32 from X0_1 m c t) (ix3 0 a b)
      = (show FVec Ideal S2x11008x4096 .f32 from m ((c : Thread nD τ).loc main_arg1)) (ix3 ⟨0, by omega⟩ ⟨t.val % 7 * 1536 + a, by omega⟩ ⟨t.val / 28 * 512 + (b : ℕ), by have := lt_N t; omega⟩) := by
  show X0_1 m c t (ix3 0 a b) = _
  unfold X0_1 Pipeline.Window.fill
  rw [dif_pos (moved0_1 t _)]
  blk_point [iblk, V, idx t]

/-- The sample rows' gates, read at an index. -/
theorem G_at (c : Dev nD) (t : Fin cfg0.N) (a : Fin 512) (b : Fin 512) :
    (show Vec Ideal S512x512 .f32 from X0_7 m c t) (ix2 a b)
      = (show FVec Ideal S528x12288 .f32 from m ((c : Thread nD τ).loc main_arg3)) (ix2 ⟨(a : ℕ), by omega⟩ ⟨(16 + t.val / 28) * 512 + (b : ℕ), by have := lt_N t; omega⟩) := by
  show X0_7 m c t (ix2 a b) = _
  unfold X0_7 Pipeline.Window.fill
  rw [dif_pos (moved0_7 t _)]
  blk_point [iblk, V, idx t]

/-- One point's product of its blocks of the contracted axis. -/
def term (c : Dev nD) (t : Fin cfg0.N) (y : S2176x512.Idx) : EReal :=
  let X : FVec Ideal S8704x11008 .bf16 := m ((c : Thread nD τ).loc main_arg0)
  let W : FVec Ideal S2x11008x4096 .f32 := m ((c : Thread nD τ).loc main_arg1)
  ∑ k : Fin 1536, X (ix2 ⟨t.val / 7 % 4 * 2176 + (y 0 : ℕ), by have : (y 0 : ℕ) < 2176 := (y 0).isLt; show _ < 8704; omega⟩ ⟨t.val % 7 * 1536 + k, by show _ < 11008; omega⟩)
    * W (ix3 ⟨0, by show _ < 2; omega⟩ ⟨t.val % 7 * 1536 + k, by show _ < 11008; omega⟩ ⟨t.val / 28 * 512 + (y 1 : ℕ), by have := lt_N t; have : (y 1 : ℕ) < 512 := (y 1).isLt; show _ < 4096; omega⟩)

/-- The product over the last 256 columns, which are left over from the equal blocks. -/
def rest (c : Dev nD) (t : Fin cfg0.N) (y : S2176x512.Idx) : EReal :=
  let X : FVec Ideal S8704x11008 .bf16 := m ((c : Thread nD τ).loc main_arg0)
  let W : FVec Ideal S2x11008x4096 .f32 := m ((c : Thread nD τ).loc main_arg1)
  ∑ k : Fin 256, X (ix2 ⟨t.val / 7 % 4 * 2176 + (y 0 : ℕ), by have : (y 0 : ℕ) < 2176 := (y 0).isLt; show _ < 8704; omega⟩ ⟨10752 + k, by show _ < 11008; omega⟩)
    * W (ix3 ⟨0, by show _ < 2; omega⟩ ⟨10752 + k, by show _ < 11008; omega⟩ ⟨t.val / 28 * 512 + (y 1 : ℕ), by have := lt_N t; have : (y 1 : ℕ) < 512 := (y 1).isLt; show _ < 4096; omega⟩)

/-- What one point adds to the accumulator: the left-over columns go with the first block. -/
def add (c : Dev nD) (t : Fin cfg0.N) (y : S2176x512.Idx) : EReal :=
  term m c t y + if t.val % 7 = 0 then rest m c t y else 0

/-- At a run's first block the accumulator is stored afresh. -/
theorem acc_first (c : Dev nD) (t : Fin cfg0.N) (h0 : t.val % 7 = 0) (y : S2176x512.Idx) :
    (outsAt0 m c t.val t.isLt).2 y = 0 + add m c t y := by
  rw [outsAt0_A m c t h0 (by omega) (by omega), zero_add, add, if_pos h0]
  frame_out
  open_payloads; pointwise [term, rest]
  refine congrArg₂ HAdd.hAdd (Finset.sum_congr rfl fun x _ => congrArg₂ HMul.hMul (X_at m c t (y 0) x) (W_at m c t x (y 1)))
    (Finset.sum_congr rfl fun x _ => ?_)
  blk_point [iblk, V, idx t]

/-- The later blocks' store, at an index. -/
theorem step (c : Dev nD) (t : Fin cfg0.N) (B : Vec Ideal S2176x512 .f32) (y : S2176x512.Idx) :
    k0_pay2 (X0_0 m c t) (X0_1 m c t) B y = B y + term m c t y := by
  pointwise [term, k0_pay2]
  exact congrArg₂ HAdd.hAdd rfl (Finset.sum_congr rfl fun x _ => congrArg₂ HMul.hMul (X_at m c t (y 0) x) (W_at m c t x (y 1)))

/-- At every later block it takes the point's product on top of what it held. -/
theorem acc_next (c : Dev nD) (t : Fin cfg0.N) (h0 : ¬ t.val % 7 = 0) (y : S2176x512.Idx) :
    (outsAt0 m c t.val t.isLt).2 y
      = (outsAt0 m c (t.val - 1) (Nat.lt_of_le_of_lt (Nat.sub_le _ _) t.isLt)).2 y + add m c t y := by
  rw [add, if_neg h0, add_zero]
  by_cases h6 : t.val % 7 = 6
  · have hi : t.val / 7 % 4 = 0 ∨ t.val / 7 % 4 = 1 ∨ t.val / 7 % 4 = 2 ∨ t.val / 7 % 4 = 3 := by omega
    rcases hi with hi | hi | hi | hi
    · rw [outsAt0_C m c t h0 (by omega) h6 hi (by omega) (by omega) (by omega)]
      generalize outsAt0 m c (t.val - 1) _ = B
      frame_out
      simp only [read_unread_whole]
      exact step m c t _ y
    · rw [outsAt0_D m c t h0 (by omega) h6 (by omega) hi (by omega) (by omega)]
      generalize outsAt0 m c (t.val - 1) _ = B
      frame_out
      simp only [read_unread_whole]
      exact step m c t _ y
    · rw [outsAt0_E m c t h0 (by omega) h6 (by omega) (by omega) hi (by omega)]
      generalize outsAt0 m c (t.val - 1) _ = B
      frame_out
      simp only [read_unread_whole]
      exact step m c t _ y
    · rw [outsAt0_F m c t h0 (by omega) h6 (by omega) (by omega) (by omega) hi]
      generalize outsAt0 m c (t.val - 1) _ = B
      frame_out
      simp only [read_unread_whole]
      exact step m c t _ y
  · rw [outsAt0_B m c t h0 (by omega) h6]
    generalize outsAt0 m c (t.val - 1) _ = B
    frame_out
    simp only [read_unread_whole]
    exact step m c t _ y

/-- A sum over the contracted axis is its equal blocks' sum and the left-over columns'. -/
theorem split_sum (f : Fin 11008 → EReal) :
    ∑ l : Fin 11008, f l = (∑ l : Fin 10752, f ⟨l, by omega⟩) + ∑ k : Fin 256, f ⟨10752 + k, by omega⟩ :=
  Fin.sum_univ_add (a := 10752) (b := 256) f

/-- The accumulator at a run's last block: the whole product. -/
theorem acc_sum (c : Dev nD) (t : Fin cfg0.N) (h6 : t.val % 7 = 6) (e : S2176x512.Idx) (r : Fin 8704) (q : Fin 4096)
    (hr : (r : ℕ) = t.val / 7 % 4 * 2176 + (e 0 : ℕ)) (hq : (q : ℕ) = t.val / 28 * 512 + (e 1 : ℕ)) :
    (outsAt0 m c t.val t.isLt).2 e
      = ∑ l : Fin 11008, (show FVec Ideal S8704x11008 .bf16 from m ((c : Thread nD τ).loc main_arg0)) (ix2 r l)
          * (show FVec Ideal S2x11008x4096 .f32 from m ((c : Thread nD τ).loc main_arg1)) (ix3 0 l q) := by
  have := Pipeline.eq_sum_fin_of_reset_step_apply_of_flush (fun n h => (outsAt0 m c n h).2) 7 (fun _ => (0 : EReal)) (add m c)
    (fun t h j => acc_first m c t h j) (fun t h j => acc_next m c t h j) t h6 e
  refine this.trans ?_
  rw [zero_add, split_sum]
  have ht := lt_N t
  unfold add
  rw [Finset.sum_add_distrib]
  congr 1
  · unfold term
    refine Fin.sum_mul_add_congr fun s k hl => ?_
    blk_point []
  · rw [Finset.sum_eq_single 0 (fun b _ hb => if_neg (by
      have : b.val ≠ 0 := fun h => hb (Fin.ext h)
      have := b.isLt
      show ¬ (7 * (t.val / 7) + b.val) % 7 = 0
      omega)) (fun h => absurd (Finset.mem_univ _) h), if_pos (by show (7 * (t.val / 7) + 0) % 7 = 0; omega)]
    unfold rest
    refine Finset.sum_congr rfl fun k _ => ?_
    blk_point []

end Cert.Proof.Ffn

end
-- ==== Proof.FfnOut.lean ====
/- The feed-forward's second half in layer 0: the output array. -/
module

public import proofs.«01_k».proof.Defs
public import proofs.«01_k».proof.Proof.Gen.FfnIdeal.Frame
public import proofs.«01_k».proof.Proof.Gen.FfnReferenceIdeal
public import proofs.«01_k».proof.Proof.Ffn
public import Idealize.ShloMosaic.Lib.Pipeline.ReadBack
public import Idealize.ShloMosaic.Lib.Pipeline.ValueKit

@[expose] public section

set_option maxRecDepth 16384

noncomputable section

namespace Cert.Proof.Ffn

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- One piece over the whole block is its contents. -/
theorem whole_piece (inb) (w : S2176x512.Idx → Elt Ideal .f32) :
    View.canon [(⟨Rect.unit (s := S2176x512) ![0, 0] ![2176, 512] inb, w⟩ : View.Piece (Elt Ideal) S2176x512 .f32)] = w :=
  View.canon_cons_unit_lit (S := S2176x512) inb w [] (fun a => by match a with | ⟨0, _⟩ => rfl | ⟨1, _⟩ => rfl | ⟨_ + 2, h⟩ => exact absurd h (Nat.not_lt.2 (Nat.le_add_left _ _)))

/-- At a run's last block the output block is the residual plus the gated product: one row of gates per prompt sequence, one per sample row. -/
theorem out_last (c : Dev nD) (t : Fin cfg0.N) (h6 : t.val % 7 = 6) (y : S2176x512.Idx) (r : Fin 8704) (q : Fin 4096)
    (hr : (r : ℕ) = t.val / 7 % 4 * 2176 + (y 0 : ℕ)) (hq : (q : ℕ) = t.val / 28 * 512 + (y 1 : ℕ)) (g : Fin 528) (q' : Fin 12288)
    (hg : (r : ℕ) < 8192 → (g : ℕ) = 512 + (r : ℕ) / 2048) (hg' : 8192 ≤ (r : ℕ) → (g : ℕ) = (r : ℕ) - 8192) (hq' : (q' : ℕ) = 8192 + (q : ℕ)) :
    (outsAt0 m c t.val t.isLt).1 y
      = (show FVec Ideal S8704x4096 .f32 from m ((c : Thread nD τ).loc main_arg2)) (ix2 r q)
        + (show FVec Ideal S528x12288 .f32 from m ((c : Thread nD τ).loc main_arg3)) (ix2 g q')
          * (outsAt0 m c t.val t.isLt).2 y := by
  have h0 : ¬ t.val % 7 = 0 := by omega
  have ht := lt_N t
  have hy0 : (y 0 : ℕ) < 2176 := (y 0).isLt
  have hy1 : (y 1 : ℕ) < 512 := (y 1).isLt
  have hi : t.val / 7 % 4 = 0 ∨ t.val / 7 % 4 = 1 ∨ t.val / 7 % 4 = 2 ∨ t.val / 7 % 4 = 3 := by omega
  rcases hi with hi | hi | hi | hi
  · rw [outsAt0_C m c t h0 (by omega) h6 hi (by omega) (by omega) (by omega)]
    generalize outsAt0 m c (t.val - 1) _ = B
    frame_out
    simp only [read_unread_whole, View.readCov_eq_canon', whole_piece]
    generalize k0_pay2 (F := Ideal) _ _ _ = A
    canon_tiles x h using View.cover_of_tiledBy _ ![128, 512] (by sl_kernel_rfl) y
    all_goals (open_payloads; pointwise [])
    all_goals refine congrArg₂ HAdd.hAdd ?_ (congrArg₂ HMul.hMul ?_ ?_)
    all_goals try (unfold Pipeline.Window.fill; rw [dif_pos (moved0_7 t _)])
    all_goals blk_point [iblk, V, idx t]
  · rw [outsAt0_D m c t h0 (by omega) h6 (by omega) hi (by omega) (by omega)]
    generalize outsAt0 m c (t.val - 1) _ = B
    frame_out
    simp only [read_unread_whole, View.readCov_eq_canon', whole_piece]
    generalize k0_pay2 (F := Ideal) _ _ _ = A
    canon_tiles x h using View.cover_of_tiledBy _ ![128, 512] (by sl_kernel_rfl) y
    all_goals (open_payloads; pointwise [])
    all_goals refine congrArg₂ HAdd.hAdd ?_ (congrArg₂ HMul.hMul ?_ ?_)
    all_goals try (unfold Pipeline.Window.fill; rw [dif_pos (moved0_7 t _)])
    all_goals blk_point [iblk, V, idx t]
  · rw [outsAt0_E m c t h0 (by omega) h6 (by omega) (by omega) hi (by omega)]
    generalize outsAt0 m c (t.val - 1) _ = B
    frame_out
    simp only [read_unread_whole, View.readCov_eq_canon', whole_piece]
    generalize k0_pay2 (F := Ideal) _ _ _ = A
    canon_tiles x h using View.cover_of_tiledBy _ ![128, 512] (by sl_kernel_rfl) y
    all_goals (open_payloads; pointwise [])
    all_goals refine congrArg₂ HAdd.hAdd ?_ (congrArg₂ HMul.hMul ?_ ?_)
    all_goals try (unfold Pipeline.Window.fill; rw [dif_pos (moved0_7 t _)])
    all_goals blk_point [iblk, V, idx t]
  · rw [outsAt0_F m c t h0 (by omega) h6 (by omega) (by omega) (by omega) hi]
    generalize outsAt0 m c (t.val - 1) _ = B
    frame_out
    simp only [read_unread_whole, View.readCov_eq_canon', whole_piece]
    generalize k0_pay2 (F := Ideal) _ _ _ = A
    canon_tiles x h using View.cover_of_tiledBy _ ![128, 512] (by sl_kernel_rfl) y
    all_goals (open_payloads; pointwise [])
    all_goals refine congrArg₂ HAdd.hAdd ?_ (congrArg₂ HMul.hMul ?_ ?_)
    all_goals try (unfold Pipeline.Window.fill; rw [dif_pos (moved0_7 t _)])
    all_goals blk_point [iblk, V, idx t]

end Cert.Proof.Ffn

end
-- ==== Proof.FfnFinal.lean ====
/- The feed-forward's second half in layer 0: the output array. -/
module

public import proofs.«01_k».proof.Defs
public import proofs.«01_k».proof.Proof.Gen.FfnIdeal.Frame
public import proofs.«01_k».proof.Proof.Gen.FfnReferenceIdeal
public import proofs.«01_k».proof.Proof.FfnOut
public import Idealize.ShloMosaic.Lib.Pipeline.ReadBack
public import Idealize.ShloMosaic.Lib.Pipeline.ValueKit

@[expose] public section

set_option maxRecDepth 16384

noncomputable section

namespace Cert.Proof.Ffn

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- The prompt's rows of the result, of the residual, the gates and the projection. -/
abbrev prompt (R : FVec Ideal S8704x4096 .f32) (G : FVec Ideal S528x12288 .f32) (D : FVec Ideal Cert.FfnReferenceIdeal.S8704x4096 .f32) : FVec Ideal Cert.FfnReferenceIdeal.S8192x4096 .f32 :=
  (shapeCast _ (addf (shapeCast _ (extractStridedSlice Cert.FfnReferenceIdeal.S8192x4096 ![0, 0] R Cert.FfnReferenceIdeal.Gen.slices_S8704x4096_S8192x4096_0_0) Cert.FfnReferenceIdeal.Gen.shapeCasts_S8192x4096_S4x2048x4096) (mulf (broadcastInDim Cert.FfnReferenceIdeal.S4x2048x4096 ![0, 1, 2] Cert.FfnReferenceIdeal.Gen.bcast_S4x1x4096_S4x2048x4096_0_1_2 (broadcastInDim Cert.FfnReferenceIdeal.S4x1x4096 ![0, 2] Cert.FfnReferenceIdeal.Gen.bcast_S4x4096_S4x1x4096_0_2 (extractStridedSlice Cert.FfnReferenceIdeal.S4x4096 ![512, 8192] G Cert.FfnReferenceIdeal.Gen.slices_S528x12288_S4x4096_512_8192))) (shapeCast _ (extractStridedSlice Cert.FfnReferenceIdeal.S8192x4096 ![0, 0] D Cert.FfnReferenceIdeal.Gen.slices_S8704x4096_S8192x4096_0_0) Cert.FfnReferenceIdeal.Gen.shapeCasts_S8192x4096_S4x2048x4096))) Cert.FfnReferenceIdeal.Gen.shapeCasts_S4x2048x4096_S8192x4096)

/-- The sample's rows of the result. -/
abbrev sample (R : FVec Ideal S8704x4096 .f32) (G : FVec Ideal S528x12288 .f32) (D : FVec Ideal Cert.FfnReferenceIdeal.S8704x4096 .f32) : FVec Ideal Cert.FfnReferenceIdeal.S512x4096 .f32 :=
  (addf (extractStridedSlice Cert.FfnReferenceIdeal.S512x4096 ![8192, 0] R Cert.FfnReferenceIdeal.Gen.slices_S8704x4096_S512x4096_8192_0) (mulf (extractStridedSlice Cert.FfnReferenceIdeal.S512x4096 ![0, 8192] G Cert.FfnReferenceIdeal.Gen.slices_S528x12288_S512x4096_0_8192) (extractStridedSlice Cert.FfnReferenceIdeal.S512x4096 ![8192, 0] D Cert.FfnReferenceIdeal.Gen.slices_S8704x4096_S512x4096_8192_0)))

/-- The projection itself. -/
abbrev proj (X : FVec Ideal S8704x11008 .bf16) (W : FVec Ideal S2x11008x4096 .f32) : FVec Ideal Cert.FfnReferenceIdeal.S8704x4096 .f32 :=
  (Host.dotGeneral Cert.FfnReferenceIdeal.dot_S8704x11008_S11008x4096_S8704x4096_1_0_0_1_n_n none (extf .f32 X Cert.FfnReferenceIdeal.Gen.bitsLt_bf16_f32) (shapeCast _ (extractStridedSlice Cert.FfnReferenceIdeal.S1x11008x4096 ![0, 0, 0] W Cert.FfnReferenceIdeal.Gen.slices_S2x11008x4096_S1x11008x4096_0_0_0) Cert.FfnReferenceIdeal.Gen.shapeCasts_S1x11008x4096_S11008x4096))

/-- What the launch computes, of the four argument arrays: the reference's own term. -/
abbrev target (X : FVec Ideal S8704x11008 .bf16) (W : FVec Ideal S2x11008x4096 .f32) (R : FVec Ideal S8704x4096 .f32) (G : FVec Ideal S528x12288 .f32) : FVec Ideal S8704x4096 .f32 :=
  concatenate Cert.FfnReferenceIdeal.S8704x4096 0 [⟨Cert.FfnReferenceIdeal.S8192x4096, (prompt R G (proj X W))⟩, ⟨Cert.FfnReferenceIdeal.S512x4096, (sample R G (proj X W))⟩] Cert.FfnReferenceIdeal.Gen.concatenates_S8192x4096_S512x4096_S8704x4096_d0

variable (R : FVec Ideal S8704x4096 .f32) (G : FVec Ideal S528x12288 .f32) (D : FVec Ideal Cert.FfnReferenceIdeal.S8704x4096 .f32)

/-- A prompt row read at one column. -/
theorem prompt_at (a : Fin 8192) (q : Fin 4096) (r : Fin 8704) (g : Fin 528) (q' : Fin 12288)
    (hr : (r : ℕ) = a) (hg : (g : ℕ) = 512 + (a : ℕ) / 2048) (hq' : (q' : ℕ) = 8192 + (q : ℕ)) :
    prompt R G D (ix2 a q) = (R (ix2 r q) + G (ix2 g q') * D (ix2 r q) : EReal) := by
  have ha := a.isLt
  have hq := q.isLt
  have hr' : (a : ℕ) < 8704 := by omega
  have hg' : 512 + (a : ℕ) / 2048 < 528 := by omega
  have hq'' : 8192 + (q : ℕ) < 12288 := by omega
  obtain rfl : r = ⟨a, hr'⟩ := Fin.ext hr
  obtain rfl : g = ⟨512 + a / 2048, hg'⟩ := Fin.ext hg
  obtain rfl : q' = ⟨8192 + q, hq''⟩ := Fin.ext hq'
  pointwise [prompt]

/-- A sample row read at one column. -/
theorem sample_at (a : Fin 512) (q : Fin 4096) (r : Fin 8704) (g : Fin 528) (q' : Fin 12288)
    (hr : (r : ℕ) = 8192 + a) (hg : (g : ℕ) = a) (hq' : (q' : ℕ) = 8192 + (q : ℕ)) :
    sample R G D (ix2 a q) = (R (ix2 r q) + G (ix2 g q') * D (ix2 r q) : EReal) := by
  have ha := a.isLt
  have hq := q.isLt
  have hr' : 8192 + (a : ℕ) < 8704 := by omega
  have hg' : (a : ℕ) < 528 := by omega
  have hq'' : 8192 + (q : ℕ) < 12288 := by omega
  obtain rfl : r = ⟨8192 + a, hr'⟩ := Fin.ext hr
  obtain rfl : g = ⟨a, hg'⟩ := Fin.ext hg
  obtain rfl : q' = ⟨8192 + q, hq''⟩ := Fin.ext hq'
  pointwise [sample]

/-- The projection read at one entry. -/
theorem proj_at (X : FVec Ideal S8704x11008 .bf16) (W : FVec Ideal S2x11008x4096 .f32) (r : Fin 8704) (q : Fin 4096) :
    proj X W (ix2 r q) = ∑ l : Fin 11008, (X (ix2 r l) * W (ix3 0 l q) : EReal) := by
  pointwise [proj]

/-- Two arrays of rows set one below the other, read at one entry. -/
theorem join_at (P : FVec Ideal Cert.FfnReferenceIdeal.S8192x4096 .f32) (Q : FVec Ideal Cert.FfnReferenceIdeal.S512x4096 .f32) (r : Fin 8704) (q : Fin 4096) :
    concatenate Cert.FfnReferenceIdeal.S8704x4096 0 [⟨Cert.FfnReferenceIdeal.S8192x4096, P⟩, ⟨Cert.FfnReferenceIdeal.S512x4096, Q⟩] Cert.FfnReferenceIdeal.Gen.concatenates_S8192x4096_S512x4096_S8704x4096_d0 (ix2 r q)
      = if h : (r : ℕ) < 8192 then P (ix2 ⟨r, h⟩ q) else Q (ix2 ⟨r - 8192, by have := r.isLt; omega⟩ q) := by
  pointwise []

/-- The reference's term read at one entry. -/
theorem target_at (X : FVec Ideal S8704x11008 .bf16) (W : FVec Ideal S2x11008x4096 .f32) (R : FVec Ideal S8704x4096 .f32) (G : FVec Ideal S528x12288 .f32)
    (r : Fin 8704) (q : Fin 4096) (g : Fin 528) (q' : Fin 12288)
    (hg : (r : ℕ) < 8192 → (g : ℕ) = 512 + (r : ℕ) / 2048) (hg' : 8192 ≤ (r : ℕ) → (g : ℕ) = (r : ℕ) - 8192) (hq' : (q' : ℕ) = 8192 + (q : ℕ)) :
    target X W R G (ix2 r q) = (R (ix2 r q) + G (ix2 g q') * ∑ l : Fin 11008, (X (ix2 r l) * W (ix3 0 l q) : EReal) : EReal) := by
  rw [← proj_at X W r q]
  refine (join_at (prompt R G (proj X W)) (sample R G (proj X W)) r q).trans ?_
  by_cases h : (r : ℕ) < 8192
  · rw [dif_pos h]
    exact prompt_at R G (proj X W) ⟨r, h⟩ q r g q' rfl (hg h) hq'
  · rw [dif_neg h]
    exact sample_at R G (proj X W) ⟨r - 8192, _⟩ q r g q' (by show (r : ℕ) = 8192 + (r - 8192); omega) (hg' (by omega)) hq'

/-- The output array after the launch. -/
theorem final (c : Dev nD) : (dats m 0 c).arrAt 8 (cfgs 0).N
    = target (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have h6 := (flush0_8 t).mp hf
  have ht := lt_N t
  have y0 : (y 0 : ℕ) < 2176 := (y 0).isLt
  have y1 : (y 1 : ℕ) < 512 := (y 1).isLt
  obtain ⟨r, hr⟩ : ∃ r : Fin 8704, (r : ℕ) = t.val / 7 % 4 * 2176 + (y 0 : ℕ) := ⟨⟨t.val / 7 % 4 * 2176 + (y 0 : ℕ), by omega⟩, rfl⟩
  obtain ⟨q, hq⟩ : ∃ q : Fin 4096, (q : ℕ) = t.val / 28 * 512 + (y 1 : ℕ) := ⟨⟨t.val / 28 * 512 + (y 1 : ℕ), by omega⟩, rfl⟩
  obtain ⟨q', hq'⟩ : ∃ q' : Fin 12288, (q' : ℕ) = 8192 + (q : ℕ) := ⟨⟨8192 + (q : ℕ), by omega⟩, rfl⟩
  obtain ⟨g, hg, hg'⟩ : ∃ g : Fin 528, ((r : ℕ) < 8192 → (g : ℕ) = 512 + (r : ℕ) / 2048) ∧ (8192 ≤ (r : ℕ) → (g : ℕ) = (r : ℕ) - 8192) := by
    by_cases h : (r : ℕ) < 8192
    · exact ⟨⟨512 + (r : ℕ) / 2048, by omega⟩, fun _ => rfl, fun h' => absurd h (by omega)⟩
    · exact ⟨⟨(r : ℕ) - 8192, by omega⟩, fun h' => absurd h' h, fun _ => rfl⟩
  have e : (win0_8.blk t).view.emb y = (show S8704x4096.Idx from ix2 r q) := by
    blk_point [idx t]
  rw [after0_8]
  refine Eq.trans ?_ (congrArg (target (m ((c : Thread nD τ).loc main_arg0)) (m ((c : Thread nD τ).loc main_arg1)) (m ((c : Thread nD τ).loc main_arg2)) (m ((c : Thread nD τ).loc main_arg3))) e.symm)
  refine Eq.trans ?_ (target_at _ _ _ _ r q g q' hg hg' hq').symm
  rw [out_last m c t h6 y r q hr hq g q' hg hg' hq', acc_sum m c t h6 y r q hr hq]
  rfl

end Cert.Proof.Ffn

end
-- ==== Proof.FfnClaims.lean ====
/- The feed-forward's second half in layer 0: its frame claims and its value claim. -/
module

public import proofs.«01_k».proof.Defs
public import proofs.«01_k».proof.Proof.FfnFinal
public import proofs.«01_k».proof.Proof.Gen.Ffn
public import proofs.«01_k».proof.Proof.Gen.FfnIdeal
public import proofs.«01_k».proof.Proof.Gen.FfnReferenceIdeal
public import proofs.«01_k».proof.Proof.Gen.FfnIdeal.Value
public import proofs.«01_k».proof.Proof.Gen.FfnReferenceIdeal.Run
public import Idealize.ShloMosaic.Adequacy
public import Idealize.ShloMosaic.Init
public import Idealize.ShloMosaic.Lib.Quiescent

@[expose] public section

noncomputable section

namespace Cert.Proof.Ffn

open Idealize.ShloMosaic Idealize.ShloMosaic.TcCoe Idealize.SL.Sem

attribute [local instance] Cert.Ffn.Gen.facts Cert.FfnIdeal.Gen.facts Cert.FfnReferenceIdeal.Gen.facts

/-- What the frame says of the kernel's text read at the bit patterns. -/
def QuietBits : Prop :=
  ∀ (m : (ℓ : Loc Cert.FfnIdeal.nD Cert.FfnIdeal.τ Cert.FfnIdeal.sig) → Buf (Elt Bits) ℓ) (ρ : Dev Cert.FfnIdeal.nD → PrngReg), True →
    θ_run (Cert.FfnIdeal.defs (F := Bits)) (onTc (τ := Cert.FfnIdeal.τ) (Cert.FfnIdeal.main (F := Bits))) ⟨m, fun _ => 0, ρ⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

/-- The two programs have the same text, so the two statements are the same. -/
theorem quiet_same : QuietBits = Cert.quiescent_Ffn (hFfn := Cert.Ffn.Gen.facts) := by sl_kernel_rfl

/-- The kernel read at the bit patterns: the same run. -/
theorem frame_kernel : Cert.quiescent_Ffn (hFfn := Cert.Ffn.Gen.facts) :=
  Eq.mp quiet_same fun m ρ _ => Cert.FfnIdeal.Gen.frame (F := Bits) m ρ

/-- The kernel read at the extended reals. -/
theorem frame_ideal : Cert.quiescent_FfnIdeal (hFfnIdeal := Cert.FfnIdeal.Gen.facts) := fun m ρ _ =>
  Cert.FfnIdeal.Gen.frame (F := Ideal) m ρ

/-- The reference: its run, and it has no counters. -/
theorem frame_reference : Cert.quiescent_FfnReferenceIdeal (hFfnReferenceIdeal := Cert.FfnReferenceIdeal.Gen.facts) := fun m ρ _ =>
  (θ_run Cert.FfnReferenceIdeal.defs _ _).mono
    (fun r h => ⟨fun c => (h c).2, sem_eq_zero_of_no_sems rfl r.2⟩) (Cert.FfnReferenceIdeal.Value.run (F := Ideal) m ρ)

/-- The kernel's output is the reference's, element by element. -/
theorem algebraic : Cert.algebraic_FfnIdeal_FfnReferenceIdeal (hFfnIdeal := Cert.FfnIdeal.Gen.facts)
    (hFfnReferenceIdeal := Cert.FfnReferenceIdeal.Gen.facts) := fun m ρ m' ρ' _ hm =>
  ⟨fun c => target (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)),
    (θ_run Cert.FfnIdeal.defs _ _).mono (fun r h c => ⟨(h c).1.trans (final m c), (h c).2⟩) (Cert.FfnIdeal.Value.run_blocks (F := Ideal) m ρ),
    (θ_run Cert.FfnReferenceIdeal.defs _ _).mono
      (fun r h c => ⟨by rw [(h c).1, (hm c).1, (hm c).2.1, (hm c).2.2.1, (hm c).2.2.2], (h c).2⟩) (Cert.FfnReferenceIdeal.Value.run (F := Ideal) m' ρ')⟩

end Cert.Proof.Ffn

end
-- ==== Proof.KvRun.lean ====
/- The body that prepares the cache rows, as a run of its memory operations. -/
module

public import proofs.«01_k».proof.Proof.Gen.KvIdeal.Frame
public import proofs.«01_k».proof.Proof.Gen.KvIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.KvIdeal.Cache

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KvIdeal Cert.KvIdeal.Gen

variable {F : FTy → Type} [FloatOps F]

local notation "𝕄" => MT nD τ sig Unit (Elt F) ℕ (UR sig nD τ) ℕ

set_option maxHeartbeats 1180000 in
/-- The body over whole staging buffers: the pieces it writes into each output, with the proof that it does. -/
noncomputable def runRows (c : Dev nD) (i : grid0.Coords) (arg1 : Memref sig .tc .vmem S512x512 .f32) (harg1 : arg1.IsWhole) (arg2 : Memref sig .tc .vmem S512x128 .f32) (harg2 : arg2.IsWhole) (arg3 : Memref sig .tc .vmem S1x1x512 .f32) (harg3 : arg3.IsWhole) (arg4 : Memref sig .tc .vmem S1x1x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x512 .f32) (harg7 : arg7.IsWhole) (arg8 : Memref sig .tc .vmem S512x64 .f32) (harg8 : arg8.IsWhole) (arg9 : Memref sig .tc .vmem S512x576 .bf16) (harg9 : arg9.IsWhole)
    (x0 : Vec F S512x512 .f32) (x1 : Vec F S512x128 .f32) (x2 : Vec F S1x1x512 .f32) (x3 : Vec F S1x1x64 .f32) (x4 : Vec F S512x64 .f32) (x5 : Vec F S512x64 .f32) :
    Σ' (L6 : List (View.Piece (Elt F) S512x512 .f32)), Σ' (L7 : List (View.Piece (Elt F) S512x64 .f32)), { L8 : List (View.Piece (Elt F) S512x576 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_mla_kv i arg1 harg1 arg2 harg2 arg3 harg3 arg4 harg4 arg5 harg5 arg6 harg6 arg7 harg7 arg8 harg8 arg9 harg9) K } := by
  refine ⟨?_, ?_, ?_, fun E K => ?run⟩
  case run =>
    simp only [cc0_mla_kv_eq_skeleton]; unfold cc0_mla_kv_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KvIdeal.Cache

end
-- ==== Proof.KvFrame.lean ====
/- Every run of the cache kernel ends, with its outputs at the rows each point prepares. -/
module

public import proofs.«01_k».proof.Proof.KvRun
public import proofs.«01_k».proof.Proof.Gen.KvIdeal.Points
public import Idealize.ShloMosaic.Lib.Pipeline.ValueKit
public import Idealize.ShloMosaic.Lib.Quiescent
public import Idealize.ShloMosaic.Lib.Pipeline.FrameBody
public import Idealize.ShloMosaic.Lib.Tactic
public import Idealize.ShloMosaic.Lib.WordCmp

@[expose] public section

set_option maxRecDepth 16384

noncomputable section

namespace Cert.KvIdeal.Cache

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KvIdeal Cert.KvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The first 64 columns of the rotary key's block, and what the body makes of them. -/
abbrev keyCols (x : Vec F S512x128 .f32) : Vec F S512x64 .f32 := View.ld (e' := .f32) (S := S512x128) x (Rect.unit (s := S512x128) ![0, 0] S512x64.size inb_S512x128_S512x64_0_0)
def latent (x0 : Vec F S512x512 .f32) (x2 : Vec F S1x1x512 .f32) : Vec F S512x512 .f32 := k0_pay4 x0 x2
def rotKey (k : Vec F S512x64 .f32) (x3 : Vec F S1x1x64 .f32) (x4 x5 : Vec F S512x64 .f32) : Vec F S512x64 .f32 := k0_pay1 (k0_pay6 k x3 x4) (k0_pay7 k x3 x5)
/-- The two stores that fill the joined rows, the last first. -/
def joinedL (x0 : Vec F S512x512 .f32) (x2 : Vec F S1x1x512 .f32) (k : Vec F S512x64 .f32) (x3 : Vec F S1x1x64 .f32) (x4 x5 : Vec F S512x64 .f32) : List (View.Piece (Elt F) S512x576 .bf16) :=
  [⟨Rect.unit (s := S512x576) ![0, 512] S512x64.size inb_S512x576_S512x64_0_512, k0_pay3 (k0_pay6 k x3 x4) (k0_pay7 k x3 x5)⟩,
   ⟨Rect.unit (s := S512x576) ![0, 0] S512x512.size inb_S512x576_S512x512_0_0, k0_pay2 (k0_pay4 x0 x2)⟩]

theorem joinedL_cover (x0 : Vec F S512x512 .f32) (x2 : Vec F S1x1x512 .f32) (k : Vec F S512x64 .f32) (x3 : Vec F S1x1x64 .f32) (x4 x5 : Vec F S512x64 .f32) :
    ∀ y, ∃ p ∈ joinedL x0 x2 k x3 x4 x5, y ∈ p.1.set := by
  intro y
  have h0 : (y 0).val < 512 := (y 0).isLt
  have h1 : (y 1).val < 576 := (y 1).isLt
  by_cases h : (y 1).val < 512
  · refine ⟨_, List.mem_cons_of_mem _ List.mem_cons_self, (Rect.mem_set_unit (inb := inb_S512x576_S512x512_0_0)).mpr fun a => ?_⟩
    match a with
    | ⟨0, _⟩ => exact ⟨Nat.zero_le _, lt_of_lt_of_eq h0 (Nat.zero_add _).symm⟩
    | ⟨1, _⟩ => exact ⟨Nat.zero_le _, lt_of_lt_of_eq h (Nat.zero_add _).symm⟩
  · refine ⟨_, List.mem_cons_self, (Rect.mem_set_unit (inb := inb_S512x576_S512x64_0_512)).mpr fun a => ?_⟩
    match a with
    | ⟨0, _⟩ => exact ⟨Nat.zero_le _, lt_of_lt_of_eq h0 (Nat.zero_add _).symm⟩
    | ⟨1, _⟩ => exact ⟨Nat.le_of_not_lt h, h1⟩

section
variable (c : Dev nD) (i : grid0.Coords) (arg1 : Memref sig .tc .vmem S512x512 .f32) (harg1 : arg1.IsWhole) (arg2 : Memref sig .tc .vmem S512x128 .f32) (harg2 : arg2.IsWhole) (arg3 : Memref sig .tc .vmem S1x1x512 .f32) (harg3 : arg3.IsWhole) (arg4 : Memref sig .tc .vmem S1x1x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x512 .f32) (harg7 : arg7.IsWhole) (arg8 : Memref sig .tc .vmem S512x64 .f32) (harg8 : arg8.IsWhole) (arg9 : Memref sig .tc .vmem S512x576 .bf16) (harg9 : arg9.IsWhole)
    (x0 : Vec F S512x512 .f32) (x1 : Vec F S512x128 .f32) (x2 : Vec F S1x1x512 .f32) (x3 : Vec F S1x1x64 .f32) (x4 : Vec F S512x64 .f32) (x5 : Vec F S512x64 .f32)
theorem run_latent : (runRows c i arg1 harg1 arg2 harg2 arg3 harg3 arg4 harg4 arg5 harg5 arg6 harg6 arg7 harg7 arg8 harg8 arg9 harg9 x0 x1 x2 x3 x4 x5).1 = [⟨Rect.unit (s := S512x512) ![0, 0] S512x512.size inb_S512x512_S512x512_0_0, latent x0 x2⟩] := by
  have h : (runRows c i arg1 harg1 arg2 harg2 arg3 harg3 arg4 harg4 arg5 harg5 arg6 harg6 arg7 harg7 arg8 harg8 arg9 harg9 x0 x1 x2 x3 x4 x5).1 = [⟨Rect.unit (s := S512x512) ![0, 0] S512x512.size inb_S512x512_S512x512_0_0, k0_pay4 (View.ld (e' := .f32) (arg1.view.read (Elt F) (harg1.unread x0)) (Rect.unit (s := S512x512) ![0, 0] S512x512.size inb_S512x512_S512x512_0_0)) (View.ld (e' := .f32) (arg3.view.read (Elt F) (harg3.unread x2)) (Rect.unit (s := S1x1x512) ![0, 0, 0] S1x1x512.size inb_S1x1x512_S1x1x512_0_0_0))⟩] := by sl_kernel_rfl
  rw [h, harg1.read_unread, harg3.read_unread, View.ld_unit_lit inb_S512x512_S512x512_0_0 x0 (by decide), View.ld_unit_lit inb_S1x1x512_S1x1x512_0_0_0 x2 (by decide)]; rfl
theorem run_rotKey : (runRows c i arg1 harg1 arg2 harg2 arg3 harg3 arg4 harg4 arg5 harg5 arg6 harg6 arg7 harg7 arg8 harg8 arg9 harg9 x0 x1 x2 x3 x4 x5).2.1 = [⟨Rect.unit (s := S512x64) ![0, 0] S512x64.size inb_S512x64_S512x64_0_0, rotKey (keyCols x1) x3 x4 x5⟩] := by
  have h : (runRows c i arg1 harg1 arg2 harg2 arg3 harg3 arg4 harg4 arg5 harg5 arg6 harg6 arg7 harg7 arg8 harg8 arg9 harg9 x0 x1 x2 x3 x4 x5).2.1 = [⟨Rect.unit (s := S512x64) ![0, 0] S512x64.size inb_S512x64_S512x64_0_0, k0_pay1 (k0_pay6 (keyCols (arg2.view.read (Elt F) (harg2.unread x1))) (View.ld (e' := .f32) (arg4.view.read (Elt F) (harg4.unread x3)) (Rect.unit (s := S1x1x64) ![0, 0, 0] S1x1x64.size inb_S1x1x64_S1x1x64_0_0_0)) (View.ld (e' := .f32) (arg5.view.read (Elt F) (harg5.unread x4)) (Rect.unit (s := S512x64) ![0, 0] S512x64.size inb_S512x64_S512x64_0_0))) (k0_pay7 (keyCols (arg2.view.read (Elt F) (harg2.unread x1))) (View.ld (e' := .f32) (arg4.view.read (Elt F) (harg4.unread x3)) (Rect.unit (s := S1x1x64) ![0, 0, 0] S1x1x64.size inb_S1x1x64_S1x1x64_0_0_0)) (View.ld (e' := .f32) (arg6.view.read (Elt F) (harg6.unread x5)) (Rect.unit (s := S512x64) ![0, 0] S512x64.size inb_S512x64_S512x64_0_0)))⟩] := by sl_kernel_rfl
  rw [h, harg2.read_unread, harg4.read_unread, harg5.read_unread, harg6.read_unread, View.ld_unit_lit inb_S1x1x64_S1x1x64_0_0_0 x3 (by decide), View.ld_unit_lit inb_S512x64_S512x64_0_0 x4 (by decide), View.ld_unit_lit inb_S512x64_S512x64_0_0 x5 (by decide)]; rfl
theorem run_joined : (runRows c i arg1 harg1 arg2 harg2 arg3 harg3 arg4 harg4 arg5 harg5 arg6 harg6 arg7 harg7 arg8 harg8 arg9 harg9 x0 x1 x2 x3 x4 x5).2.2.1 = joinedL x0 x2 (keyCols x1) x3 x4 x5 := by
  have h : (runRows c i arg1 harg1 arg2 harg2 arg3 harg3 arg4 harg4 arg5 harg5 arg6 harg6 arg7 harg7 arg8 harg8 arg9 harg9 x0 x1 x2 x3 x4 x5).2.2.1 = [⟨Rect.unit (s := S512x576) ![0, 512] S512x64.size inb_S512x576_S512x64_0_512, k0_pay3 (k0_pay6 (keyCols (arg2.view.read (Elt F) (harg2.unread x1))) (View.ld (e' := .f32) (arg4.view.read (Elt F) (harg4.unread x3)) (Rect.unit (s := S1x1x64) ![0, 0, 0] S1x1x64.size inb_S1x1x64_S1x1x64_0_0_0)) (View.ld (e' := .f32) (arg5.view.read (Elt F) (harg5.unread x4)) (Rect.unit (s := S512x64) ![0, 0] S512x64.size inb_S512x64_S512x64_0_0))) (k0_pay7 (keyCols (arg2.view.read (Elt F) (harg2.unread x1))) (View.ld (e' := .f32) (arg4.view.read (Elt F) (harg4.unread x3)) (Rect.unit (s := S1x1x64) ![0, 0, 0] S1x1x64.size inb_S1x1x64_S1x1x64_0_0_0)) (View.ld (e' := .f32) (arg6.view.read (Elt F) (harg6.unread x5)) (Rect.unit (s := S512x64) ![0, 0] S512x64.size inb_S512x64_S512x64_0_0)))⟩,
      ⟨Rect.unit (s := S512x576) ![0, 0] S512x512.size inb_S512x576_S512x512_0_0, k0_pay2 (k0_pay4 (View.ld (e' := .f32) (arg1.view.read (Elt F) (harg1.unread x0)) (Rect.unit (s := S512x512) ![0, 0] S512x512.size inb_S512x512_S512x512_0_0)) (View.ld (e' := .f32) (arg3.view.read (Elt F) (harg3.unread x2)) (Rect.unit (s := S1x1x512) ![0, 0, 0] S1x1x512.size inb_S1x1x512_S1x1x512_0_0_0)))⟩] := by sl_kernel_rfl
  rw [h, harg1.read_unread, harg2.read_unread, harg3.read_unread, harg4.read_unread, harg5.read_unread, harg6.read_unread, View.ld_unit_lit inb_S512x512_S512x512_0_0 x0 (by decide), View.ld_unit_lit inb_S1x1x512_S1x1x512_0_0_0 x2 (by decide), View.ld_unit_lit inb_S1x1x64_S1x1x64_0_0_0 x3 (by decide), View.ld_unit_lit inb_S512x64_S512x64_0_0 x4 (by decide), View.ld_unit_lit inb_S512x64_S512x64_0_0 x5 (by decide)]; rfl
end

/-! ## What the buffers hold -/

/-- The rotary key's block at point `t` over arbitrary contents of the part no transfer moves (the block overhangs the array). -/
def dflt1 : (cfg0.win 1).block.Idx → Elt F (cfg0.win 1).elt := fun _ => Classical.choice inferInstance
def X1 (c : Dev nD) (t : Fin cfg0.N) : Vec F S512x128 .f32 := (cfg0.win 1).fill (cfg0.grid.coords t) dflt1 (iblk m c 1 t)

theorem xsize1 : ∀ t : Fin cfg0.N, (cfg0.win 1).xsize (cfg0.grid.coords t) 0 = 512 ∧ (cfg0.win 1).xsize (cfg0.grid.coords t) 1 = 64 := by decide +kernel

/-- The first 64 columns of the buffer are moved at every point. -/
theorem moved1 (t : Fin cfg0.N) (x : (Rect.unit (s := S512x128) ![0, 0] S512x64.size inb_S512x128_S512x64_0_0).shape.Idx) :
    (cfg0.win 1).moved (cfg0.grid.coords t) ((Rect.unit (s := S512x128) ![0, 0] S512x64.size inb_S512x128_S512x64_0_0).idx x) = true := by
  refine ((cfg0.win 1).moved_iff _ _).mpr fun a => ?_
  match a with
  | ⟨0, _⟩ =>
    refine lt_of_lt_of_eq ?_ (xsize1 t).1.symm
    rw [Rect.idx_unit_val]; have := (x 0).isLt; simpa using this
  | ⟨1, _⟩ =>
    refine lt_of_lt_of_eq ?_ (xsize1 t).2.symm
    rw [Rect.idx_unit_val]; have := (x 1).isLt; simpa using this

/-- They are the array's, whatever the rest holds. -/
theorem cols1 (c : Dev nD) (t : Fin cfg0.N) (d d' : Vec F S512x128 .f32) :
    keyCols ((cfg0.win 1).fill (cfg0.grid.coords t) d (iblk m c 1 t)) = keyCols ((cfg0.win 1).fill (cfg0.grid.coords t) d' (iblk m c 1 t)) := by
  funext x
  have hm := moved1 t x
  unfold keyCols View.ld Pipeline.Window.fill
  rw [dif_pos hm, dif_pos hm]

/-! ## The pipeline's proof data -/

/-- The arrays as the region finds them; after the body each input's buffer at its block, the outputs' at the rows prepared from the
    blocks; nothing owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X1 m c t
    | ⟨2, _⟩ => iblk m c 2 t
    | ⟨3, _⟩ => iblk m c 3 t
    | ⟨4, _⟩ => iblk m c 4 t
    | ⟨5, _⟩ => iblk m c 5 t
    | ⟨6, _⟩ => latent (X0_0 m c t) (iblk m c 2 t)
    | ⟨7, _⟩ => rotKey (keyCols (X1 m c t)) (iblk m c 3 t) (iblk m c 4 t) (iblk m c 5 t)
    | ⟨8, _⟩ => View.canon (joinedL (X0_0 m c t) (iblk m c 2 t) (keyCols (X1 m c t)) (iblk m c 3 t) (iblk m c 4 t) (iblk m c 5 t))
    | ⟨_ + 9, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = X1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = latent (X0_0 m c t) (iblk m c 2 t) := by dsimp only [dats]
theorem after_7 (c : Dev nD) (t : Fin cfg0.N) : (dats m 0 c).after 7 t = rotKey (keyCols (X1 m c t)) (iblk m c 3 t) (iblk m c 4 t) (iblk m c 5 t) := by dsimp only [dats]
theorem after_8 (c : Dev nD) (t : Fin cfg0.N) : (dats m 0 c).after 8 t = View.canon (joinedL (X0_0 m c t) (iblk m c 2 t) (keyCols (X1 m c t)) (iblk m c 3 t) (iblk m c 4 t) (iblk m c 5 t)) := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = (cfg0.win 1).fill (cfg0.grid.coords t) d (iblk m c 1 t) := by
  unfold Dat.before; rw [if_pos (fetch0_1 t)]; rfl
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation, at a generic point -/

abbrev ms0 (t : Fin cfg0.N) : Memref sig .tc .vmem S512x512 .f32 := win0_0.stage (cfg0.slots t 0)
abbrev ms1 (t : Fin cfg0.N) : Memref sig .tc .vmem S512x128 .f32 := win0_1.stage (cfg0.slots t 1)
abbrev ms2 (t : Fin cfg0.N) : Memref sig .tc .vmem S1x1x512 .f32 := win0_2.stage (cfg0.slots t 2)
abbrev ms3 (t : Fin cfg0.N) : Memref sig .tc .vmem S1x1x64 .f32 := win0_3.stage (cfg0.slots t 3)
abbrev ms4 (t : Fin cfg0.N) : Memref sig .tc .vmem S512x64 .f32 := win0_4.stage (cfg0.slots t 4)
abbrev ms5 (t : Fin cfg0.N) : Memref sig .tc .vmem S512x64 .f32 := win0_5.stage (cfg0.slots t 5)
abbrev ms6 (t : Fin cfg0.N) : Memref sig .tc .vmem S512x512 .f32 := win0_6.stage (cfg0.slots t 6)
abbrev ms7 (t : Fin cfg0.N) : Memref sig .tc .vmem S512x64 .f32 := win0_7.stage (cfg0.slots t 7)
abbrev ms8 (t : Fin cfg0.N) : Memref sig .tc .vmem S512x576 .bf16 := win0_8.stage (cfg0.slots t 8)

/-- What the body is called with at point `t`, and what it returns: the buffers of the clipped windows on the part their transfers move. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
def bodyPost (c : Dev nD) (t : Fin cfg0.N) : sProp 𝕄 :=
  iprop((dats m 0 c).Φ t.succ ∗ (dats m 0 c).owesAt () t.succ
    ∗ (∃ d, owns (c : Thread nD τ) (ms0 t) fullShare ((cfg0.win 0).fill (cfg0.grid.coords t) d ((cfg0.win 0).cut (cfg0.grid.coords t) ((dats m 0 c).after 0 t))))
    ∗ (∃ d, owns (c : Thread nD τ) (ms1 t) fullShare ((cfg0.win 1).fill (cfg0.grid.coords t) d ((cfg0.win 1).cut (cfg0.grid.coords t) ((dats m 0 c).after 1 t))))
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

/-- A store of the whole shape leaves its value. -/
theorem whole_store {S : Shape} {e : EltTy} {off : Fin S.rank → ℕ} (inb : ∀ a, off a + S.size a ≤ S.size a) (h : ∀ a, off a = 0) (w : S.Idx → Elt F e)
    (v : View sig .tc .vmem S e) (f) :
    v.read (Elt F) (v.writes (Elt F) f [⟨Rect.unit off S.size inb, w⟩]) = w := by
  rw [View.read_writes_eq_canon v f _ fun y => ⟨⟨Rect.unit off S.size inb, w⟩, List.mem_cons_self,
    (Rect.mem_set_unit (inb := inb)).mpr fun a => ⟨by rw [h a]; exact Nat.zero_le _, by rw [h a, Nat.zero_add]; exact (y a).isLt⟩⟩]
  exact View.canon_cons_unit_lit inb w [] h

theorem put0 (c : Dev nD) (t : Fin cfg0.N) (d) : (cfg0.win 0).fill (cfg0.grid.coords t) d ((cfg0.win 0).cut (cfg0.grid.coords t) (X0_0 m c t)) = X0_0 m c t := by
  unfold X0_0; rw [Pipeline.Window.cut_fill]; exact fill0_0 t _ _ _

set_option maxHeartbeats 1600000 in
/-- The body at any point: its run, over the blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hK : keyCols ((cfg0.win 1).fill (cfg0.grid.coords t) d1 (iblk m c 1 t)) = keyCols (X1 m c t) := cols1 m c t d1 dflt1
  iapply ((runRows c (grid0.coords t) _ _ _ _ _ _ _ _ _ _ _ _ _ _ _ _ _ _ (X0_0 m c t) ((cfg0.win 1).fill (cfg0.grid.coords t) d1 (iblk m c 1 t)) (iblk m c 2 t) (iblk m c 3 t) (iblk m c 4 t) (iblk m c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, ⟨%e6, H6⟩, ⟨%e7, H7⟩, ⟨%e8, H8⟩⟩
  isplitl [HΦ]; · iexact HΦ
  isplitl [Ho]; · iexact Ho
  isplitl [H0]; · iexists X0_0 m c t; rw [put0]; iexact H0
  isplitl [H1]; · iexists d1; rw [show (cfg0.win 1).cut (cfg0.grid.coords t) (X1 m c t) = iblk m c 1 t from Pipeline.Window.cut_fill _ _ _ _]; iexact H1
  isplitl [H2]; · iexact H2
  isplitl [H3]; · iexact H3
  isplitl [H4]; · iexact H4
  isplitl [H5]; · iexact H5
  isplitl [H6]
  · unfold owns; iexists _; isplitr
    swap; · iexact H6
    ipureintro; rw [run_latent c (grid0.coords t) _ _ _ _ _ _ _ _ _ _ _ _ _ _ _ _ _ _ (X0_0 m c t) ((cfg0.win 1).fill (cfg0.grid.coords t) d1 (iblk m c 1 t)) (iblk m c 2 t) (iblk m c 3 t) (iblk m c 4 t) (iblk m c 5 t)]; exact whole_store _ (by decide) _ _ _
  isplitl [H7]
  · unfold owns; iexists _; isplitr
    swap; · iexact H7
    ipureintro; rw [run_rotKey c (grid0.coords t) _ _ _ _ _ _ _ _ _ _ _ _ _ _ _ _ _ _ (X0_0 m c t) ((cfg0.win 1).fill (cfg0.grid.coords t) d1 (iblk m c 1 t)) (iblk m c 2 t) (iblk m c 3 t) (iblk m c 4 t) (iblk m c 5 t), hK]; exact whole_store _ (by decide) _ _ _
  · unfold owns; iexists _; isplitr
    swap; · iexact H8
    ipureintro; rw [run_joined c (grid0.coords t) _ _ _ _ _ _ _ _ _ _ _ _ _ _ _ _ _ _ (X0_0 m c t) ((cfg0.win 1).fill (cfg0.grid.coords t) d1 (iblk m c 1 t)) (iblk m c 2 t) (iblk m c 3 t) (iblk m c 4 t) (iblk m c 5 t), hK]; exact View.read_writes_eq_canon _ _ _ (joinedL_cover _ _ _ _ _ _)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact sound_body m c t

/-! ## The run and the frame -/

-- the launch lemma's implicit arguments are found by unifying its conclusion with this one
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hΦ := fun _ _ => rfl)

/-- Every run of `main` ends with each array at what the proof data say, and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KvIdeal.Cache

end
-- ==== Proof.KvRef.lean ====
/- The cache rows as the reference computes them, read at one entry. -/
module

public import proofs.«01_k».proof.Defs
public import proofs.«01_k».proof.Proof.Gen.KvReferenceIdeal
public import Idealize.ShloMosaic.Lib.Pipeline.ReadBack
public import Idealize.ShloMosaic.Lib.Pipeline.ValueKit

@[expose] public section

set_option maxRecDepth 16384

noncomputable section

namespace Cert.Proof.Kv

open Idealize.ShloMosaic Idealize.ShloMosaic.TcCoe Idealize.SL.Sem
open Cert.KvReferenceIdeal Cert.KvReferenceIdeal.Gen

/-! ## The reference's terms -/

variable (Z : FVec Ideal S8704x5696 .f32) (G : FVec Ideal S1x512 .f32) (K : FVec Ideal S1x64 .f32)

/-- The prompt's and the sample's rows of the projection. -/
abbrev rowsP : FVec Ideal S4x2048x5696 .f32 := shapeCast _ (extractStridedSlice S8192x5696 ![0, 0] Z slices_S8704x5696_S8192x5696_0_0) shapeCasts_S8192x5696_S4x2048x5696
abbrev rowsS : FVec Ideal S128x4x5696 .f32 := shapeCast _ (extractStridedSlice S512x5696 ![8192, 0] Z slices_S8704x5696_S512x5696_8192_0) shapeCasts_S512x5696_S128x4x5696

abbrev latColsP : FVec Ideal S4x2048x512 .f32 := extractStridedSlice S4x2048x512 ![0, 0, 5120] (rowsP Z) slices_S4x2048x5696_S4x2048x512_0_0_5120
abbrev latNormP (X : FVec Ideal S4x2048x512 .f32) (g : FVec Ideal S1x512 .f32) : FVec Ideal S4x2048x512 .f32 :=
  (mulf (mulf X (broadcastInDim S4x2048x512 ![0, 1, 2] bcast_S4x2048x1_S4x2048x512_0_1_2 (Host.rsqrt (addf (Host.divf (broadcastInDim S4x2048x1 ![0, 1] bcast_S4x2048_S4x2048x1_0_1 (Host.reduceAdd (mulf X X) (constant S_ .f32 0x00000000#32) reducesTo_S4x2048x512_S4x2048_d2 h_S_)) (broadcastInDim S4x2048x1 ![] bcast_S_S4x2048x1 (constant S_ .f32 0x44000000#32))) (broadcastInDim S4x2048x1 ![] bcast_S_S4x2048x1 (constant S_ .f32 0x358637BD#32)))))) (broadcastInDim S4x2048x512 ![0, 1, 2] bcast_S1x1x512_S4x2048x512_0_1_2 (broadcastInDim S1x1x512 ![2] bcast_S512_S1x1x512_2 (shapeCast _ g shapeCasts_S1x512_S512))))

abbrev keyColsP : FVec Ideal S4x2048x64 .f32 := extractStridedSlice S4x2048x64 ![0, 0, 5632] (rowsP Z) slices_S4x2048x5696_S4x2048x64_0_0_5632
abbrev keyNormP (X : FVec Ideal S4x2048x64 .f32) (g : FVec Ideal S1x64 .f32) : FVec Ideal S4x2048x64 .f32 :=
  (mulf (mulf X (broadcastInDim S4x2048x64 ![0, 1, 2] bcast_S4x2048x1_S4x2048x64_0_1_2 (Host.rsqrt (addf (Host.divf (broadcastInDim S4x2048x1 ![0, 1] bcast_S4x2048_S4x2048x1_0_1 (Host.reduceAdd (mulf X X) (constant S_ .f32 0x00000000#32) reducesTo_S4x2048x64_S4x2048_d2 h_S_)) (broadcastInDim S4x2048x1 ![] bcast_S_S4x2048x1 (constant S_ .f32 0x42800000#32))) (broadcastInDim S4x2048x1 ![] bcast_S_S4x2048x1 (constant S_ .f32 0x358637BD#32)))))) (broadcastInDim S4x2048x64 ![0, 1, 2] bcast_S1x1x64_S4x2048x64_0_1_2 (broadcastInDim S1x1x64 ![2] bcast_S64_S1x1x64_2 (shapeCast _ g shapeCasts_S1x64_S64))))

abbrev latColsS : FVec Ideal S128x4x512 .f32 := extractStridedSlice S128x4x512 ![0, 0, 5120] (rowsS Z) slices_S128x4x5696_S128x4x512_0_0_5120
abbrev latNormS (X : FVec Ideal S128x4x512 .f32) (g : FVec Ideal S1x512 .f32) : FVec Ideal S128x4x512 .f32 :=
  (mulf (mulf X (broadcastInDim S128x4x512 ![0, 1, 2] bcast_S128x4x1_S128x4x512_0_1_2 (Host.rsqrt (addf (Host.divf (broadcastInDim S128x4x1 ![0, 1] bcast_S128x4_S128x4x1_0_1 (Host.reduceAdd (mulf X X) (constant S_ .f32 0x00000000#32) reducesTo_S128x4x512_S128x4_d2 h_S_)) (broadcastInDim S128x4x1 ![] bcast_S_S128x4x1 (constant S_ .f32 0x44000000#32))) (broadcastInDim S128x4x1 ![] bcast_S_S128x4x1 (constant S_ .f32 0x358637BD#32)))))) (broadcastInDim S128x4x512 ![0, 1, 2] bcast_S1x1x512_S128x4x512_0_1_2 (broadcastInDim S1x1x512 ![2] bcast_S512_S1x1x512_2 (shapeCast _ g shapeCasts_S1x512_S512))))

abbrev keyColsS : FVec Ideal S128x4x64 .f32 := extractStridedSlice S128x4x64 ![0, 0, 5632] (rowsS Z) slices_S128x4x5696_S128x4x64_0_0_5632
abbrev keyNormS (X : FVec Ideal S128x4x64 .f32) (g : FVec Ideal S1x64 .f32) : FVec Ideal S128x4x64 .f32 :=
  (mulf (mulf X (broadcastInDim S128x4x64 ![0, 1, 2] bcast_S128x4x1_S128x4x64_0_1_2 (Host.rsqrt (addf (Host.divf (broadcastInDim S128x4x1 ![0, 1] bcast_S128x4_S128x4x1_0_1 (Host.reduceAdd (mulf X X) (constant S_ .f32 0x00000000#32) reducesTo_S128x4x64_S128x4_d2 h_S_)) (broadcastInDim S128x4x1 ![] bcast_S_S128x4x1 (constant S_ .f32 0x42800000#32))) (broadcastInDim S128x4x1 ![] bcast_S_S128x4x1 (constant S_ .f32 0x358637BD#32)))))) (broadcastInDim S128x4x64 ![0, 1, 2] bcast_S1x1x64_S128x4x64_0_1_2 (broadcastInDim S1x1x64 ![2] bcast_S64_S1x1x64_2 (shapeCast _ g shapeCasts_S1x64_S64))))

/-- The angles by position and column. -/
abbrev angP : FVec Ideal S2048x32 .f32 :=
  (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (mulf (Host.negf (sitofp .f32 (iotaInDim S32 32 0))) (broadcastInDim S32 ![] bcast_S_S32 (constant S_ .f32 0x3D000000#32)))))))

/-- The angles by position and column. -/
abbrev angS : FVec Ideal S4x32 .f32 :=
  (mulf (broadcastInDim S4x32 ![0, 1] bcast_S4x1_S4x32_0_1 (broadcastInDim S4x1 ![0] bcast_S4_S4x1_0 (sitofp .f32 (addi (broadcastInDim S4 ![] bcast_S_S4 (constantI S_ 32 16384#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (mulf (Host.negf (sitofp .f32 (iotaInDim S32 32 0))) (broadcastInDim S32 ![] bcast_S_S32 (constant S_ .f32 0x3D000000#32)))))))

/-- The rotation of the rows by the angles: its two halves and the two side by side. -/
abbrev rotFstP (N : FVec Ideal S4x2048x64 .f32) (A : FVec Ideal S2048x32 .f32) : FVec Ideal S4x2048x32 .f32 := (subf (mulf (extractStridedSlice S4x2048x32 ![0, 0, 0] N slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.cos A)))) (mulf (extractStridedSlice S4x2048x32 ![0, 0, 32] N slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.sin A)))))
abbrev rotSndP (N : FVec Ideal S4x2048x64 .f32) (A : FVec Ideal S2048x32 .f32) : FVec Ideal S4x2048x32 .f32 := (addf (mulf (extractStridedSlice S4x2048x32 ![0, 0, 32] N slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.cos A)))) (mulf (extractStridedSlice S4x2048x32 ![0, 0, 0] N slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.sin A)))))
abbrev rotP (N : FVec Ideal S4x2048x64 .f32) (A : FVec Ideal S2048x32 .f32) : FVec Ideal S8192x64 .f32 :=
  (shapeCast _ (concatenate S4x2048x64 2 [⟨S4x2048x32, rotFstP N A⟩, ⟨S4x2048x32, rotSndP N A⟩] concatenates_S4x2048x32_S4x2048x32_S4x2048x64_d2) shapeCasts_S4x2048x64_S8192x64)

/-- The rotation of the rows by the angles: its two halves and the two side by side. -/
abbrev rotFstS (N : FVec Ideal S128x4x64 .f32) (A : FVec Ideal S4x32 .f32) : FVec Ideal S128x4x32 .f32 := (subf (mulf (extractStridedSlice S128x4x32 ![0, 0, 0] N slices_S128x4x64_S128x4x32_0_0_0) (broadcastInDim S128x4x32 ![0, 1, 2] bcast_S1x4x32_S128x4x32_0_1_2 (broadcastInDim S1x4x32 ![1, 2] bcast_S4x32_S1x4x32_1_2 (Host.cos A)))) (mulf (extractStridedSlice S128x4x32 ![0, 0, 32] N slices_S128x4x64_S128x4x32_0_0_32) (broadcastInDim S128x4x32 ![0, 1, 2] bcast_S1x4x32_S128x4x32_0_1_2 (broadcastInDim S1x4x32 ![1, 2] bcast_S4x32_S1x4x32_1_2 (Host.sin A)))))
abbrev rotSndS (N : FVec Ideal S128x4x64 .f32) (A : FVec Ideal S4x32 .f32) : FVec Ideal S128x4x32 .f32 := (addf (mulf (extractStridedSlice S128x4x32 ![0, 0, 32] N slices_S128x4x64_S128x4x32_0_0_32) (broadcastInDim S128x4x32 ![0, 1, 2] bcast_S1x4x32_S128x4x32_0_1_2 (broadcastInDim S1x4x32 ![1, 2] bcast_S4x32_S1x4x32_1_2 (Host.cos A)))) (mulf (extractStridedSlice S128x4x32 ![0, 0, 0] N slices_S128x4x64_S128x4x32_0_0_0) (broadcastInDim S128x4x32 ![0, 1, 2] bcast_S1x4x32_S128x4x32_0_1_2 (broadcastInDim S1x4x32 ![1, 2] bcast_S4x32_S1x4x32_1_2 (Host.sin A)))))
abbrev rotS (N : FVec Ideal S128x4x64 .f32) (A : FVec Ideal S4x32 .f32) : FVec Ideal S512x64 .f32 :=
  (shapeCast _ (concatenate S128x4x64 2 [⟨S128x4x32, rotFstS N A⟩, ⟨S128x4x32, rotSndS N A⟩] concatenates_S128x4x32_S128x4x32_S128x4x64_d2) shapeCasts_S128x4x64_S512x64)

/-- The two results. -/
abbrev latP (Z : FVec Ideal S8704x5696 .f32) (G : FVec Ideal S1x512 .f32) : FVec Ideal S8192x512 .f32 := shapeCast _ (latNormP (latColsP Z) G) shapeCasts_S4x2048x512_S8192x512
abbrev latS (Z : FVec Ideal S8704x5696 .f32) (G : FVec Ideal S1x512 .f32) : FVec Ideal S512x512 .f32 := shapeCast _ (latNormS (latColsS Z) G) shapeCasts_S128x4x512_S512x512
abbrev targetLat : FVec Ideal S8704x512 .f32 := concatenate S8704x512 0 [⟨S8192x512, latP Z G⟩, ⟨S512x512, latS Z G⟩] concatenates_S8192x512_S512x512_S8704x512_d0
abbrev targetKey : FVec Ideal S8704x64 .f32 :=
  concatenate S8704x64 0 [⟨S8192x64, rotP (keyNormP (keyColsP Z) K) angP⟩, ⟨S512x64, rotS (keyNormS (keyColsS Z) K) angS⟩] concatenates_S8192x64_S512x64_S8704x64_d0

variable {Z G K}

theorem joinLat_at (P : FVec Ideal S8192x512 .f32) (Q : FVec Ideal S512x512 .f32) (r : Fin 8704) (q : Fin 512) :
    concatenate S8704x512 0 [⟨S8192x512, P⟩, ⟨S512x512, Q⟩] concatenates_S8192x512_S512x512_S8704x512_d0 (ix2 r q)
      = if h : (r : ℕ) < 8192 then P (ix2 ⟨r, h⟩ q) else Q (ix2 ⟨r - 8192, by have := r.isLt; omega⟩ q) := by
  pointwise []
theorem joinKey_at (P : FVec Ideal S8192x64 .f32) (Q : FVec Ideal S512x64 .f32) (r : Fin 8704) (q : Fin 64) :
    concatenate S8704x64 0 [⟨S8192x64, P⟩, ⟨S512x64, Q⟩] concatenates_S8192x64_S512x64_S8704x64_d0 (ix2 r q)
      = if h : (r : ℕ) < 8192 then P (ix2 ⟨r, h⟩ q) else Q (ix2 ⟨r - 8192, by have := r.isLt; omega⟩ q) := by
  pointwise []

/-! ## The entries -/

/-- One entry of a row scaled to unit mean square (`c` the bits of the row's length) and by its gain. -/
def normAt {n : ℕ} (X : Fin n → EReal) (g : EReal) (c : BitVec 32) (q : Fin n) : EReal :=
  X q * Ideal.rsqrt (Ideal.div (∑ x, X x * X x) (Ideal.ofBits FTy.f32 c) + Ideal.ofBits FTy.f32 0x358637BD#32) * g

/-- The angle of position `p` at column `q`. -/
def angle (p : BitVec 32) (q : ℕ) : EReal :=
  FloatOps.sitofp (F := Ideal) FTy.f32 p * Ideal.pow (Ideal.ofBits FTy.f32 0x461C4000#32)
    (-FloatOps.sitofp (F := Ideal) FTy.f32 (BitVec.ofNat 32 q) * Ideal.ofBits FTy.f32 0x3D000000#32)

/-- The position of row `r`: the prompts' rows count from 0, the samples' from 16384. -/
def position (r : ℕ) : BitVec 32 := if r < 8192 then BitVec.ofNat 32 (r % 2048) else IntOp.addi 16384#32 (BitVec.ofNat 32 ((r - 8192) % 4))

theorem latNormP_at (X : FVec Ideal S4x2048x512 .f32) (g : FVec Ideal S1x512 .f32) (s : Fin 4) (b : Fin 2048) (q : Fin 512) :
    latNormP X g (ix3 s b q) = normAt (fun l => X (ix3 s b l)) (g (ix2 0 q)) 0x44000000#32 q := by
  unfold normAt
  pointwise [latNormP]
theorem latColsP_at (r : Fin 8704) (s : Fin 4) (b : Fin 2048) (q : Fin 512) (hr : (r : ℕ) = 0 + (s * 2048 + b)) :
    latColsP Z (ix3 s b q) = Z (ix2 r ⟨5120 + q, by have := q.isLt; omega⟩) := by
  have hs := s.isLt
  have hb := b.isLt
  have hq0 := q.isLt
  have hr' : 0 + ((s : ℕ) * 2048 + (b : ℕ)) < 8704 := by omega
  obtain rfl : r = ⟨0 + (s * 2048 + b), hr'⟩ := Fin.ext hr
  pointwise [latColsP, rowsP]
  first | done | congr 1
theorem keyNormP_at (X : FVec Ideal S4x2048x64 .f32) (g : FVec Ideal S1x64 .f32) (s : Fin 4) (b : Fin 2048) (q : Fin 64) :
    keyNormP X g (ix3 s b q) = normAt (fun l => X (ix3 s b l)) (g (ix2 0 q)) 0x42800000#32 q := by
  unfold normAt
  pointwise [keyNormP]
theorem keyColsP_at (r : Fin 8704) (s : Fin 4) (b : Fin 2048) (q : Fin 64) (hr : (r : ℕ) = 0 + (s * 2048 + b)) :
    keyColsP Z (ix3 s b q) = Z (ix2 r ⟨5632 + q, by have := q.isLt; omega⟩) := by
  have hs := s.isLt
  have hb := b.isLt
  have hq0 := q.isLt
  have hr' : 0 + ((s : ℕ) * 2048 + (b : ℕ)) < 8704 := by omega
  obtain rfl : r = ⟨0 + (s * 2048 + b), hr'⟩ := Fin.ext hr
  pointwise [keyColsP, rowsP]
  first | done | congr 1
theorem angP_at (b : Fin 2048) (q : Fin 32) : angP (ix2 b q) = angle (BitVec.ofNat 32 b) q := by
  unfold angle
  pointwise [angP]
theorem rotFstP_at (N : FVec Ideal S4x2048x64 .f32) (A : FVec Ideal S2048x32 .f32) (s : Fin 4) (b : Fin 2048) (q : Fin 32) :
    rotFstP N A (ix3 s b q) = N (ix3 s b ⟨q, by have := q.isLt; omega⟩) * Ideal.cos (A (ix2 b q)) - N (ix3 s b ⟨32 + q, by have := q.isLt; omega⟩) * Ideal.sin (A (ix2 b q)) := by
  pointwise [rotFstP]
theorem rotSndP_at (N : FVec Ideal S4x2048x64 .f32) (A : FVec Ideal S2048x32 .f32) (s : Fin 4) (b : Fin 2048) (q : Fin 32) :
    rotSndP N A (ix3 s b q) = N (ix3 s b ⟨32 + q, by have := q.isLt; omega⟩) * Ideal.cos (A (ix2 b q)) + N (ix3 s b ⟨q, by have := q.isLt; omega⟩) * Ideal.sin (A (ix2 b q)) := by
  pointwise [rotSndP]
theorem rotP_at (N : FVec Ideal S4x2048x64 .f32) (A : FVec Ideal S2048x32 .f32) (r : Fin 8192) (q : Fin 64) (s : Fin 4) (b : Fin 2048) (hr : (r : ℕ) = s * 2048 + b) :
    rotP N A (ix2 r q) = if h : (q : ℕ) < 32 then rotFstP N A (ix3 s b ⟨q, h⟩) else rotSndP N A (ix3 s b ⟨q - 32, by have := q.isLt; omega⟩) := by
  have hs := s.isLt
  have hb := b.isLt
  have e1 : (r : ℕ) / 2048 = s := by omega
  have e2 : (r : ℕ) % 2048 = b := by omega
  unfold rotP
  generalize rotFstP N A = U
  generalize rotSndP N A = W
  pointwise []
  simp only [e1, e2, Fin.eta]
theorem latP_at (r : Fin 8704) (a : Fin 8192) (q : Fin 512) (hr : (r : ℕ) = 0 + a) :
    latP Z G (ix2 a q) = normAt (fun l : Fin 512 => Z (ix2 r ⟨5120 + l, by have := l.isLt; omega⟩)) (G (ix2 0 q)) 0x44000000#32 q := by
  have ha := a.isLt
  have hs : (a : ℕ) / 2048 < 4 := by omega
  have hb : (a : ℕ) % 2048 < 2048 := Nat.mod_lt _ (by omega)
  have e : latP Z G (ix2 a q) = latNormP (latColsP Z) G (ix3 ⟨a / 2048, hs⟩ ⟨a % 2048, hb⟩ q) := by
    unfold latP
    generalize latNormP (latColsP Z) G = U
    pointwise []
  rw [e, latNormP_at]
  exact congrArg (fun f => normAt f (G (ix2 0 q)) 0x44000000#32 q) (funext fun l => latColsP_at r _ _ l (by show (r : ℕ) = 0 + ((a : ℕ) / 2048 * 2048 + (a : ℕ) % 2048); omega))
theorem keyP_at (r : Fin 8704) (s : Fin 4) (b : Fin 2048) (q : Fin 64) (hr : (r : ℕ) = 0 + (s * 2048 + b)) :
    keyNormP (keyColsP Z) K (ix3 s b q) = normAt (fun l : Fin 64 => Z (ix2 r ⟨5632 + l, by have := l.isLt; omega⟩)) (K (ix2 0 q)) 0x42800000#32 q := by
  rw [keyNormP_at]
  exact congrArg (fun f => normAt f (K (ix2 0 q)) 0x42800000#32 q) (funext fun l => keyColsP_at r s b l hr)
theorem latNormS_at (X : FVec Ideal S128x4x512 .f32) (g : FVec Ideal S1x512 .f32) (s : Fin 128) (b : Fin 4) (q : Fin 512) :
    latNormS X g (ix3 s b q) = normAt (fun l => X (ix3 s b l)) (g (ix2 0 q)) 0x44000000#32 q := by
  unfold normAt
  pointwise [latNormS]
theorem latColsS_at (r : Fin 8704) (s : Fin 128) (b : Fin 4) (q : Fin 512) (hr : (r : ℕ) = 8192 + (s * 4 + b)) :
    latColsS Z (ix3 s b q) = Z (ix2 r ⟨5120 + q, by have := q.isLt; omega⟩) := by
  have hs := s.isLt
  have hb := b.isLt
  have hq0 := q.isLt
  have hr' : 8192 + ((s : ℕ) * 4 + (b : ℕ)) < 8704 := by omega
  obtain rfl : r = ⟨8192 + (s * 4 + b), hr'⟩ := Fin.ext hr
  pointwise [latColsS, rowsS]
  first | done | congr 1
theorem keyNormS_at (X : FVec Ideal S128x4x64 .f32) (g : FVec Ideal S1x64 .f32) (s : Fin 128) (b : Fin 4) (q : Fin 64) :
    keyNormS X g (ix3 s b q) = normAt (fun l => X (ix3 s b l)) (g (ix2 0 q)) 0x42800000#32 q := by
  unfold normAt
  pointwise [keyNormS]
theorem keyColsS_at (r : Fin 8704) (s : Fin 128) (b : Fin 4) (q : Fin 64) (hr : (r : ℕ) = 8192 + (s * 4 + b)) :
    keyColsS Z (ix3 s b q) = Z (ix2 r ⟨5632 + q, by have := q.isLt; omega⟩) := by
  have hs := s.isLt
  have hb := b.isLt
  have hq0 := q.isLt
  have hr' : 8192 + ((s : ℕ) * 4 + (b : ℕ)) < 8704 := by omega
  obtain rfl : r = ⟨8192 + (s * 4 + b), hr'⟩ := Fin.ext hr
  pointwise [keyColsS, rowsS]
  first | done | congr 1
theorem angS_at (b : Fin 4) (q : Fin 32) : angS (ix2 b q) = angle (IntOp.addi 16384#32 (BitVec.ofNat 32 b)) q := by
  unfold angle
  pointwise [angS]
theorem rotFstS_at (N : FVec Ideal S128x4x64 .f32) (A : FVec Ideal S4x32 .f32) (s : Fin 128) (b : Fin 4) (q : Fin 32) :
    rotFstS N A (ix3 s b q) = N (ix3 s b ⟨q, by have := q.isLt; omega⟩) * Ideal.cos (A (ix2 b q)) - N (ix3 s b ⟨32 + q, by have := q.isLt; omega⟩) * Ideal.sin (A (ix2 b q)) := by
  pointwise [rotFstS]
theorem rotSndS_at (N : FVec Ideal S128x4x64 .f32) (A : FVec Ideal S4x32 .f32) (s : Fin 128) (b : Fin 4) (q : Fin 32) :
    rotSndS N A (ix3 s b q) = N (ix3 s b ⟨32 + q, by have := q.isLt; omega⟩) * Ideal.cos (A (ix2 b q)) + N (ix3 s b ⟨q, by have := q.isLt; omega⟩) * Ideal.sin (A (ix2 b q)) := by
  pointwise [rotSndS]
theorem rotS_at (N : FVec Ideal S128x4x64 .f32) (A : FVec Ideal S4x32 .f32) (r : Fin 512) (q : Fin 64) (s : Fin 128) (b : Fin 4) (hr : (r : ℕ) = s * 4 + b) :
    rotS N A (ix2 r q) = if h : (q : ℕ) < 32 then rotFstS N A (ix3 s b ⟨q, h⟩) else rotSndS N A (ix3 s b ⟨q - 32, by have := q.isLt; omega⟩) := by
  have hs := s.isLt
  have hb := b.isLt
  have e1 : (r : ℕ) / 4 = s := by omega
  have e2 : (r : ℕ) % 4 = b := by omega
  unfold rotS
  generalize rotFstS N A = U
  generalize rotSndS N A = W
  pointwise []
  simp only [e1, e2, Fin.eta]
theorem latS_at (r : Fin 8704) (a : Fin 512) (q : Fin 512) (hr : (r : ℕ) = 8192 + a) :
    latS Z G (ix2 a q) = normAt (fun l : Fin 512 => Z (ix2 r ⟨5120 + l, by have := l.isLt; omega⟩)) (G (ix2 0 q)) 0x44000000#32 q := by
  have ha := a.isLt
  have hs : (a : ℕ) / 4 < 128 := by omega
  have hb : (a : ℕ) % 4 < 4 := Nat.mod_lt _ (by omega)
  have e : latS Z G (ix2 a q) = latNormS (latColsS Z) G (ix3 ⟨a / 4, hs⟩ ⟨a % 4, hb⟩ q) := by
    unfold latS
    generalize latNormS (latColsS Z) G = U
    pointwise []
  rw [e, latNormS_at]
  exact congrArg (fun f => normAt f (G (ix2 0 q)) 0x44000000#32 q) (funext fun l => latColsS_at r _ _ l (by show (r : ℕ) = 8192 + ((a : ℕ) / 4 * 4 + (a : ℕ) % 4); omega))
theorem keyS_at (r : Fin 8704) (s : Fin 128) (b : Fin 4) (q : Fin 64) (hr : (r : ℕ) = 8192 + (s * 4 + b)) :
    keyNormS (keyColsS Z) K (ix3 s b q) = normAt (fun l : Fin 64 => Z (ix2 r ⟨5632 + l, by have := l.isLt; omega⟩)) (K (ix2 0 q)) 0x42800000#32 q := by
  rw [keyNormS_at]
  exact congrArg (fun f => normAt f (K (ix2 0 q)) 0x42800000#32 q) (funext fun l => keyColsS_at r s b l hr)

/-- The latent's rows read at one entry. -/
theorem targetLat_at (r : Fin 8704) (q : Fin 512) :
    targetLat Z G (ix2 r q) = normAt (fun l : Fin 512 => Z (ix2 r ⟨5120 + l, by have := l.isLt; omega⟩)) (G (ix2 0 q)) 0x44000000#32 q := by
  refine (joinLat_at (latP Z G) (latS Z G) r q).trans ?_
  by_cases h : (r : ℕ) < 8192
  · rw [dif_pos h]; exact latP_at r ⟨r, h⟩ q (Nat.zero_add _).symm
  · rw [dif_neg h]; exact latS_at r ⟨r - 8192, _⟩ q (by show (r : ℕ) = 8192 + (r - 8192); omega)

/-- One entry of the rotary key: the normed row `N`, rotated by the row's angles. -/
def turned (N : Fin 64 → EReal) (p : BitVec 32) (q : Fin 64) : EReal :=
  if h : (q : ℕ) < 32 then N q * Ideal.cos (angle p q) - N ⟨32 + q, by omega⟩ * Ideal.sin (angle p q)
    else N q * Ideal.cos (angle p (q - 32)) + N ⟨q - 32, by have := q.isLt; omega⟩ * Ideal.sin (angle p (q - 32))

theorem rotP_turned (N : FVec Ideal S4x2048x64 .f32) (A : FVec Ideal S2048x32 .f32) (r : Fin 8192) (q : Fin 64) (s : Fin 4) (b : Fin 2048) (hr : (r : ℕ) = s * 2048 + b)
    (n : Fin 64 → EReal) (p : BitVec 32) (hN : ∀ j, N (ix3 s b j) = n j) (hA : ∀ j : Fin 32, A (ix2 b j) = angle p j) :
    rotP N A (ix2 r q) = turned n p q := by
  have hq := q.isLt
  refine (rotP_at N A r q s b hr).trans ?_
  unfold turned
  by_cases h' : (q : ℕ) < 32
  · rw [dif_pos h', dif_pos h']
    refine (rotFstP_at N A s b ⟨q, h'⟩).trans ?_
    rw [hN, hN, hA]
  · rw [dif_neg h', dif_neg h']
    refine (rotSndP_at N A s b ⟨q - 32, by omega⟩).trans ?_
    rw [hN, hN, hA]
    have e : (⟨32 + (q - 32), by omega⟩ : Fin 64) = q := Fin.ext (by show 32 + ((q : ℕ) - 32) = q; omega)
    show n ⟨32 + (q - 32), _⟩ * _ + _ = _
    rw [e]
theorem rotS_turned (N : FVec Ideal S128x4x64 .f32) (A : FVec Ideal S4x32 .f32) (r : Fin 512) (q : Fin 64) (s : Fin 128) (b : Fin 4) (hr : (r : ℕ) = s * 4 + b)
    (n : Fin 64 → EReal) (p : BitVec 32) (hN : ∀ j, N (ix3 s b j) = n j) (hA : ∀ j : Fin 32, A (ix2 b j) = angle p j) :
    rotS N A (ix2 r q) = turned n p q := by
  have hq := q.isLt
  refine (rotS_at N A r q s b hr).trans ?_
  unfold turned
  by_cases h' : (q : ℕ) < 32
  · rw [dif_pos h', dif_pos h']
    refine (rotFstS_at N A s b ⟨q, h'⟩).trans ?_
    rw [hN, hN, hA]
  · rw [dif_neg h', dif_neg h']
    refine (rotSndS_at N A s b ⟨q - 32, by omega⟩).trans ?_
    rw [hN, hN, hA]
    have e : (⟨32 + (q - 32), by omega⟩ : Fin 64) = q := Fin.ext (by show 32 + ((q : ℕ) - 32) = q; omega)
    show n ⟨32 + (q - 32), _⟩ * _ + _ = _
    rw [e]

/-- The rotary key's rows read at one entry. -/
theorem targetKey_at (r : Fin 8704) (q : Fin 64) :
    targetKey Z K (ix2 r q) = turned (fun j => normAt (fun l : Fin 64 => Z (ix2 r ⟨5632 + l, by have := l.isLt; omega⟩)) (K (ix2 0 j)) 0x42800000#32 j) (position r) q := by
  have hr := r.isLt
  refine (joinKey_at (rotP (keyNormP (keyColsP Z) K) angP) (rotS (keyNormS (keyColsS Z) K) angS) r q).trans ?_
  unfold position
  by_cases h : (r : ℕ) < 8192
  · rw [dif_pos h, if_pos h]
    have hs : (r : ℕ) / 2048 < 4 := by omega
    have hb : (r : ℕ) % 2048 < 2048 := Nat.mod_lt _ (by omega)
    have er : (r : ℕ) = 0 + ((r : ℕ) / 2048 * 2048 + (r : ℕ) % 2048) := by omega
    exact rotP_turned _ _ ⟨r, h⟩ q ⟨(r : ℕ) / 2048, hs⟩ ⟨(r : ℕ) % 2048, hb⟩ (by show (r : ℕ) = (r : ℕ) / 2048 * 2048 + (r : ℕ) % 2048; omega) _ _
      (fun j => keyP_at r _ _ j er) (fun j => angP_at _ j)
  · rw [dif_neg h, if_neg h]
    have hs : ((r : ℕ) - 8192) / 4 < 128 := by omega
    have hb : ((r : ℕ) - 8192) % 4 < 4 := Nat.mod_lt _ (by omega)
    have er : (r : ℕ) = 8192 + (((r : ℕ) - 8192) / 4 * 4 + ((r : ℕ) - 8192) % 4) := by omega
    exact rotS_turned _ _ ⟨r - 8192, by omega⟩ q ⟨((r : ℕ) - 8192) / 4, hs⟩ ⟨((r : ℕ) - 8192) % 4, hb⟩ (by show ((r : ℕ) - 8192) = ((r : ℕ) - 8192) / 4 * 4 + ((r : ℕ) - 8192) % 4; omega) _ _
      (fun j => keyS_at r _ _ j er) (fun j => angS_at _ j)

end Cert.Proof.Kv

end
-- ==== Proof.KvValue.lean ====
/- The rows the cache kernel leaves are the reference's. -/
module

public import proofs.«01_k».proof.Proof.KvFrame
public import proofs.«01_k».proof.Proof.KvRef
public import Idealize.ShloMosaic.Lib.Pipeline.ReadBack
public import Idealize.ShloMosaic.Lib.Pipeline.ValueKit

@[expose] public section

set_option maxRecDepth 16384

noncomputable section

namespace Cert.KvIdeal.Cache

open Idealize.ShloMosaic Idealize.ShloMosaic.TcCoe Idealize.SL.Sem
open Idealize.ShloMosaic.Pipeline (Dat)
open Cert.KvIdeal Cert.KvIdeal.Gen
open Cert.Proof.Kv (normAt angle position turned targetLat targetKey targetLat_at targetKey_at)

/-! ## What the body computes, read at one entry -/

theorem latent_at (x0 : FVec Ideal S512x512 .f32) (x2 : FVec Ideal S1x1x512 .f32) (l q : Fin 512) :
    latent (F := Ideal) x0 x2 (ix2 l q) = normAt (fun k => x0 (ix2 l k)) (x2 (ix3 0 0 q)) 0x44000000#32 q := by
  unfold normAt
  pointwise [latent, k0_pay4]
theorem normed_at (k : FVec Ideal S512x64 .f32) (x3 : FVec Ideal S1x1x64 .f32) (l : Fin 512) (q : Fin 64) :
    k0_pay5 (F := Ideal) k x3 (ix2 l q) = normAt (fun j => k (ix2 l j)) (x3 (ix3 0 0 q)) 0x42800000#32 q := by
  unfold normAt
  pointwise [k0_pay5]
/-- The rotation of the normed rows `N`: the other half's columns stand beside each column. -/
theorem rotate_at (N x4 x5 : FVec Ideal S512x64 .f32) (l : Fin 512) (q : Fin 64) :
    addf (mulf N x4) (mulf (concatenate S512x64 1 [⟨S512x32, extractStridedSlice S512x32 ![0, 32] N slices_S512x64_o0_32_S512x32⟩, ⟨S512x32, extractStridedSlice S512x32 ![0, 0] N slices_S512x64_o0_0_S512x32⟩] concatenates_S512x32_S512x32_S512x64_d1) x5) (ix2 l q)
      = (N (ix2 l q) * x4 (ix2 l q) + (if h : (q : ℕ) < 32 then N (ix2 l ⟨32 + q, by omega⟩) else N (ix2 l ⟨q - 32, by have := q.isLt; omega⟩)) * x5 (ix2 l q) : EReal) := by
  pointwise []
theorem rotKey_at (k : FVec Ideal S512x64 .f32) (x3 : FVec Ideal S1x1x64 .f32) (x4 x5 : FVec Ideal S512x64 .f32) (l : Fin 512) (q : Fin 64) :
    rotKey (F := Ideal) k x3 x4 x5 (ix2 l q) = (k0_pay5 (F := Ideal) k x3 (ix2 l q) * x4 (ix2 l q)
      + (if h : (q : ℕ) < 32 then k0_pay5 (F := Ideal) k x3 (ix2 l ⟨32 + q, by omega⟩) else k0_pay5 (F := Ideal) k x3 (ix2 l ⟨q - 32, by have := q.isLt; omega⟩)) * x5 (ix2 l q) : EReal) := by
  refine Eq.trans ?_ (rotate_at (k0_pay5 (F := Ideal) k x3) x4 x5 l q)
  unfold rotKey k0_pay1 k0_pay6 k0_pay7
  generalize k0_pay5 (F := Ideal) k x3 = N
  pointwise []

/-! ## The blocks -/

variable (m : (ℓ : Loc nD τ sig) → Buf (Elt Ideal) ℓ) (c : Dev nD)

abbrev argZ : FVec Ideal S8704x5696 .f32 := m ((c : Thread nD τ).loc main_arg0)
abbrev argG : FVec Ideal S1x512 .f32 := m ((c : Thread nD τ).loc main_arg1)
abbrev argK : FVec Ideal S1x64 .f32 := m ((c : Thread nD τ).loc main_arg2)

theorem idx0 : ∀ t : Fin cfg0.N, win0_0.index t = ![t.val, 10] := (by decide +kernel : ∀ t : Fin grid0.N, _)
theorem idx1 : ∀ t : Fin cfg0.N, win0_1.index t = ![t.val, 44] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (t : Fin cfg0.N)

/-- Row `l` of point `t`'s rows. -/
def rowAt (l : Fin 512) : Fin 8704 := ⟨512 * t.val + l.val, by have := lt_of_lt_of_eq t.isLt N_0; omega⟩

theorem x0_at (l k : Fin 512) : X0_0 m c t (ix2 l k) = argZ m c (ix2 (rowAt t l) ⟨5120 + k.val, by omega⟩) := by
  have hm := moved0_0 t (ix2 l k)
  unfold X0_0 Pipeline.Window.fill
  rw [dif_pos hm]
  unfold rowAt
  blk_ext [iblk, V_main_arg0, idx0 t]
theorem x1_at (l : Fin 512) (k : Fin 64) : keyCols (X1 m c t) (ix2 l k) = argZ m c (ix2 (rowAt t l) ⟨5632 + k.val, by omega⟩) := by
  have he : (Rect.unit (s := S512x128) ![0, 0] S512x64.size inb_S512x128_S512x64_0_0).idx (ix2 l k) = (ix2 l ⟨k.val, by omega⟩ : S512x128.Idx) :=
    funext fun i => Fin.ext (by match i with | ⟨0, _⟩ => show 0 + 1 * l.val = l.val; omega | ⟨1, _⟩ => show 0 + 1 * k.val = k.val; omega)
  have hm : (cfg0.win 1).moved (cfg0.grid.coords t) (ix2 l ⟨k.val, by omega⟩ : S512x128.Idx) = true := by
    rw [← he]; exact moved1 t (ix2 l k)
  show X1 m c t ((Rect.unit (s := S512x128) ![0, 0] S512x64.size inb_S512x128_S512x64_0_0).idx (ix2 l k)) = _
  rw [he]
  unfold X1 Pipeline.Window.fill
  rw [dif_pos hm]
  unfold rowAt
  blk_ext [iblk, V_main_arg0, idx1 t]
theorem x2_at (q : Fin 512) : iblk m c 2 t (ix3 0 0 q) = argG m c (ix2 0 q) := by
  blk_simp [iblk, idx2 t]
  entry_read
  pointwise
  blk_ext [idx2 t]
theorem x3_at (q : Fin 64) : iblk m c 3 t (ix3 0 0 q) = argK m c (ix2 0 q) := by
  blk_simp [iblk, idx3 t]
  entry_read
  pointwise
  blk_ext [idx3 t]

/-- The tables the kernel is given. -/
abbrev positionsP : Vec Ideal S8192 .i32 := shapeCast _ (broadcastInDim S4x2048 ![0, 1] bcast_S1x2048_S4x2048_0_1 (shapeCast _ (iotaInDim S2048 32 0) shapeCasts_S2048_S1x2048)) shapeCasts_S4x2048_S8192
abbrev positionsS : Vec Ideal S512 .i32 := shapeCast _ (broadcastInDim S128x4 ![0, 1] bcast_S1x4_S128x4_0_1 (shapeCast _ (addi (broadcastInDim S4 ![] bcast_S_S4 (constantI S_ 32 16384#32)) (iotaInDim S4 32 0)) shapeCasts_S4_S1x4)) shapeCasts_S128x4_S512
abbrev positions : Vec Ideal S8704 .i32 := concatenate S8704 0 [⟨S8192, positionsP⟩, ⟨S512, positionsS⟩] concatenates_S8192_S512_S8704_d0
abbrev angles (p : Vec Ideal S8704 .i32) : FVec Ideal S8704x32 .f32 :=
  mulf (broadcastInDim S8704x32 ![0, 1] bcast_S8704x1_S8704x32_0_1 (broadcastInDim S8704x1 ![0] bcast_S8704_S8704x1_0 (sitofp .f32 p)))
    (broadcastInDim S8704x32 ![0, 1] bcast_S1x32_S8704x32_0_1 (broadcastInDim S1x32 ![1] bcast_S32_S1x32_1 (Host.powf (broadcastInDim S32 ![] bcast_S_S32 (constant S_ .f32 0x461C4000#32)) (mulf (Host.negf (sitofp .f32 (iotaInDim S32 32 0))) (broadcastInDim S32 ![] bcast_S_S32 (constant S_ .f32 0x3D000000#32))))))
abbrev cosTable (A : FVec Ideal S8704x32 .f32) : FVec Ideal S8704x64 .f32 := concatenate S8704x64 1 [⟨S8704x32, Host.cos A⟩, ⟨S8704x32, Host.cos A⟩] concatenates_S8704x32_S8704x32_S8704x64_d1
abbrev sinTable (A : FVec Ideal S8704x32 .f32) : FVec Ideal S8704x64 .f32 := concatenate S8704x64 1 [⟨S8704x32, Host.negf (Host.sin A)⟩, ⟨S8704x32, Host.sin A⟩] concatenates_S8704x32_S8704x32_S8704x64_d1

theorem join_at (P : Vec Ideal S8192 .i32) (Q : Vec Ideal S512 .i32) (r : Fin 8704) :
    concatenate S8704 0 [⟨S8192, P⟩, ⟨S512, Q⟩] concatenates_S8192_S512_S8704_d0 (ix1 r)
      = if h : (r : ℕ) < 8192 then P (ix1 ⟨r, h⟩) else Q (ix1 ⟨r - 8192, by have := r.isLt; omega⟩) := by
  pointwise []
theorem positionsP_at (r : Fin 8192) : positionsP (ix1 r) = BitVec.ofNat 32 (r % 2048) := by
  pointwise [positionsP]
theorem positionsS_at (r : Fin 512) : positionsS (ix1 r) = IntOp.addi 16384#32 (BitVec.ofNat 32 (r % 4)) := by
  pointwise [positionsS]
theorem positions_at (r : Fin 8704) : positions (ix1 r) = position r := by
  unfold position
  refine (join_at positionsP positionsS r).trans ?_
  by_cases h : (r : ℕ) < 8192
  · rw [dif_pos h, if_pos h]; exact positionsP_at _
  · rw [dif_neg h, if_neg h]; exact positionsS_at _
theorem angles_at (p : Vec Ideal S8704 .i32) (r : Fin 8704) (q : Fin 32) : angles p (ix2 r q) = angle (p (ix1 r)) q := by
  unfold angle
  pointwise [angles]
theorem cosTable_at (A : FVec Ideal S8704x32 .f32) (r : Fin 8704) (q : Fin 64) :
    cosTable A (ix2 r q) = (if h : (q : ℕ) < 32 then Ideal.cos (A (ix2 r ⟨q, h⟩)) else Ideal.cos (A (ix2 r ⟨q - 32, by have := q.isLt; omega⟩)) : EReal) := by
  pointwise [cosTable]
theorem sinTable_at (A : FVec Ideal S8704x32 .f32) (r : Fin 8704) (q : Fin 64) :
    sinTable A (ix2 r q) = (if h : (q : ℕ) < 32 then -Ideal.sin (A (ix2 r ⟨q, h⟩)) else Ideal.sin (A (ix2 r ⟨q - 32, by have := q.isLt; omega⟩)) : EReal) := by
  pointwise [sinTable]

theorem entry_cos : V m c main_v25 = cosTable (angles positions) := by
  entry_read
  rfl
theorem entry_sin : V m c main_v27 = sinTable (angles positions) := by
  entry_read
  rfl

theorem x4_at (l : Fin 512) (q : Fin 64) : iblk m c 4 t (ix2 l q) = cosTable (angles positions) (ix2 (rowAt t l) q) := by
  rw [← entry_cos m c]
  unfold rowAt
  blk_ext [iblk, idx4 t]
theorem x5_at (l : Fin 512) (q : Fin 64) : iblk m c 5 t (ix2 l q) = sinTable (angles positions) (ix2 (rowAt t l) q) := by
  rw [← entry_sin m c]
  unfold rowAt
  blk_ext [iblk, idx5 t]

/-! ## The rows -/

theorem latent_row (l q : Fin 512) :
    latent (F := Ideal) (X0_0 m c t) (iblk m c 2 t) (ix2 l q) = targetLat (argZ m c) (argG m c) (ix2 (rowAt t l) q) := by
  refine (latent_at _ _ l q).trans (Eq.trans ?_ (targetLat_at (rowAt t l) q).symm)
  rw [x2_at]
  exact congrArg (fun f => normAt f (argG m c (ix2 0 q)) 0x44000000#32 q) (funext fun k => x0_at m c t l k)
theorem normed_row (l : Fin 512) (q : Fin 64) :
    k0_pay5 (F := Ideal) (keyCols (X1 m c t)) (iblk m c 3 t) (ix2 l q)
      = normAt (fun j : Fin 64 => argZ m c (ix2 (rowAt t l) ⟨5632 + j.val, by omega⟩)) (argK m c (ix2 0 q)) 0x42800000#32 q := by
  refine (normed_at _ _ l q).trans ?_
  rw [x3_at]
  exact congrArg (fun f => normAt f (argK m c (ix2 0 q)) 0x42800000#32 q) (funext fun k => x1_at m c t l k)
/-- The kernel adds the products with the signed sines; the reference subtracts in the first half. -/
theorem turned_eq (n : Fin 64 → EReal) (p : BitVec 32) (q : Fin 64) (C S : EReal)
    (hC : C = if h : (q : ℕ) < 32 then Ideal.cos (angle p q) else Ideal.cos (angle p (q - 32)))
    (hS : S = if h : (q : ℕ) < 32 then -Ideal.sin (angle p q) else Ideal.sin (angle p (q - 32))) :
    n q * C + (if h : (q : ℕ) < 32 then n ⟨32 + q, by omega⟩ else n ⟨q - 32, by have := q.isLt; omega⟩) * S = turned n p q := by
  unfold turned
  by_cases h : (q : ℕ) < 32
  · rw [dif_pos h] at hC hS ⊢
    rw [dif_pos h, hC, hS, mul_neg, sub_eq_add_neg]
  · rw [dif_neg h] at hC hS ⊢
    rw [dif_neg h, hC, hS]
theorem rotKey_row (l : Fin 512) (q : Fin 64) :
    rotKey (F := Ideal) (keyCols (X1 m c t)) (iblk m c 3 t) (iblk m c 4 t) (iblk m c 5 t) (ix2 l q) = targetKey (argZ m c) (argK m c) (ix2 (rowAt t l) q) := by
  refine (rotKey_at _ _ _ _ l q).trans (Eq.trans ?_ (targetKey_at (rowAt t l) q).symm)
  refine Eq.trans ?_ (turned_eq _ (position (rowAt t l)) q (cosTable (angles positions) (ix2 (rowAt t l) q)) (sinTable (angles positions) (ix2 (rowAt t l) q)) ?_ ?_)
  · rw [x4_at, x5_at, normed_row]
    by_cases h : (q : ℕ) < 32
    · rw [dif_pos h, dif_pos h, normed_row]
    · rw [dif_neg h, dif_neg h, normed_row]
  · rw [cosTable_at]; simp only [angles_at]; rw [positions_at (rowAt t l)]
  · rw [sinTable_at]; simp only [angles_at]; rw [positions_at (rowAt t l)]

/-! ## The arrays -/

theorem final_lat : (dats m 0 c).arrAt 6 (cfgs 0).N = targetLat (argZ m c) (argG m c) := by
  refine (dats m 0 c).arrAt_eq_of_covers 6 _ (by decide +kernel) fun t hf y => ?_
  have y0 : (y 0 : ℕ) < 512 := (y 0).isLt
  have y1 : (y 1 : ℕ) < 512 := (y 1).isLt
  have e : (win0_6.blk t).view.emb y = (show S8704x512.Idx from ix2 (rowAt t ⟨y 0, y0⟩) ⟨y 1, y1⟩) := by
    unfold rowAt
    blk_point [idx6 t]
  rw [after_6]
  refine Eq.trans ?_ (congrArg (targetLat (argZ m c) (argG m c)) e.symm)
  refine Eq.trans ?_ (latent_row m c t ⟨y 0, y0⟩ ⟨y 1, y1⟩)
  refine congrArg (latent (F := Ideal) (X0_0 m c t) (iblk m c 2 t)) (funext fun a => Fin.ext ?_)
  match a with
  | ⟨0, _⟩ => rfl
  | ⟨1, _⟩ => rfl
theorem final_key : (dats m 0 c).arrAt 7 (cfgs 0).N = targetKey (argZ m c) (argK m c) := by
  refine (dats m 0 c).arrAt_eq_of_covers 7 _ (by decide +kernel) fun t hf y => ?_
  have y0 : (y 0 : ℕ) < 512 := (y 0).isLt
  have y1 : (y 1 : ℕ) < 64 := (y 1).isLt
  have e : (win0_7.blk t).view.emb y = (show S8704x64.Idx from ix2 (rowAt t ⟨y 0, y0⟩) ⟨y 1, y1⟩) := by
    unfold rowAt
    blk_point [idx7 t]
  rw [after_7]
  refine Eq.trans ?_ (congrArg (targetKey (argZ m c) (argK m c)) e.symm)
  refine Eq.trans ?_ (rotKey_row m c t ⟨y 0, y0⟩ ⟨y 1, y1⟩)
  refine congrArg (rotKey (F := Ideal) (keyCols (X1 m c t)) (iblk m c 3 t) (iblk m c 4 t) (iblk m c 5 t)) (funext fun a => Fin.ext ?_)
  match a with
  | ⟨0, _⟩ => rfl
  | ⟨1, _⟩ => rfl

end Cert.KvIdeal.Cache

end
-- ==== Proof.KvClaims.lean ====
/- The cache rows: their frame claims and their value claim. -/
module

public import proofs.«01_k».proof.Defs
public import proofs.«01_k».proof.Proof.KvValue
public import proofs.«01_k».proof.Proof.Gen.Kv
public import proofs.«01_k».proof.Proof.Gen.KvIdeal
public import proofs.«01_k».proof.Proof.Gen.KvReferenceIdeal
public import proofs.«01_k».proof.Proof.Gen.KvIdeal.Frame
public import proofs.«01_k».proof.Proof.Gen.KvReferenceIdeal.Run
public import Idealize.ShloMosaic.Adequacy
public import Idealize.ShloMosaic.Init
public import Idealize.ShloMosaic.Lib.Quiescent

@[expose] public section

noncomputable section

namespace Cert.Proof.Kv

open Idealize.ShloMosaic Idealize.ShloMosaic.TcCoe Idealize.SL.Sem

attribute [local instance] Cert.Kv.Gen.facts Cert.KvIdeal.Gen.facts Cert.KvReferenceIdeal.Gen.facts

/-- What the frame says of the kernel's text read at the bit patterns. -/
def QuietBits : Prop :=
  ∀ (m : (ℓ : Loc Cert.KvIdeal.nD Cert.KvIdeal.τ Cert.KvIdeal.sig) → Buf (Elt Bits) ℓ) (ρ : Dev Cert.KvIdeal.nD → PrngReg), True →
    θ_run (Cert.KvIdeal.defs (F := Bits)) (onTc (τ := Cert.KvIdeal.τ) (Cert.KvIdeal.main (F := Bits))) ⟨m, fun _ => 0, ρ⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

/-- The two programs have the same text, so the two statements are the same. -/
theorem quiet_same : QuietBits = Cert.quiescent_Kv (hKv := Cert.Kv.Gen.facts) := by sl_kernel_rfl

/-- The kernel read at the bit patterns: the same run. -/
theorem frame_kernel : Cert.quiescent_Kv (hKv := Cert.Kv.Gen.facts) :=
  Eq.mp quiet_same fun m ρ _ => Cert.KvIdeal.Cache.frame (F := Bits) m ρ

/-- The kernel read at the extended reals. -/
theorem frame_ideal : Cert.quiescent_KvIdeal (hKvIdeal := Cert.KvIdeal.Gen.facts) := fun m ρ _ =>
  Cert.KvIdeal.Cache.frame (F := Ideal) m ρ

/-- The reference: its run, and it has no counters. -/
theorem frame_reference : Cert.quiescent_KvReferenceIdeal (hKvReferenceIdeal := Cert.KvReferenceIdeal.Gen.facts) := fun m ρ _ =>
  (θ_run Cert.KvReferenceIdeal.defs _ _).mono
    (fun r h => ⟨fun c => (h c).2.2, sem_eq_zero_of_no_sems rfl r.2⟩) (Cert.KvReferenceIdeal.Value.run (F := Ideal) m ρ)

/-- Every run of the kernel ends with the rows of the reference's terms. -/
theorem run_rows (m : (ℓ : Loc Cert.KvIdeal.nD Cert.KvIdeal.τ Cert.KvIdeal.sig) → Buf (Elt Ideal) ℓ) (ρ : Dev Cert.KvIdeal.nD → PrngReg) :
    θ_run (Cert.KvIdeal.defs (F := Ideal)) (onTc (τ := Cert.KvIdeal.τ) (Cert.KvIdeal.main (F := Ideal))) ⟨m, fun _ => 0, ρ⟩ (fun r => ∀ c : Dev Cert.KvIdeal.nD,
      r.2.mem ((c.tc : Thread Cert.KvIdeal.nD Cert.KvIdeal.τ).loc Cert.KvIdeal.main_v30_0) = targetLat (Cert.KvIdeal.Cache.argZ m c) (Cert.KvIdeal.Cache.argG m c)
      ∧ r.2.mem ((c.tc : Thread Cert.KvIdeal.nD Cert.KvIdeal.τ).loc Cert.KvIdeal.main_v30_1) = targetKey (Cert.KvIdeal.Cache.argZ m c) (Cert.KvIdeal.Cache.argK m c)
      ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)) := by
  refine (θ_run Cert.KvIdeal.defs _ _).mono (fun r hr c => ?_) (θ_run_and (Cert.KvIdeal.Cache.run_main (F := Ideal) m ρ) (Cert.KvIdeal.Cache.frame (F := Ideal) m ρ))
  obtain ⟨h1, h2, _⟩ := hr
  exact ⟨((h1 c).1 6).trans (Cert.KvIdeal.Cache.final_lat m c), ((h1 c).1 7).trans (Cert.KvIdeal.Cache.final_key m c), h2 c⟩

/-- The kernel's rows are the reference's, element by element. -/
theorem algebraic : Cert.algebraic_KvIdeal_KvReferenceIdeal (hKvIdeal := Cert.KvIdeal.Gen.facts)
    (hKvReferenceIdeal := Cert.KvReferenceIdeal.Gen.facts) := by
  intro m ρ m' ρ' _ hm
  refine ⟨fun c => targetLat (Cert.KvIdeal.Cache.argZ m c) (Cert.KvIdeal.Cache.argG m c), fun c => targetKey (Cert.KvIdeal.Cache.argZ m c) (Cert.KvIdeal.Cache.argK m c),
    run_rows m ρ, ?_⟩
  refine (θ_run Cert.KvReferenceIdeal.defs _ _).mono (fun r h c => ⟨?_, ?_, (h c).2.2⟩) (Cert.KvReferenceIdeal.Value.run (F := Ideal) m' ρ')
  · rw [(h c).1, (hm c).1, (hm c).2.1]
  · rw [(h c).2.1]
    unfold Cert.KvReferenceIdeal.Value.res_main_v135
    rw [(hm c).1, (hm c).2.2]

end Cert.Proof.Kv

end
-- ==== Proof.lean ====
module

public import proofs.«01_k».proof.Defs
public import proofs.«01_k».proof.Proof.Quiet
public import proofs.«01_k».proof.Proof.Algebraic
public import proofs.«01_k».proof.Proof.SwigluClaims
public import proofs.«01_k».proof.Proof.SwigluLastClaims
public import proofs.«01_k».proof.Proof.FfnClaims
public import proofs.«01_k».proof.Proof.KvClaims

@[expose] public section

noncomputable section

namespace Cert.Proof

theorem claim : Cert.Claim := ⟨Cert.Kernel.Gen.facts, Cert.KernelIdeal.Gen.facts, Cert.ReferenceIdeal.Gen.facts,
  Cert.Swiglu.Gen.facts, Cert.SwigluIdeal.Gen.facts, Cert.SwigluReferenceIdeal.Gen.facts,
  Cert.SwigluLast.Gen.facts, Cert.SwigluLastIdeal.Gen.facts, Cert.SwigluLastReferenceIdeal.Gen.facts,
  Cert.Ffn.Gen.facts, Cert.FfnIdeal.Gen.facts, Cert.FfnReferenceIdeal.Gen.facts,
  Cert.Kv.Gen.facts, Cert.KvIdeal.Gen.facts, Cert.KvReferenceIdeal.Gen.facts,
  frame_kernel, frame_ideal, frame_reference, Swi.frame_kernel, Swi.frame_ideal, Swi.frame_reference,
  SwiL.frame_kernel, SwiL.frame_ideal, SwiL.frame_reference, Ffn.frame_kernel, Ffn.frame_ideal, Ffn.frame_reference,
  Kv.frame_kernel, Kv.frame_ideal, Kv.frame_reference,
  trivial, algebraic, trivial, Swi.algebraic, trivial, SwiL.algebraic, trivial, Ffn.algebraic, trivial, Kv.algebraic⟩

end Cert.Proof

end
